-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_scores [hPre_finite_scores : Cert.Pre_finite_scores.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_named [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Nsa (m : (ℓ : Loc Cert.Nsa.nD Cert.Nsa.τ Cert.Nsa.sig) → Buf (Elt Bits) ℓ) : Prop :=
  True

def Pre_NsaIdeal (m : (ℓ : Loc Cert.NsaIdeal.nD Cert.NsaIdeal.τ Cert.NsaIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite_scores [hFoxRefIdeal : Cert.FoxRefIdeal.Facts] [hPre_finite_scores : Cert.Pre_finite_scores.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_scores m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9))
      ∧ r.2.sem = fun _ => 0)

def quiescent_ExpertsRefIdeal_pre_experts_named [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_named m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7)
      ∧ r.2.mem ((c.tc : Thread Cert.Compress.nD Cert.Compress.τ).loc Cert.Compress.main_arg8) = m ((c.tc : Thread Cert.Compress.nD Cert.Compress.τ).loc Cert.Compress.main_arg8)
      ∧ r.2.mem ((c.tc : Thread Cert.Compress.nD Cert.Compress.τ).loc Cert.Compress.main_arg9) = m ((c.tc : Thread Cert.Compress.nD Cert.Compress.τ).loc Cert.Compress.main_arg9)
      ∧ r.2.mem ((c.tc : Thread Cert.Compress.nD Cert.Compress.τ).loc Cert.Compress.main_arg10) = m ((c.tc : Thread Cert.Compress.nD Cert.Compress.τ).loc Cert.Compress.main_arg10)
      ∧ r.2.mem ((c.tc : Thread Cert.Compress.nD Cert.Compress.τ).loc Cert.Compress.main_arg11) = m ((c.tc : Thread Cert.Compress.nD Cert.Compress.τ).loc Cert.Compress.main_arg11)
      ∧ r.2.mem ((c.tc : Thread Cert.Compress.nD Cert.Compress.τ).loc Cert.Compress.main_arg12) = m ((c.tc : Thread Cert.Compress.nD Cert.Compress.τ).loc Cert.Compress.main_arg12))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
      ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8)
      ∧ r.2.mem ((c.tc : Thread Cert.CompressIdeal.nD Cert.CompressIdeal.τ).loc Cert.CompressIdeal.main_arg9) = m ((c.tc : Thread Cert.CompressIdeal.nD Cert.CompressIdeal.τ).loc Cert.CompressIdeal.main_arg9)
      ∧ r.2.mem ((c.tc : Thread Cert.CompressIdeal.nD Cert.CompressIdeal.τ).loc Cert.CompressIdeal.main_arg10) = m ((c.tc : Thread Cert.CompressIdeal.nD Cert.CompressIdeal.τ).loc Cert.CompressIdeal.main_arg10)
      ∧ r.2.mem ((c.tc : Thread Cert.CompressIdeal.nD Cert.CompressIdeal.τ).loc Cert.CompressIdeal.main_arg11) = m ((c.tc : Thread Cert.CompressIdeal.nD Cert.CompressIdeal.τ).loc Cert.CompressIdeal.main_arg11)
      ∧ r.2.mem ((c.tc : Thread Cert.CompressIdeal.nD Cert.CompressIdeal.τ).loc Cert.CompressIdeal.main_arg12) = m ((c.tc : Thread Cert.CompressIdeal.nD Cert.CompressIdeal.τ).loc Cert.CompressIdeal.main_arg12))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6)
      ∧ r.2.mem ((c.tc : Thread Cert.CompressRefIdeal.nD Cert.CompressRefIdeal.τ).loc Cert.CompressRefIdeal.main_arg7) = m ((c.tc : Thread Cert.CompressRefIdeal.nD Cert.CompressRefIdeal.τ).loc Cert.CompressRefIdeal.main_arg7)
      ∧ r.2.mem ((c.tc : Thread Cert.CompressRefIdeal.nD Cert.CompressRefIdeal.τ).loc Cert.CompressRefIdeal.main_arg8) = m ((c.tc : Thread Cert.CompressRefIdeal.nD Cert.CompressRefIdeal.τ).loc Cert.CompressRefIdeal.main_arg8)
      ∧ r.2.mem ((c.tc : Thread Cert.CompressRefIdeal.nD Cert.CompressRefIdeal.τ).loc Cert.CompressRefIdeal.main_arg9) = m ((c.tc : Thread Cert.CompressRefIdeal.nD Cert.CompressRefIdeal.τ).loc Cert.CompressRefIdeal.main_arg9)
      ∧ r.2.mem ((c.tc : Thread Cert.CompressRefIdeal.nD Cert.CompressRefIdeal.τ).loc Cert.CompressRefIdeal.main_arg10) = m ((c.tc : Thread Cert.CompressRefIdeal.nD Cert.CompressRefIdeal.τ).loc Cert.CompressRefIdeal.main_arg10)
      ∧ r.2.mem ((c.tc : Thread Cert.CompressRefIdeal.nD Cert.CompressRefIdeal.τ).loc Cert.CompressRefIdeal.main_arg11) = m ((c.tc : Thread Cert.CompressRefIdeal.nD Cert.CompressRefIdeal.τ).loc Cert.CompressRefIdeal.main_arg11)
      ∧ r.2.mem ((c.tc : Thread Cert.CompressRefIdeal.nD Cert.CompressRefIdeal.τ).loc Cert.CompressRefIdeal.main_arg12) = m ((c.tc : Thread Cert.CompressRefIdeal.nD Cert.CompressRefIdeal.τ).loc Cert.CompressRefIdeal.main_arg12))
      ∧ r.2.sem = fun _ => 0)

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3)
      ∧ r.2.mem ((c.tc : Thread Cert.Nsa.nD Cert.Nsa.τ).loc Cert.Nsa.main_arg4) = m ((c.tc : Thread Cert.Nsa.nD Cert.Nsa.τ).loc Cert.Nsa.main_arg4)
      ∧ r.2.mem ((c.tc : Thread Cert.Nsa.nD Cert.Nsa.τ).loc Cert.Nsa.main_arg5) = m ((c.tc : Thread Cert.Nsa.nD Cert.Nsa.τ).loc Cert.Nsa.main_arg5)
      ∧ r.2.mem ((c.tc : Thread Cert.Nsa.nD Cert.Nsa.τ).loc Cert.Nsa.main_arg6) = m ((c.tc : Thread Cert.Nsa.nD Cert.Nsa.τ).loc Cert.Nsa.main_arg6)
      ∧ r.2.mem ((c.tc : Thread Cert.Nsa.nD Cert.Nsa.τ).loc Cert.Nsa.main_arg7) = m ((c.tc : Thread Cert.Nsa.nD Cert.Nsa.τ).loc Cert.Nsa.main_arg7))
      ∧ r.2.sem = fun _ => 0)

def quiescent_NsaIdeal [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
      ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4)
      ∧ r.2.mem ((c.tc : Thread Cert.NsaIdeal.nD Cert.NsaIdeal.τ).loc Cert.NsaIdeal.main_arg5) = m ((c.tc : Thread Cert.NsaIdeal.nD Cert.NsaIdeal.τ).loc Cert.NsaIdeal.main_arg5)
      ∧ r.2.mem ((c.tc : Thread Cert.NsaIdeal.nD Cert.NsaIdeal.τ).loc Cert.NsaIdeal.main_arg6) = m ((c.tc : Thread Cert.NsaIdeal.nD Cert.NsaIdeal.τ).loc Cert.NsaIdeal.main_arg6)
      ∧ r.2.mem ((c.tc : Thread Cert.NsaIdeal.nD Cert.NsaIdeal.τ).loc Cert.NsaIdeal.main_arg7) = m ((c.tc : Thread Cert.NsaIdeal.nD Cert.NsaIdeal.τ).loc Cert.NsaIdeal.main_arg7))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite_scores [hFoxIdeal : Cert.FoxIdeal.Facts] [hFoxRefIdeal : Cert.FoxRefIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_scores m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v27) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)
      ∧ m' ((c.tc : Thread Cert.ExpertsRefIdeal.nD Cert.ExpertsRefIdeal.τ).loc Cert.ExpertsRefIdeal.main_arg9) = m ((c.tc : Thread Cert.ExpertsIdeal.nD Cert.ExpertsIdeal.τ).loc Cert.ExpertsIdeal.main_arg9)) →
    ∃ (v0 : (c : Dev Cert.ExpertsIdeal.nD) → Buf (Elt Ideal) ((c.tc : Thread Cert.ExpertsIdeal.nD Cert.ExpertsIdeal.τ).loc Cert.ExpertsIdeal.main_v7)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v63) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8)
          ∧ r.2.mem ((c.tc : Thread Cert.ExpertsRefIdeal.nD Cert.ExpertsRefIdeal.τ).loc Cert.ExpertsRefIdeal.main_arg9) = m' ((c.tc : Thread Cert.ExpertsRefIdeal.nD Cert.ExpertsRefIdeal.τ).loc Cert.ExpertsRefIdeal.main_arg9))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)) (v5 : (c : Dev Cert.ProjIdeal.nD) → Buf (Elt Ideal) ((c.tc : Thread Cert.ProjIdeal.nD Cert.ProjIdeal.τ).loc Cert.ProjIdeal.main_v0_5)) (v6 : (c : Dev Cert.ProjIdeal.nD) → Buf (Elt Ideal) ((c.tc : Thread Cert.ProjIdeal.nD Cert.ProjIdeal.τ).loc Cert.ProjIdeal.main_v0_6)) (v7 : (c : Dev Cert.ProjIdeal.nD) → Buf (Elt Ideal) ((c.tc : Thread Cert.ProjIdeal.nD Cert.ProjIdeal.τ).loc Cert.ProjIdeal.main_v0_7)) (v8 : (c : Dev Cert.ProjIdeal.nD) → Buf (Elt Ideal) ((c.tc : Thread Cert.ProjIdeal.nD Cert.ProjIdeal.τ).loc Cert.ProjIdeal.main_v0_8)) (v9 : (c : Dev Cert.ProjIdeal.nD) → Buf (Elt Ideal) ((c.tc : Thread Cert.ProjIdeal.nD Cert.ProjIdeal.τ).loc Cert.ProjIdeal.main_v0_9)) (v10 : (c : Dev Cert.ProjIdeal.nD) → Buf (Elt Ideal) ((c.tc : Thread Cert.ProjIdeal.nD Cert.ProjIdeal.τ).loc Cert.ProjIdeal.main_v0_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_v0_5) = v5 c
          ∧ r.2.mem ((c.tc : Thread Cert.ProjIdeal.nD Cert.ProjIdeal.τ).loc Cert.ProjIdeal.main_v0_6) = v6 c
          ∧ r.2.mem ((c.tc : Thread Cert.ProjIdeal.nD Cert.ProjIdeal.τ).loc Cert.ProjIdeal.main_v0_7) = v7 c
          ∧ r.2.mem ((c.tc : Thread Cert.ProjIdeal.nD Cert.ProjIdeal.τ).loc Cert.ProjIdeal.main_v0_8) = v8 c
          ∧ r.2.mem ((c.tc : Thread Cert.ProjIdeal.nD Cert.ProjIdeal.τ).loc Cert.ProjIdeal.main_v0_9) = v9 c
          ∧ r.2.mem ((c.tc : Thread Cert.ProjIdeal.nD Cert.ProjIdeal.τ).loc Cert.ProjIdeal.main_v0_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v253) = v0 c
          ∧ r.2.mem ((c.tc : Thread Cert.ProjRefIdeal.nD Cert.ProjRefIdeal.τ).loc Cert.ProjRefIdeal.main_v280) = v1 c
          ∧ r.2.mem ((c.tc : Thread Cert.ProjRefIdeal.nD Cert.ProjRefIdeal.τ).loc Cert.ProjRefIdeal.main_v281) = v2 c
          ∧ r.2.mem ((c.tc : Thread Cert.ProjRefIdeal.nD Cert.ProjRefIdeal.τ).loc Cert.ProjRefIdeal.main_v304) = v3 c
          ∧ r.2.mem ((c.tc : Thread Cert.ProjRefIdeal.nD Cert.ProjRefIdeal.τ).loc Cert.ProjRefIdeal.main_v305) = v4 c
          ∧ r.2.mem ((c.tc : Thread Cert.ProjRefIdeal.nD Cert.ProjRefIdeal.τ).loc Cert.ProjRefIdeal.main_v306) = v5 c
          ∧ r.2.mem ((c.tc : Thread Cert.ProjRefIdeal.nD Cert.ProjRefIdeal.τ).loc Cert.ProjRefIdeal.main_v307) = v6 c
          ∧ r.2.mem ((c.tc : Thread Cert.ProjRefIdeal.nD Cert.ProjRefIdeal.τ).loc Cert.ProjRefIdeal.main_v332) = v7 c
          ∧ r.2.mem ((c.tc : Thread Cert.ProjRefIdeal.nD Cert.ProjRefIdeal.τ).loc Cert.ProjRefIdeal.main_v355) = v8 c
          ∧ r.2.mem ((c.tc : Thread Cert.ProjRefIdeal.nD Cert.ProjRefIdeal.τ).loc Cert.ProjRefIdeal.main_v356) = v9 c
          ∧ r.2.mem ((c.tc : Thread Cert.ProjRefIdeal.nD Cert.ProjRefIdeal.τ).loc Cert.ProjRefIdeal.main_v158) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)
      ∧ m' ((c.tc : Thread Cert.CompressRefIdeal.nD Cert.CompressRefIdeal.τ).loc Cert.CompressRefIdeal.main_arg7) = m ((c.tc : Thread Cert.CompressIdeal.nD Cert.CompressIdeal.τ).loc Cert.CompressIdeal.main_arg7)
      ∧ m' ((c.tc : Thread Cert.CompressRefIdeal.nD Cert.CompressRefIdeal.τ).loc Cert.CompressRefIdeal.main_arg8) = m ((c.tc : Thread Cert.CompressIdeal.nD Cert.CompressIdeal.τ).loc Cert.CompressIdeal.main_arg8)
      ∧ m' ((c.tc : Thread Cert.CompressRefIdeal.nD Cert.CompressRefIdeal.τ).loc Cert.CompressRefIdeal.main_arg9) = m ((c.tc : Thread Cert.CompressIdeal.nD Cert.CompressIdeal.τ).loc Cert.CompressIdeal.main_arg9)
      ∧ m' ((c.tc : Thread Cert.CompressRefIdeal.nD Cert.CompressRefIdeal.τ).loc Cert.CompressRefIdeal.main_arg10) = m ((c.tc : Thread Cert.CompressIdeal.nD Cert.CompressIdeal.τ).loc Cert.CompressIdeal.main_arg10)
      ∧ m' ((c.tc : Thread Cert.CompressRefIdeal.nD Cert.CompressRefIdeal.τ).loc Cert.CompressRefIdeal.main_arg11) = m ((c.tc : Thread Cert.CompressIdeal.nD Cert.CompressIdeal.τ).loc Cert.CompressIdeal.main_arg11)
      ∧ m' ((c.tc : Thread Cert.CompressRefIdeal.nD Cert.CompressRefIdeal.τ).loc Cert.CompressRefIdeal.main_arg12) = m ((c.tc : Thread Cert.CompressIdeal.nD Cert.CompressIdeal.τ).loc Cert.CompressIdeal.main_arg12)) →
    ∃ (v0 : (c : Dev Cert.CompressIdeal.nD) → Buf (Elt Ideal) ((c.tc : Thread Cert.CompressIdeal.nD Cert.CompressIdeal.τ).loc Cert.CompressIdeal.main_v0_0)) (v1 : (c : Dev Cert.CompressIdeal.nD) → Buf (Elt Ideal) ((c.tc : Thread Cert.CompressIdeal.nD Cert.CompressIdeal.τ).loc Cert.CompressIdeal.main_v0_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v0_0) = v0 c
          ∧ r.2.mem ((c.tc : Thread Cert.CompressIdeal.nD Cert.CompressIdeal.τ).loc Cert.CompressIdeal.main_v0_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
          ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8)
          ∧ r.2.mem ((c.tc : Thread Cert.CompressIdeal.nD Cert.CompressIdeal.τ).loc Cert.CompressIdeal.main_arg9) = m ((c.tc : Thread Cert.CompressIdeal.nD Cert.CompressIdeal.τ).loc Cert.CompressIdeal.main_arg9)
          ∧ r.2.mem ((c.tc : Thread Cert.CompressIdeal.nD Cert.CompressIdeal.τ).loc Cert.CompressIdeal.main_arg10) = m ((c.tc : Thread Cert.CompressIdeal.nD Cert.CompressIdeal.τ).loc Cert.CompressIdeal.main_arg10)
          ∧ r.2.mem ((c.tc : Thread Cert.CompressIdeal.nD Cert.CompressIdeal.τ).loc Cert.CompressIdeal.main_arg11) = m ((c.tc : Thread Cert.CompressIdeal.nD Cert.CompressIdeal.τ).loc Cert.CompressIdeal.main_arg11)
          ∧ r.2.mem ((c.tc : Thread Cert.CompressIdeal.nD Cert.CompressIdeal.τ).loc Cert.CompressIdeal.main_arg12) = m ((c.tc : Thread Cert.CompressIdeal.nD Cert.CompressIdeal.τ).loc Cert.CompressIdeal.main_arg12))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v90) = v0 c
          ∧ r.2.mem ((c.tc : Thread Cert.CompressRefIdeal.nD Cert.CompressRefIdeal.τ).loc Cert.CompressRefIdeal.main_v131) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6)
          ∧ r.2.mem ((c.tc : Thread Cert.CompressRefIdeal.nD Cert.CompressRefIdeal.τ).loc Cert.CompressRefIdeal.main_arg7) = m' ((c.tc : Thread Cert.CompressRefIdeal.nD Cert.CompressRefIdeal.τ).loc Cert.CompressRefIdeal.main_arg7)
          ∧ r.2.mem ((c.tc : Thread Cert.CompressRefIdeal.nD Cert.CompressRefIdeal.τ).loc Cert.CompressRefIdeal.main_arg8) = m' ((c.tc : Thread Cert.CompressRefIdeal.nD Cert.CompressRefIdeal.τ).loc Cert.CompressRefIdeal.main_arg8)
          ∧ r.2.mem ((c.tc : Thread Cert.CompressRefIdeal.nD Cert.CompressRefIdeal.τ).loc Cert.CompressRefIdeal.main_arg9) = m' ((c.tc : Thread Cert.CompressRefIdeal.nD Cert.CompressRefIdeal.τ).loc Cert.CompressRefIdeal.main_arg9)
          ∧ r.2.mem ((c.tc : Thread Cert.CompressRefIdeal.nD Cert.CompressRefIdeal.τ).loc Cert.CompressRefIdeal.main_arg10) = m' ((c.tc : Thread Cert.CompressRefIdeal.nD Cert.CompressRefIdeal.τ).loc Cert.CompressRefIdeal.main_arg10)
          ∧ r.2.mem ((c.tc : Thread Cert.CompressRefIdeal.nD Cert.CompressRefIdeal.τ).loc Cert.CompressRefIdeal.main_arg11) = m' ((c.tc : Thread Cert.CompressRefIdeal.nD Cert.CompressRefIdeal.τ).loc Cert.CompressRefIdeal.main_arg11)
          ∧ r.2.mem ((c.tc : Thread Cert.CompressRefIdeal.nD Cert.CompressRefIdeal.τ).loc Cert.CompressRefIdeal.main_arg12) = m' ((c.tc : Thread Cert.CompressRefIdeal.nD Cert.CompressRefIdeal.τ).loc Cert.CompressRefIdeal.main_arg12))

def preserves_Nsa_NsaIdeal : Prop :=
  True

def preserves_Router_RouterIdeal : Prop :=
  True

def Claim : Prop :=
  ∃ (hFox : Cert.Fox.Facts) (hFoxIdeal : Cert.FoxIdeal.Facts) (hFoxRefIdeal : Cert.FoxRefIdeal.Facts) (hExperts : Cert.Experts.Facts) (hExpertsIdeal : Cert.ExpertsIdeal.Facts) (hExpertsRefIdeal : Cert.ExpertsRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hCompress : Cert.Compress.Facts) (hCompressIdeal : Cert.CompressIdeal.Facts) (hCompressRefIdeal : Cert.CompressRefIdeal.Facts) (hNsa : Cert.Nsa.Facts) (hNsaIdeal : Cert.NsaIdeal.Facts) (hRouter : Cert.Router.Facts) (hRouterIdeal : Cert.RouterIdeal.Facts) (hPre_finite_scores : Cert.Pre_finite_scores.Facts) (hPre_experts_named : Cert.Pre_experts_named.Facts),
    quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_FoxRefIdeal (hFoxRefIdeal := hFoxRefIdeal)
    ∧ quiescent_FoxRefIdeal_pre_finite_scores (hFoxRefIdeal := hFoxRefIdeal) (hPre_finite_scores := hPre_finite_scores)
    ∧ quiescent_Experts (hExperts := hExperts) (hPre_experts_named := hPre_experts_named)
    ∧ quiescent_ExpertsIdeal (hExpertsIdeal := hExpertsIdeal) (hPre_experts_named := hPre_experts_named)
    ∧ quiescent_ExpertsRefIdeal (hExpertsRefIdeal := hExpertsRefIdeal)
    ∧ quiescent_ExpertsRefIdeal_pre_experts_named (hExpertsRefIdeal := hExpertsRefIdeal) (hPre_experts_named := hPre_experts_named)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Compress (hCompress := hCompress)
    ∧ quiescent_CompressIdeal (hCompressIdeal := hCompressIdeal)
    ∧ quiescent_CompressRefIdeal (hCompressRefIdeal := hCompressRefIdeal)
    ∧ quiescent_Nsa (hNsa := hNsa)
    ∧ quiescent_NsaIdeal (hNsaIdeal := hNsaIdeal)
    ∧ quiescent_Router (hRouter := hRouter)
    ∧ quiescent_RouterIdeal (hRouterIdeal := hRouterIdeal)
    ∧ preserves_Fox_FoxIdeal
    ∧ algebraic_FoxIdeal_FoxRefIdeal_pre_finite_scores (hFoxIdeal := hFoxIdeal) (hFoxRefIdeal := hFoxRefIdeal) (hPre_finite_scores := hPre_finite_scores)
    ∧ preserves_Experts_ExpertsIdeal
    ∧ algebraic_ExpertsIdeal_ExpertsRefIdeal (hExpertsIdeal := hExpertsIdeal) (hExpertsRefIdeal := hExpertsRefIdeal) (hPre_experts_named := hPre_experts_named)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Compress_CompressIdeal
    ∧ algebraic_CompressIdeal_CompressRefIdeal (hCompressIdeal := hCompressIdeal) (hCompressRefIdeal := hCompressRefIdeal)
    ∧ preserves_Nsa_NsaIdeal
    ∧ preserves_Router_RouterIdeal
-- ==== Pre_experts_named.lean ====
abbrev S278528x1024 : Shape := ⟨2, ![278528, 1024]⟩
abbrev S544 : Shape := ⟨1, ![544]⟩
abbrev S1 : Shape := ⟨1, ![1]⟩
abbrev S1024 : Shape := ⟨1, ![1024]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)

variable [Facts]

def fn {F : FTy → Type} [FloatOps F] (main_arg0 : FVec F S278528x1024 .f32) (main_arg1 : IVec S544 32) (main_arg2 : IVec S1 32) (main_arg3 : FVec F S1024 .f32) (main_arg4 : FVec F S32x1024x1024 .f32) (main_arg5 : FVec F S32x1024 .f32) (main_arg6 : FVec F S32x1024x1024 .f32) (main_arg7 : FVec F S32x1024 .f32) (main_arg8 : FVec F S32x1024x1024 .f32) (main_arg9 : FVec F S32x1024 .f32) : IVec S544 1 :=
  let main_c : IVec S_ 32 := constantI S_ 32 0#32
  let main_v0 : IVec S544 32 := broadcastInDim S544 ![] bcast_S_S544 main_c
  let main_v1 : IVec S544 1 := cmpi .sge main_arg1 main_v0
  let main_c_0 : IVec S_ 32 := constantI S_ 32 32#32
  let main_v2 : IVec S544 32 := broadcastInDim S544 ![] bcast_S_S544 main_c_0
  let main_v3 : IVec S544 1 := cmpi .slt main_arg1 main_v2
  let main_v4 : IVec S544 1 := andi main_v1 main_v3
  main_v4
-- ==== Pre_finite_scores.lean ====
abbrev S32x2048x1024 : Shape := ⟨3, ![32, 2048, 1024]⟩
abbrev S_ : Shape := ⟨0, ![]⟩

class Facts : Prop where
  bcast_S_S32x2048x1024 : S_.BroadcastsInDim S32x2048x1024 (![] : Fin 0 → Fin S32x2048x1024.rank)

variable [Facts]

def fn {F : FTy → Type} [FloatOps F] (main_arg0 : FVec F S32x2048x1024 .bf16) (main_arg1 : FVec F S32x2048x1024 .bf16) (main_arg2 : FVec F S32x2048x1024 .bf16) : IVec S32x2048x1024 1 :=
  let main_v0 : FVec F S32x2048x1024 .bf16 := Host.absf main_arg0
  let main_cst : FVec F S_ .bf16 := constant S_ .bf16 0x7F80#16
  let main_v1 : FVec F S32x2048x1024 .bf16 := broadcastInDim S32x2048x1024 ![] bcast_S_S32x2048x1024 main_cst
  let main_v2 : IVec S32x2048x1024 1 := cmpf .olt main_v0 main_v1
  let main_v3 : FVec F S32x2048x1024 .bf16 := Host.absf main_arg1
  let main_cst_0 : FVec F S_ .bf16 := constant S_ .bf16 0x7F80#16
  let main_v4 : FVec F S32x2048x1024 .bf16 := broadcastInDim S32x2048x1024 ![] bcast_S_S32x2048x1024 main_cst_0
  let main_v5 : IVec S32x2048x1024 1 := cmpf .olt main_v3 main_v4
  let main_v6 : IVec S32x2048x1024 1 := andi main_v2 main_v5
  main_v6
-- ==== Fox.lean ====
abbrev S32x2048x1024 : Shape := ⟨3, ![32, 2048, 1024]⟩
abbrev S1x256x128 : Shape := ⟨3, ![1, 256, 128]⟩
abbrev S1x2048x128 : Shape := ⟨3, ![1, 2048, 128]⟩
abbrev S256x128 : Shape := ⟨2, ![256, 128]⟩
abbrev S256x1 : Shape := ⟨2, ![256, 1]⟩
abbrev S1x256 : Shape := ⟨2, ![1, 256]⟩
abbrev S256x256 : Shape := ⟨2, ![256, 256]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x1024, .bf16⟩
  | .hbm, ⟨3, _⟩ => ⟨S32x2048x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 8, 8], ![false, false, false]⟩

@[reducible] def k0_t1_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  ⟨c0_i32, v11, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c256_i32_18 : BitVec 32 := 256#32
  let v51 : BitVec 32 := Scalar.muli arg7 c256_i32_18
  v51
def k0_off1 (i : grid0.Coords) (k0_t1 : Fin (k0_t1_loop i).trips) : Fin 3 → Nat :=
  let c0_19 : Index := 0#32
  let c0_i32 : BitVec 32 := 0#32
  let c1_i32_4 : BitVec 32 := 1#32
  let arg7 : BitVec 32 := Scf.iv c0_i32 c1_i32_4 k0_t1
  let c256_i32_18 : BitVec 32 := 256#32
  let v51 : BitVec 32 := Scalar.muli arg7 c256_i32_18
  let v52 : BitVec 32 := v51
  let v53 : Index := Scalar.indexCast v52
  let c0_20 : Index := 0#32
  ![0, v53.toNat, 0]
@[reducible] def k0_t2_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_5 : BitVec 32 := 1#32
  ⟨v11, v8, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c256_i32_18 : BitVec 32 := 256#32
  let v51 : BitVec 32 := Scalar.muli arg7 c256_i32_18
  v51
def k0_off2 (i : grid0.Coords) (k0_t2 : Fin (k0_t2_loop i).trips) : Fin 3 → Nat :=
  let c0_19 : Index := 0#32
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c256_i32_18 : BitVec 32 := 256#32
  let v51 : BitVec 32 := Scalar.muli arg7 c256_i32_18
  let v52 : BitVec 32 := v51
  let v53 : Index := Scalar.indexCast v52
  let c0_20 : Index := 0#32
  ![0, v53.toNat, 0]
def k0_mult3 (i : grid0.Coords) : BitVec 32 :=
  let arg2 : BitVec 32 := BitVec.ofNat 32 (i 2).val
  let c256_i32 : BitVec 32 := 256#32
  let v14 : BitVec 32 := Scalar.muli arg2 c256_i32
  v14
def k0_off3 (i : grid0.Coords) : Fin 3 → Nat :=
  let c0_6 : Index := 0#32
  let arg2 : BitVec 32 := BitVec.ofNat 32 (i 2).val
  let c256_i32 : BitVec 32 := 256#32
  let v14 : BitVec 32 := Scalar.muli arg2 c256_i32
  let v15 : BitVec 32 := v14
  let v16 : Index := Scalar.indexCast v15
  let c0_7 : Index := 0#32
  ![0, v16.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S32x2048x1024 : Shape := ⟨3, ![32, 2048, 1024]⟩
abbrev S32x2048x8x128 : Shape := ⟨4, ![32, 2048, 8, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048x2048 : Shape := ⟨4, ![32, 8, 2048, 2048]⟩
abbrev S_ : Shape := ⟨0, ![]⟩
abbrev S32x8x2048 : Shape := ⟨3, ![32, 8, 2048]⟩
abbrev S32x8x2048x1 : Shape := ⟨4, ![32, 8, 2048, 1]⟩
abbrev S32x8x128x2048 : Shape := ⟨4, ![32, 8, 128, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x1024, .bf16⟩
  | .hbm, ⟨3, _⟩ => ⟨S32x2048x8x128, .bf16⟩
  | .hbm, ⟨4, _⟩ => ⟨S32x2048x8x128, .bf16⟩
  | .hbm, ⟨5, _⟩ => ⟨S32x2048x8x128, .bf16⟩
  | .hbm, ⟨6, _⟩ => ⟨S2048, .i32⟩
  | .hbm, ⟨7, _⟩ => ⟨S1x2048, .i32⟩
  | .hbm, ⟨8, _⟩ => ⟨S2048x1, .i32⟩
  | .hbm, ⟨9, _⟩ => ⟨S2048x2048, .i32⟩
  | .hbm, ⟨10, _⟩ => ⟨S2048x2048, .i32⟩
  | .hbm, ⟨11, _⟩ => ⟨S2048x2048, .i1⟩
  | .hbm, ⟨12, _⟩ => ⟨S32x8x2048x2048, .f32⟩
  | .hbm, ⟨13, _⟩ => ⟨S_, .f32⟩
  | .hbm, ⟨14, _⟩ => ⟨S_, .f32⟩
  | .hbm, ⟨15, _⟩ => ⟨S32x8x2048x2048, .i1⟩
  | .hbm, ⟨16, _⟩ => ⟨S32x8x2048x2048, .f32⟩
  | .hbm, ⟨17, _⟩ => ⟨S32x8x2048x2048, .f32⟩
  | .hbm, ⟨18, _⟩ => ⟨S_, .f32⟩
  | .hbm, ⟨19, _⟩ => ⟨S32x8x2048, .f32⟩
  | .hbm, ⟨20, _⟩ => ⟨S_, .f32⟩
  | .hbm, ⟨21, _⟩ => ⟨S32x8x2048, .f32⟩
  | .hbm, ⟨22, _⟩ => ⟨S32x8x2048, .f32⟩
  | .hbm, ⟨23, _⟩ => ⟨S32x8x2048x1, .f32⟩
  | .hbm, ⟨24, _⟩ => ⟨S32x8x2048x2048, .f32⟩
  | .hbm, ⟨25, _⟩ => ⟨S32x8x2048x2048, .f32⟩
  | .hbm, ⟨26, _⟩ => ⟨S32x8x2048x2048, .f32⟩
  | .hbm, ⟨27, _⟩ => ⟨S_, .f32⟩
  | .hbm, ⟨28, _⟩ => ⟨S32x8x2048, .f32⟩
  | .hbm, ⟨29, _⟩ => ⟨S32x8x2048x1, .f32⟩
  | .hbm, ⟨30, _⟩ => ⟨S32x8x2048x2048, .f32⟩
  | .hbm, ⟨31, _⟩ => ⟨S32x8x2048x2048, .f32⟩
  | .hbm, ⟨32, _⟩ => ⟨S_, .f32⟩
  | .hbm, ⟨33, _⟩ => ⟨S_, .f32⟩
  | .hbm, ⟨34, _⟩ => ⟨S32x8x2048x2048, .i1⟩
  | .hbm, ⟨35, _⟩ => ⟨S32x8x2048x2048, .f32⟩
  | .hbm, ⟨36, _⟩ => ⟨S32x8x2048x2048, .f32⟩
  | .hbm, ⟨37, _⟩ => ⟨S32x8x2048x2048, .bf16⟩
  | .hbm, ⟨38, _⟩ => ⟨S32x8x128x2048, .f32⟩
  | .hbm, ⟨39, _⟩ => ⟨S32x2048x8x128, .f32⟩
  | .hbm, ⟨40, _⟩ => ⟨S32x2048x8x128, .bf16⟩
  | .hbm, ⟨41, _⟩ => ⟨S32x2048x1024, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Experts.lean ====
abbrev S278528x1024 : Shape := ⟨2, ![278528, 1024]⟩
abbrev S544 : Shape := ⟨1, ![544]⟩
abbrev S1 : Shape := ⟨1, ![1]⟩
abbrev S1024 : Shape := ⟨1, ![1024]⟩
abbrev S32x1024x1024 : Shape := ⟨3, ![32, 1024, 1024]⟩
abbrev S32x1024 : Shape := ⟨2, ![32, 1024]⟩
abbrev S1x1024 : Shape := ⟨2, ![1, 1024]⟩
abbrev S32x1x1024 : Shape := ⟨3, ![32, 1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 16
  | .vmem => 17
  | .smem => 2
  | _ => 0

abbrev bufTy : (tb : Table) → Fin (tcTables nBuf tb) → BufTy
  | .hbm, ⟨0, _⟩ => ⟨S278528x1024, .f32⟩
  | .hbm, ⟨1, _⟩ => ⟨S1024, .f32⟩
  | .hbm, ⟨2, _⟩ => ⟨S32x1024x1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S1x1024, .f32⟩
  | .hbm, ⟨9, _⟩ => ⟨S32x1024x1024, .bf16⟩
  | .hbm, ⟨10, _⟩ => ⟨S32x1x1024, .f32⟩
  | .hbm, ⟨11, _⟩ => ⟨S32x1024x1024, .bf16⟩
  | .hbm, ⟨12, _⟩ => ⟨S32x1x1024, .f32⟩
  | .hbm, ⟨13, _⟩ => ⟨S32x1024x1024, .bf16⟩
  | .hbm, ⟨14, _⟩ => ⟨S32x1x1024, .f32⟩
  | .hbm, ⟨15, _⟩ => ⟨S278528x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1x1024, .f32⟩
  | .local _ .vmem, ⟨14, _⟩ => ⟨S1x1x1024, .f32⟩
  | .local _ .vmem, ⟨15, _⟩ => ⟨S512x1024, .f32⟩
  | .local _ .vmem, ⟨16, _⟩ => ⟨S512x1024, .f32⟩
  | .local _ .smem, ⟨0, _⟩ => ⟨S544, .i32⟩
  | .local _ .smem, ⟨1, _⟩ => ⟨S1, .i32⟩
  | _, _ => ⟨S278528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ExpertsRefIdeal.lean ====
abbrev S278528x1024 : Shape := ⟨2, ![278528, 1024]⟩
abbrev S544 : Shape := ⟨1, ![544]⟩
abbrev S1 : Shape := ⟨1, ![1]⟩
abbrev S1024 : Shape := ⟨1, ![1024]⟩
abbrev S32x1024x1024 : Shape := ⟨3, ![32, 1024, 1024]⟩
abbrev S32x1024 : Shape := ⟨2, ![32, 1024]⟩
abbrev S_ : Shape := ⟨0, ![]⟩
abbrev S278528 : Shape := ⟨1, ![278528]⟩
abbrev S278528x1 : Shape := ⟨2, ![278528, 1]⟩
abbrev S1x1024 : Shape := ⟨2, ![1, 1024]⟩
abbrev S544x1 : Shape := ⟨2, ![544, 1]⟩
abbrev S32 : Shape := ⟨1, ![32]⟩
abbrev S1x32 : Shape := ⟨2, ![1, 32]⟩
abbrev S544x32 : Shape := ⟨2, ![544, 32]⟩
abbrev S544x1x32 : Shape := ⟨3, ![544, 1, 32]⟩
abbrev S544x512x32 : Shape := ⟨3, ![544, 512, 32]⟩
abbrev S278528x32 : Shape := ⟨2, ![278528, 32]⟩
abbrev S32x1024x278528 : Shape := ⟨3, ![32, 1024, 278528]⟩
abbrev S32x278528x1024 : Shape := ⟨3, ![32, 278528, 1024]⟩
abbrev S32x1x1024 : Shape := ⟨3, ![32, 1, 1024]⟩
abbrev S32x278528 : Shape := ⟨2, ![32, 278528]⟩
abbrev S32x278528x1 : Shape := ⟨3, ![32, 278528, 1]⟩

abbrev nBuf : Space → Nat
  | .hbm => 90
  | .vmem => 0
  | .smem => 0
  | _ => 0

abbrev bufTy : (tb : Table) → Fin (tcTables nBuf tb) → BufTy
  | .hbm, ⟨0, _⟩ => ⟨S278528x1024, .f32⟩
  | .hbm, ⟨1, _⟩ => ⟨S544, .i32⟩
  | .hbm, ⟨2, _⟩ => ⟨S1, .i32⟩
  | .hbm, ⟨3, _⟩ => ⟨S1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S32x1024x1024, .f32⟩
  | .hbm, ⟨9, _⟩ => ⟨S32x1024, .f32⟩
  | .hbm, ⟨10, _⟩ => ⟨S278528x1024, .f32⟩
  | .hbm, ⟨11, _⟩ => ⟨S_, .f32⟩
  | .hbm, ⟨12, _⟩ => ⟨S278528, .f32⟩
  | .hbm, ⟨13, _⟩ => ⟨S278528x1, .f32⟩
  | .hbm, ⟨14, _⟩ => ⟨S_, .f32⟩
  | .hbm, ⟨15, _⟩ => ⟨S278528x1, .f32⟩
  | .hbm, ⟨16, _⟩ => ⟨S278528x1, .f32⟩
  | .hbm, ⟨17, _⟩ => ⟨S_, .f32⟩
  | .hbm, ⟨18, _⟩ => ⟨S278528x1, .f32⟩
  | .hbm, ⟨19, _⟩ => ⟨S278528x1, .f32⟩
  | .hbm, ⟨20, _⟩ => ⟨S278528x1, .f32⟩
  | .hbm, ⟨21, _⟩ => ⟨S278528x1024, .f32⟩
  | .hbm, ⟨22, _⟩ => ⟨S278528x1024, .f32⟩
  | .hbm, ⟨23, _⟩ => ⟨S1x1024, .f32⟩
  | .hbm, ⟨24, _⟩ => ⟨S278528x1024, .f32⟩
  | .hbm, ⟨25, _⟩ => ⟨S278528x1024, .f32⟩
  | .hbm, ⟨26, _⟩ => ⟨S544, .i32⟩
  | .hbm, ⟨27, _⟩ => ⟨S544x1, .i32⟩
  | .hbm, ⟨28, _⟩ => ⟨S32, .i32⟩
  | .hbm, ⟨29, _⟩ => ⟨S1x32, .i32⟩
  | .hbm, ⟨30, _⟩ => ⟨S544x32, .i32⟩
  | .hbm, ⟨31, _⟩ => ⟨S544x32, .i32⟩
  | .hbm, ⟨32, _⟩ => ⟨S544x32, .i1⟩
  | .hbm, ⟨33, _⟩ => ⟨S_, .i32⟩
  | .hbm, ⟨34, _⟩ => ⟨S544, .i32⟩
  | .hbm, ⟨35, _⟩ => ⟨S544, .i1⟩
  | .hbm, ⟨36, _⟩ => ⟨S544x1, .i1⟩
  | .hbm, ⟨37, _⟩ => ⟨S544x32, .i1⟩
  | .hbm, ⟨38, _⟩ => ⟨S544x32, .i1⟩
  | .hbm, ⟨39, _⟩ => ⟨S544x1x32, .i1⟩
  | .hbm, ⟨40, _⟩ => ⟨S544x512x32, .i1⟩
  | .hbm, ⟨41, _⟩ => ⟨S278528x32, .i1⟩
  | .hbm, ⟨42, _⟩ => ⟨S278528x32, .f32⟩
  | .hbm, ⟨43, _⟩ => ⟨S32x1024x278528, .f32⟩
  | .hbm, ⟨44, _⟩ => ⟨S32x278528x1024, .f32⟩
  | .hbm, ⟨45, _⟩ => ⟨S32x1x1024, .f32⟩
  | .hbm, ⟨46, _⟩ => ⟨S32x278528x1024, .f32⟩
  | .hbm, ⟨47, _⟩ => ⟨S32x278528x1024, .f32⟩
  | .hbm, ⟨48, _⟩ => ⟨S_, .f32⟩
  | .hbm, ⟨49, _⟩ => ⟨S32x278528x1024, .f32⟩
  | .hbm, ⟨50, _⟩ => ⟨S32x278528x1024, .f32⟩
  | .hbm, ⟨51, _⟩ => ⟨S32x1024x278528, .f32⟩
  | .hbm, ⟨52, _⟩ => ⟨S32x278528x1024, .f32⟩
  | .hbm, ⟨53, _⟩ => ⟨S32x1x1024, .f32⟩
  | .hbm, ⟨54, _⟩ => ⟨S32x278528x1024, .f32⟩
  | .hbm, ⟨55, _⟩ => ⟨S32x278528x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S32x278528x1024, .f32⟩
  | .hbm, ⟨60, _⟩ => ⟨S32x278528x1024, .f32⟩
  | .hbm, ⟨61, _⟩ => ⟨S_, .f32⟩
  | .hbm, ⟨62, _⟩ => ⟨S32x278528x1024, .f32⟩
  | .hbm, ⟨63, _⟩ => ⟨S32x278528x1024, .f32⟩
  | .hbm, ⟨64, _⟩ => ⟨S_, .f32⟩
  | .hbm, ⟨65, _⟩ => ⟨S32x278528x1024, .f32⟩
  | .hbm, ⟨66, _⟩ => ⟨S32x278528x1024, .f32⟩
  | .hbm, ⟨67, _⟩ => ⟨S32x278528x1024, .f32⟩
  | .hbm, ⟨68, _⟩ => ⟨S_, .f32⟩
  | .hbm, ⟨69, _⟩ => ⟨S32x278528x1024, .f32⟩
  | .hbm, ⟨70, _⟩ => ⟨S32x278528x1024, .f32⟩
  | .hbm, ⟨71, _⟩ => ⟨S32x278528x1024, .f32⟩
  | .hbm, ⟨72, _⟩ => ⟨S32x278528x1024, .f32⟩
  | .hbm, ⟨73, _⟩ => ⟨S_, .f32⟩
  | .hbm, ⟨74, _⟩ => ⟨S32x278528x1024, .f32⟩
  | .hbm, ⟨75, _⟩ => ⟨S32x278528x1024, .f32⟩
  | .hbm, ⟨76, _⟩ => ⟨S_, .f32⟩
  | .hbm, ⟨77, _⟩ => ⟨S32x278528x1024, .f32⟩
  | .hbm, ⟨78, _⟩ => ⟨S32x278528x1024, .f32⟩
  | .hbm, ⟨79, _⟩ => ⟨S32x278528x1024, .f32⟩
  | .hbm, ⟨80, _⟩ => ⟨S32x278528x1024, .f32⟩
  | .hbm, ⟨81, _⟩ => ⟨S32x1x1024, .f32⟩
  | .hbm, ⟨82, _⟩ => ⟨S32x278528x1024, .f32⟩
  | .hbm, ⟨83, _⟩ => ⟨S32x278528x1024, .f32⟩
  | .hbm, ⟨84, _⟩ => ⟨S32x278528, .f32⟩
  | .hbm, ⟨85, _⟩ => ⟨S32x278528x1, .f32⟩
  | .hbm, ⟨86, _⟩ => ⟨S32x278528x1024, .f32⟩
  | .hbm, ⟨87, _⟩ => ⟨S32x278528x1024, .f32⟩
  | .hbm, ⟨88, _⟩ => ⟨S_, .f32⟩
  | .hbm, ⟨89, _⟩ => ⟨S278528x1024, .f32⟩
  | _, _ => ⟨S278528x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_cst_4 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Merge.lean ====
abbrev S65536x1024 : Shape := ⟨2, ![65536, 1024]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S1024x1024 : Shape := ⟨2, ![1024, 1024]⟩
abbrev S1x1024 : Shape := ⟨2, ![1, 1024]⟩
abbrev S1x2048 : Shape := ⟨2, ![1, 2048]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 30
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x1024, .bf16⟩
  | .hbm, ⟨3, _⟩ => ⟨S65536x1024, .bf16⟩
  | .hbm, ⟨4, _⟩ => ⟨S1024x2048, .f32⟩
  | .hbm, ⟨5, _⟩ => ⟨S2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1024x2048, .bf16⟩
  | .hbm, ⟨11, _⟩ => ⟨S1x2048, .f32⟩
  | .hbm, ⟨12, _⟩ => ⟨S1024x512, .f32⟩
  | .hbm, ⟨13, _⟩ => ⟨S1024x8x64, .f32⟩
  | .hbm, ⟨14, _⟩ => ⟨S_, .i32⟩
  | .hbm, ⟨15, _⟩ => ⟨S_, .f32⟩
  | .hbm, ⟨16, _⟩ => ⟨S1024x8x128, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1024x512, .f32⟩
  | .hbm, ⟨21, _⟩ => ⟨S1024x8x64, .f32⟩
  | .hbm, ⟨22, _⟩ => ⟨S_, .i32⟩
  | .hbm, ⟨23, _⟩ => ⟨S_, .f32⟩
  | .hbm, ⟨24, _⟩ => ⟨S1024x8x128, .f32⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S1024x1024, .bf16⟩
  | .hbm, ⟨29, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S1024x2048, .bf16⟩
  | .local _ .vmem, ⟨8, _⟩ => ⟨S1x2048, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S65536x1024 : Shape := ⟨2, ![65536, 1024]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2048 : Shape := ⟨2, ![65536, 2048]⟩
abbrev S1x2048 : Shape := ⟨2, ![1, 2048]⟩
abbrev S65536x8x128 : Shape := ⟨3, ![65536, 8, 128]⟩
abbrev S65536x8x64 : Shape := ⟨3, ![65536, 8, 64]⟩
abbrev S65536x512 : Shape := ⟨2, ![65536, 512]⟩

abbrev nBuf : Space → Nat
  | .hbm => 54
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x1024, .bf16⟩
  | .hbm, ⟨3, _⟩ => ⟨S65536x1024, .bf16⟩
  | .hbm, ⟨4, _⟩ => ⟨S1024x2048, .f32⟩
  | .hbm, ⟨5, _⟩ => ⟨S2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x2048, .f32⟩
  | .hbm, ⟨26, _⟩ => ⟨S1x2048, .f32⟩
  | .hbm, ⟨27, _⟩ => ⟨S65536x2048, .f32⟩
  | .hbm, ⟨28, _⟩ => ⟨S65536x2048, .f32⟩
  | .hbm, ⟨29, _⟩ => ⟨S65536x2048, .f32⟩
  | .hbm, ⟨30, _⟩ => ⟨S65536x2048, .f32⟩
  | .hbm, ⟨31, _⟩ => ⟨S_, .f32⟩
  | .hbm, ⟨32, _⟩ => ⟨S65536x2048, .f32⟩
  | .hbm, ⟨33, _⟩ => ⟨S65536x2048, .f32⟩
  | .hbm, ⟨34, _⟩ => ⟨S_, .f32⟩
  | .hbm, ⟨35, _⟩ => ⟨S65536x2048, .f32⟩
  | .hbm, ⟨36, _⟩ => ⟨S65536x2048, .f32⟩
  | .hbm, ⟨37, _⟩ => ⟨S65536x8x128, .bf16⟩
  | .hbm, ⟨38, _⟩ => ⟨S65536x8x64, .bf16⟩
  | .hbm, ⟨39, _⟩ => ⟨S65536x512, .bf16⟩
  | .hbm, ⟨40, _⟩ => ⟨S65536x512, .f32⟩
  | .hbm, ⟨41, _⟩ => ⟨S65536x8x128, .bf16⟩
  | .hbm, ⟨42, _⟩ => ⟨S65536x8x64, .bf16⟩
  | .hbm, ⟨43, _⟩ => ⟨S65536x512, .bf16⟩
  | .hbm, ⟨44, _⟩ => ⟨S65536x512, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proj.lean ====
abbrev S32x2048x1024 : Shape := ⟨3, ![32, 2048, 1024]⟩
abbrev S1x1024 : Shape := ⟨2, ![1, 1024]⟩
abbrev S1024x5504 : Shape := ⟨2, ![1024, 5504]⟩
abbrev S8x128 : Shape := ⟨2, ![8, 128]⟩
abbrev S1x128 : Shape := ⟨2, ![1, 128]⟩
abbrev S128x1024 : Shape := ⟨2, ![128, 1024]⟩
abbrev S32x2048x256 : Shape := ⟨3, ![32, 2048, 256]⟩
abbrev S32x2048x128 : Shape := ⟨3, ![32, 2048, 128]⟩
abbrev S1x256x1024 : Shape := ⟨3, ![1, 256, 1024]⟩
abbrev S1x256x256 : Shape := ⟨3, ![1, 256, 256]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x1024 : Shape := ⟨2, ![1024, 1024]⟩
abbrev S1024x256 : Shape := ⟨2, ![1024, 256]⟩
abbrev S256x256 : Shape := ⟨2, ![256, 256]⟩
abbrev S1024x128 : Shape := ⟨2, ![1024, 128]⟩

abbrev nBuf : Space → Nat
  | .hbm => 18
  | .vmem => 31
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1024x5504, .bf16⟩
  | .hbm, ⟨3, _⟩ => ⟨S8x128, .f32⟩
  | .hbm, ⟨4, _⟩ => ⟨S1x128, .f32⟩
  | .hbm, ⟨5, _⟩ => ⟨S128x1024, .bf16⟩
  | .hbm, ⟨6, _⟩ => ⟨S128x1024, .bf16⟩
  | .hbm, ⟨7, _⟩ => ⟨S32x2048x1024, .bf16⟩
  | .hbm, ⟨8, _⟩ => ⟨S32x2048x256, .bf16⟩
  | .hbm, ⟨9, _⟩ => ⟨S32x2048x256, .bf16⟩
  | .hbm, ⟨10, _⟩ => ⟨S32x2048x256, .bf16⟩
  | .hbm, ⟨11, _⟩ => ⟨S32x2048x256, .bf16⟩
  | .hbm, ⟨12, _⟩ => ⟨S32x2048x128, .bf16⟩
  | .hbm, ⟨13, _⟩ => ⟨S32x2048x128, .bf16⟩
  | .hbm, ⟨14, _⟩ => ⟨S32x2048x1024, .bf16⟩
  | .hbm, ⟨15, _⟩ => ⟨S32x2048x1024, .bf16⟩
  | .hbm, ⟨16, _⟩ => ⟨S32x2048x1024, .bf16⟩
  | .hbm, ⟨17, _⟩ => ⟨S32x2048x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x5504, .bf16⟩
  | .local _ .vmem, ⟨4, _⟩ => ⟨S8x128, .f32⟩
  | .local _ .vmem, ⟨5, _⟩ => ⟨S1x128, .f32⟩
  | .local _ .vmem, ⟨6, _⟩ => ⟨S128x1024, .bf16⟩
  | .local _ .vmem, ⟨7, _⟩ => ⟨S128x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x128, .bf16⟩
  | .local _ .vmem, ⟨19, _⟩ => ⟨S1x256x128, .bf16⟩
  | .local _ .vmem, ⟨20, _⟩ => ⟨S1x256x128, .bf16⟩
  | .local _ .vmem, ⟨21, _⟩ => ⟨S1x256x128, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x128, .f32⟩
  | .local _ .vmem, ⟨29, _⟩ => ⟨S1x256x128, .f32⟩
  | .local _ .vmem, ⟨30, _⟩ => ⟨S1x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_v0_9 : Ref sig .tc := ⟨.hbm, 16, rfl⟩
abbrev main_v0_10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5504 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjRefIdeal.lean ====
abbrev S32x2048x1024 : Shape := ⟨3, ![32, 2048, 1024]⟩
abbrev S1x1024 : Shape := ⟨2, ![1, 1024]⟩
abbrev S1024x5504 : Shape := ⟨2, ![1024, 5504]⟩
abbrev S8x128 : Shape := ⟨2, ![8, 128]⟩
abbrev S1x128 : Shape := ⟨2, ![1, 128]⟩
abbrev S128x1024 : Shape := ⟨2, ![128, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5504 : Shape := ⟨3, ![32, 2048, 5504]⟩
abbrev S2048x1 : Shape := ⟨2, ![2048, 1]⟩
abbrev S8x1 : Shape := ⟨2, ![8, 1]⟩
abbrev S2048x128 : Shape := ⟨2, ![2048, 128]⟩
abbrev S1x8x1 : Shape := ⟨3, ![1, 8, 1]⟩
abbrev S1x1x128 : Shape := ⟨3, ![1, 1, 128]⟩
abbrev S2048x1x1 : Shape := ⟨3, ![2048, 1, 1]⟩
abbrev S2048x8x1 : Shape := ⟨3, ![2048, 8, 1]⟩
abbrev S1x8x128 : Shape := ⟨3, ![1, 8, 128]⟩
abbrev S2048x8x128 : Shape := ⟨3, ![2048, 8, 128]⟩
abbrev S32x2048x128 : Shape := ⟨3, ![32, 2048, 128]⟩
abbrev S2048x2048 : Shape := ⟨2, ![2048, 2048]⟩
abbrev S32x128x2048 : Shape := ⟨3, ![32, 128, 2048]⟩
abbrev S32x2048x8x128 : Shape := ⟨4, ![32, 2048, 8, 128]⟩
abbrev S128 : Shape := ⟨1, ![128]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩
abbrev S1x2048x8x128 : Shape := ⟨4, ![1, 2048, 8, 128]⟩
abbrev S32x2048x256 : Shape := ⟨3, ![32, 2048, 256]⟩
abbrev S32x2048x2x128 : Shape := ⟨4, ![32, 2048, 2, 128]⟩
abbrev S32x2048x2 : Shape := ⟨3, ![32, 2048, 2]⟩
abbrev S32x2048x2x1 : Shape := ⟨4, ![32, 2048, 2, 1]⟩
abbrev S2048x1x128 : Shape := ⟨3, ![2048, 1, 128]⟩
abbrev S1x2048x1x128 : Shape := ⟨4, ![1, 2048, 1, 128]⟩

abbrev nBuf : Space → Nat
  | .hbm => 453
  | .vmem => 0
  | .smem => 0
  | _ => 0

abbrev hbmTy0_0 (i : Nat) : BufTy := match i % 128 with
  | 0 => ⟨S32x2048x1024, .f32⟩
  | 1 => ⟨S1x1024, .f32⟩
  | 2 => ⟨S1024x5504, .bf16⟩
  | 3 => ⟨S8x128, .f32⟩
  | 4 => ⟨S1x128, .f32⟩
  | 5 => ⟨S128x1024, .bf16⟩
  | 6 => ⟨S128x1024, .bf16⟩
  | 7 => ⟨S32x2048x1024, .f32⟩
  | 8 => ⟨S_, .f32⟩
  | 9 => ⟨S32x2048, .f32⟩
  | 10 => ⟨S32x2048x1, .f32⟩
  | 11 => ⟨S_, .f32⟩
  | 12 => ⟨S32x2048x1, .f32⟩
  | 13 => ⟨S32x2048x1, .f32⟩
  | 14 => ⟨S_, .f32⟩
  | 15 => ⟨S32x2048x1, .f32⟩
  | 16 => ⟨S32x2048x1, .f32⟩
  | 17 => ⟨S32x2048x1, .f32⟩
  | 18 => ⟨S32x2048x1024, .f32⟩
  | 19 => ⟨S32x2048x1024, .f32⟩
  | 20 => ⟨S1x1x1024, .f32⟩
  | 21 => ⟨S32x2048x1024, .f32⟩
  | 22 => ⟨S32x2048x1024, .f32⟩
  | 23 => ⟨S1024x5504, .f32⟩
  | 24 => ⟨S32x2048x5504, .f32⟩
  | 25 => ⟨S2048x1, .i32⟩
  | 26 => ⟨S1x128, .i32⟩
  | 27 => ⟨S8x1, .i32⟩
  | 28 => ⟨S_, .i32⟩
  | 29 => ⟨S2048x1, .i32⟩
  | 30 => ⟨S2048x1, .i32⟩
  | 31 => ⟨S_, .i32⟩
  | 32 => ⟨S2048x1, .i32⟩
  | 33 => ⟨S2048x1, .i32⟩
  | 34 => ⟨S2048x1, .f32⟩
  | 35 => ⟨S_, .i32⟩
  | 36 => ⟨S2048x1, .i32⟩
  | 37 => ⟨S2048x1, .i32⟩
  | 38 => ⟨S2048x1, .f32⟩
  | 39 => ⟨S_, .i32⟩
  | 40 => ⟨S1x128, .i32⟩
  | 41 => ⟨S1x128, .i1⟩
  | 42 => ⟨S_, .i32⟩
  | 43 => ⟨S1x128, .i32⟩
  | 44 => ⟨S1x128, .i1⟩
  | 45 => ⟨S2048x128, .i1⟩
  | 46 => ⟨S2048x128, .f32⟩
  | 47 => ⟨S2048x128, .f32⟩
  | 48 => ⟨S2048x128, .f32⟩
  | 49 => ⟨S2048x128, .i1⟩
  | 50 => ⟨S_, .f32⟩
  | 51 => ⟨S2048x128, .f32⟩
  | 52 => ⟨S2048x128, .f32⟩
  | 53 => ⟨S_, .i32⟩
  | 54 => ⟨S1x128, .i32⟩
  | 55 => ⟨S1x128, .i1⟩
  | 56 => ⟨S_, .i32⟩
  | 57 => ⟨S1x128, .i32⟩
  | 58 => ⟨S1x128, .i1⟩
  | 59 => ⟨S1x128, .i1⟩
  | 60 => ⟨S2048x128, .i1⟩
  | 61 => ⟨S_, .f32⟩
  | 62 => ⟨S2048x128, .f32⟩
  | 63 => ⟨S2048x128, .f32⟩
  | 64 => ⟨S_, .i32⟩
  | 65 => ⟨S1x128, .i32⟩
  | 66 => ⟨S1x128, .i32⟩
  | 67 => ⟨S_, .i32⟩
  | 68 => ⟨S2048x1, .i32⟩
  | 69 => ⟨S2048x1, .i32⟩
  | 70 => ⟨S2048x128, .i32⟩
  | 71 => ⟨S2048x128, .i32⟩
  | 72 => ⟨S2048x128, .i1⟩
  | 73 => ⟨S_, .f32⟩
  | 74 => ⟨S2048x128, .f32⟩
  | 75 => ⟨S_, .f32⟩
  | 76 => ⟨S2048x128, .f32⟩
  | 77 => ⟨S2048x128, .f32⟩
  | 78 => ⟨S_, .i32⟩
  | 79 => ⟨S8x1, .i32⟩
  | 80 => ⟨S8x1, .i1⟩
  | 81 => ⟨S_, .f32⟩
  | 82 => ⟨S8x1, .f32⟩
  | 83 => ⟨S_, .f32⟩
  | 84 => ⟨S8x1, .f32⟩
  | 85 => ⟨S8x1, .f32⟩
  | 86 => ⟨S_, .i32⟩
  | 87 => ⟨S8x1, .i32⟩
  | 88 => ⟨S8x1, .i1⟩
  | 89 => ⟨S_, .f32⟩
  | 90 => ⟨S8x1, .f32⟩
  | 91 => ⟨S_, .f32⟩
  | 92 => ⟨S8x1, .f32⟩
  | 93 => ⟨S8x1, .f32⟩
  | 94 => ⟨S_, .i32⟩
  | 95 => ⟨S8x1, .i32⟩
  | 96 => ⟨S8x1, .i1⟩
  | 97 => ⟨S_, .f32⟩
  | 98 => ⟨S8x1, .f32⟩
  | 99 => ⟨S8x1, .f32⟩
  | 100 => ⟨S_, .i32⟩
  | 101 => ⟨S8x1, .i32⟩
  | 102 => ⟨S8x1, .i1⟩
  | 103 => ⟨S_, .f32⟩
  | 104 => ⟨S8x1, .f32⟩
  | 105 => ⟨S8x1, .f32⟩
  | 106 => ⟨S_, .i32⟩
  | 107 => ⟨S8x1, .i32⟩
  | 108 => ⟨S8x1, .i1⟩
  | 109 => ⟨S_, .f32⟩
  | 110 => ⟨S8x1, .f32⟩
  | 111 => ⟨S8x1, .f32⟩
  | 112 => ⟨S_, .i32⟩
  | 113 => ⟨S8x1, .i32⟩
  | 114 => ⟨S8x1, .i1⟩
  | 115 => ⟨S_, .f32⟩
  | 116 => ⟨S8x1, .f32⟩
  | 117 => ⟨S8x1, .f32⟩
  | 118 => ⟨S_, .i32⟩
  | 119 => ⟨S8x1, .i32⟩
  | 120 => ⟨S8x1, .i1⟩
  | 121 => ⟨S_, .f32⟩
  | 122 => ⟨S8x1, .f32⟩
  | 123 => ⟨S8x1, .f32⟩
  | 124 => ⟨S_, .i32⟩
  | 125 => ⟨S8x1, .i32⟩
  | 126 => ⟨S8x1, .i1⟩
  | 127 => ⟨S_, .f32⟩
  | _ => ⟨S32x2048x1024, .f32⟩

abbrev hbmTy0_1 (i : Nat) : BufTy := match i % 128 with
  | 0 => ⟨S8x1, .f32⟩
  | 1 => ⟨S8x1, .f32⟩
  | 2 => ⟨S_, .i32⟩
  | 3 => ⟨S8x1, .i32⟩
  | 4 => ⟨S8x1, .i1⟩
  | 5 => ⟨S_, .f32⟩
  | 6 => ⟨S8x1, .f32⟩
  | 7 => ⟨S8x1, .f32⟩
  | 8 => ⟨S_, .i32⟩
  | 9 => ⟨S8x1, .i32⟩
  | 10 => ⟨S8x1, .i1⟩
  | 11 => ⟨S_, .f32⟩
  | 12 => ⟨S8x1, .f32⟩
  | 13 => ⟨S8x1, .f32⟩
  | 14 => ⟨S_, .i32⟩
  | 15 => ⟨S8x1, .i32⟩
  | 16 => ⟨S8x1, .i1⟩
  | 17 => ⟨S_, .f32⟩
  | 18 => ⟨S8x1, .f32⟩
  | 19 => ⟨S8x1, .f32⟩
  | 20 => ⟨S_, .i32⟩
  | 21 => ⟨S8x1, .i32⟩
  | 22 => ⟨S8x1, .i1⟩
  | 23 => ⟨S_, .f32⟩
  | 24 => ⟨S8x1, .f32⟩
  | 25 => ⟨S8x1, .f32⟩
  | 26 => ⟨S_, .i32⟩
  | 27 => ⟨S8x1, .i32⟩
  | 28 => ⟨S8x1, .i1⟩
  | 29 => ⟨S_, .f32⟩
  | 30 => ⟨S8x1, .f32⟩
  | 31 => ⟨S8x1, .f32⟩
  | 32 => ⟨S_, .i32⟩
  | 33 => ⟨S8x1, .i32⟩
  | 34 => ⟨S8x1, .i1⟩
  | 35 => ⟨S_, .f32⟩
  | 36 => ⟨S8x1, .f32⟩
  | 37 => ⟨S8x1, .f32⟩
  | 38 => ⟨S1x8x1, .f32⟩
  | 39 => ⟨S1x8x1, .f32⟩
  | 40 => ⟨S1x1x128, .i32⟩
  | 41 => ⟨S_, .i32⟩
  | 42 => ⟨S1x1x128, .i32⟩
  | 43 => ⟨S1x1x128, .i1⟩
  | 44 => ⟨S2048x1x1, .f32⟩
  | 45 => ⟨S2048x8x1, .f32⟩
  | 46 => ⟨S2048x8x1, .f32⟩
  | 47 => ⟨S2048x8x1, .f32⟩
  | 48 => ⟨S_, .i32⟩
  | 49 => ⟨S1x1x128, .i32⟩
  | 50 => ⟨S1x1x128, .i1⟩
  | 51 => ⟨S2048x1x1, .f32⟩
  | 52 => ⟨S2048x8x1, .f32⟩
  | 53 => ⟨S2048x8x1, .f32⟩
  | 54 => ⟨S2048x8x1, .f32⟩
  | 55 => ⟨S_, .i32⟩
  | 56 => ⟨S1x1x128, .i32⟩
  | 57 => ⟨S1x1x128, .i1⟩
  | 58 => ⟨S_, .i32⟩
  | 59 => ⟨S1x1x128, .i32⟩
  | 60 => ⟨S1x1x128, .i1⟩
  | 61 => ⟨S1x1x128, .i1⟩
  | 62 => ⟨S1x8x128, .i1⟩
  | 63 => ⟨S1x8x128, .f32⟩
  | 64 => ⟨S_, .f32⟩
  | 65 => ⟨S1x8x128, .f32⟩
  | 66 => ⟨S1x8x128, .f32⟩
  | 67 => ⟨S2048x8x128, .i1⟩
  | 68 => ⟨S2048x8x128, .f32⟩
  | 69 => ⟨S2048x8x128, .f32⟩
  | 70 => ⟨S2048x8x128, .f32⟩
  | 71 => ⟨S2048x8x128, .i1⟩
  | 72 => ⟨S2048x8x128, .f32⟩
  | 73 => ⟨S2048x8x128, .f32⟩
  | 74 => ⟨S32x2048x128, .f32⟩
  | 75 => ⟨S1x1x128, .f32⟩
  | 76 => ⟨S32x2048x128, .f32⟩
  | 77 => ⟨S32x2048x128, .f32⟩
  | 78 => ⟨S_, .i32⟩
  | 79 => ⟨S1x128, .i32⟩
  | 80 => ⟨S1x128, .i1⟩
  | 81 => ⟨S32x2048x128, .f32⟩
  | 82 => ⟨S32x2048x128, .f32⟩
  | 83 => ⟨S_, .f32⟩
  | 84 => ⟨S32x2048x128, .f32⟩
  | 85 => ⟨S32x2048x128, .f32⟩
  | 86 => ⟨S_, .f32⟩
  | 87 => ⟨S32x2048x128, .f32⟩
  | 88 => ⟨S32x2048x128, .f32⟩
  | 89 => ⟨S32x2048x128, .i1⟩
  | 90 => ⟨S_, .f32⟩
  | 91 => ⟨S32x2048x128, .f32⟩
  | 92 => ⟨S32x2048x128, .f32⟩
  | 93 => ⟨S_, .i32⟩
  | 94 => ⟨S1x128, .i32⟩
  | 95 => ⟨S1x128, .i1⟩
  | 96 => ⟨S_, .i32⟩
  | 97 => ⟨S1x128, .i32⟩
  | 98 => ⟨S1x128, .i1⟩
  | 99 => ⟨S1x128, .i1⟩
  | 100 => ⟨S32x2048x128, .f32⟩
  | 101 => ⟨S_, .f32⟩
  | 102 => ⟨S32x2048x128, .f32⟩
  | 103 => ⟨S32x2048x128, .f32⟩
  | 104 => ⟨S32x2048x128, .f32⟩
  | 105 => ⟨S32x2048x128, .f32⟩
  | 106 => ⟨S32x2048x128, .f32⟩
  | 107 => ⟨S32x2048x128, .f32⟩
  | 108 => ⟨S32x2048x128, .f32⟩
  | 109 => ⟨S32x2048x128, .f32⟩
  | 110 => ⟨S32x2048x128, .i1⟩
  | 111 => ⟨S_, .f32⟩
  | 112 => ⟨S32x2048x128, .f32⟩
  | 113 => ⟨S32x2048x128, .f32⟩
  | 114 => ⟨S2048x2048, .i32⟩
  | 115 => ⟨S2048x2048, .i32⟩
  | 116 => ⟨S2048x2048, .i1⟩
  | 117 => ⟨S_, .f32⟩
  | 118 => ⟨S2048x2048, .f32⟩
  | 119 => ⟨S_, .f32⟩
  | 120 => ⟨S2048x2048, .f32⟩
  | 121 => ⟨S2048x2048, .f32⟩
  | 122 => ⟨S32x128x2048, .f32⟩
  | 123 => ⟨S32x2048x128, .f32⟩
  | 124 => ⟨S32x2048x128, .bf16⟩
  | 125 => ⟨S32x2048x128, .f32⟩
  | 126 => ⟨S32x2048x128, .f32⟩
  | 127 => ⟨S32x2048x128, .bf16⟩
  | _ => ⟨S32x2048x1024, .f32⟩

abbrev hbmTy0_2 (i : Nat) : BufTy := match i % 128 with
  | 0 => ⟨S32x2048x128, .f32⟩
  | 1 => ⟨S32x2048x128, .f32⟩
  | 2 => ⟨S32x2048x128, .f32⟩
  | 3 => ⟨S32x2048x128, .f32⟩
  | 4 => ⟨S32x2048x128, .bf16⟩
  | 5 => ⟨S_, .i32⟩
  | 6 => ⟨S1x128, .i32⟩
  | 7 => ⟨S1x128, .i1⟩
  | 8 => ⟨S32x2048x128, .f32⟩
  | 9 => ⟨S_, .i32⟩
  | 10 => ⟨S1x128, .i32⟩
  | 11 => ⟨S1x128, .i1⟩
  | 12 => ⟨S32x2048x128, .f32⟩
  | 13 => ⟨S32x2048x128, .f32⟩
  | 14 => ⟨S32x2048x128, .i1⟩
  | 15 => ⟨S32x2048x128, .f32⟩
  | 16 => ⟨S32x2048x128, .i1⟩
  | 17 => ⟨S32x2048x128, .f32⟩
  | 18 => ⟨S32x2048x128, .i1⟩
  | 19 => ⟨S_, .f32⟩
  | 20 => ⟨S32x2048x128, .f32⟩
  | 21 => ⟨S32x2048x128, .f32⟩
  | 22 => ⟨S128x1024, .f32⟩
  | 23 => ⟨S32x2048x1024, .f32⟩
  | 24 => ⟨S32x2048x8x128, .f32⟩
  | 25 => ⟨S128x1024, .f32⟩
  | 26 => ⟨S32x2048x1024, .f32⟩
  | 27 => ⟨S32x2048x8x128, .f32⟩
  | 28 => ⟨S_, .i32⟩
  | 29 => ⟨S1x128, .i32⟩
  | 30 => ⟨S1x128, .i1⟩
  | 31 => ⟨S_, .i32⟩
  | 32 => ⟨S1x128, .i32⟩
  | 33 => ⟨S1x128, .i1⟩
  | 34 => ⟨S1x128, .i1⟩
  | 35 => ⟨S_, .f32⟩
  | 36 => ⟨S1x128, .f32⟩
  | 37 => ⟨S_, .f32⟩
  | 38 => ⟨S1x128, .f32⟩
  | 39 => ⟨S1x128, .f32⟩
  | 40 => ⟨S_, .i32⟩
  | 41 => ⟨S1x128, .i32⟩
  | 42 => ⟨S1x128, .i1⟩
  | 43 => ⟨S_, .i32⟩
  | 44 => ⟨S1x128, .i32⟩
  | 45 => ⟨S1x128, .i1⟩
  | 46 => ⟨S1x128, .i1⟩
  | 47 => ⟨S_, .f32⟩
  | 48 => ⟨S1x128, .f32⟩
  | 49 => ⟨S_, .f32⟩
  | 50 => ⟨S1x128, .f32⟩
  | 51 => ⟨S1x128, .f32⟩
  | 52 => ⟨S32x2048x5504, .bf16⟩
  | 53 => ⟨S1x128, .f32⟩
  | 54 => ⟨S128, .f32⟩
  | 55 => ⟨S_, .f32⟩
  | 56 => ⟨S128, .f32⟩
  | 57 => ⟨S128, .f32⟩
  | 58 => ⟨S32x2048x1024, .f32⟩
  | 59 => ⟨S32x2048x8x128, .f32⟩
  | 60 => ⟨S32x2048x8x128, .f32⟩
  | 61 => ⟨S_, .f32⟩
  | 62 => ⟨S32x2048x8, .f32⟩
  | 63 => ⟨S32x2048x8x1, .f32⟩
  | 64 => ⟨S_, .f32⟩
  | 65 => ⟨S32x2048x8x1, .f32⟩
  | 66 => ⟨S32x2048x8x1, .f32⟩
  | 67 => ⟨S_, .f32⟩
  | 68 => ⟨S32x2048x8x1, .f32⟩
  | 69 => ⟨S32x2048x8x1, .f32⟩
  | 70 => ⟨S32x2048x8x1, .f32⟩
  | 71 => ⟨S32x2048x8x128, .f32⟩
  | 72 => ⟨S32x2048x8x128, .f32⟩
  | 73 => ⟨S1x1x1x128, .f32⟩
  | 74 => ⟨S32x2048x8x128, .f32⟩
  | 75 => ⟨S32x2048x8x128, .f32⟩
  | 76 => ⟨S1x2048x8x128, .f32⟩
  | 77 => ⟨S32x2048x8x128, .f32⟩
  | 78 => ⟨S32x2048x8x128, .f32⟩
  | 79 => ⟨S32x2048x1024, .f32⟩
  | 80 => ⟨S32x2048x1024, .bf16⟩
  | 81 => ⟨S1x128, .f32⟩
  | 82 => ⟨S128, .f32⟩
  | 83 => ⟨S32x2048x256, .f32⟩
  | 84 => ⟨S32x2048x2x128, .f32⟩
  | 85 => ⟨S32x2048x2x128, .f32⟩
  | 86 => ⟨S_, .f32⟩
  | 87 => ⟨S32x2048x2, .f32⟩
  | 88 => ⟨S32x2048x2x1, .f32⟩
  | 89 => ⟨S_, .f32⟩
  | 90 => ⟨S32x2048x2x1, .f32⟩
  | 91 => ⟨S32x2048x2x1, .f32⟩
  | 92 => ⟨S_, .f32⟩
  | 93 => ⟨S32x2048x2x1, .f32⟩
  | 94 => ⟨S32x2048x2x1, .f32⟩
  | 95 => ⟨S32x2048x2x1, .f32⟩
  | 96 => ⟨S32x2048x2x128, .f32⟩
  | 97 => ⟨S32x2048x2x128, .f32⟩
  | 98 => ⟨S1x1x1x128, .f32⟩
  | 99 => ⟨S32x2048x2x128, .f32⟩
  | 100 => ⟨S32x2048x2x128, .f32⟩
  | 101 => ⟨S2048x1x128, .f32⟩
  | 102 => ⟨S1x2048x1x128, .f32⟩
  | 103 => ⟨S32x2048x2x128, .f32⟩
  | 104 => ⟨S32x2048x2x128, .f32⟩
  | 105 => ⟨S2048x1x128, .f32⟩
  | 106 => ⟨S1x2048x1x128, .f32⟩
  | 107 => ⟨S32x2048x2x128, .f32⟩
  | 108 => ⟨S32x2048x2x128, .f32⟩
  | 109 => ⟨S32x2048x256, .f32⟩
  | 110 => ⟨S32x2048x256, .bf16⟩
  | 111 => ⟨S32x2048x256, .bf16⟩
  | 112 => ⟨S1x128, .f32⟩
  | 113 => ⟨S128, .f32⟩
  | 114 => ⟨S32x2048x256, .f32⟩
  | 115 => ⟨S32x2048x2x128, .f32⟩
  | 116 => ⟨S32x2048x2x128, .f32⟩
  | 117 => ⟨S_, .f32⟩
  | 118 => ⟨S32x2048x2, .f32⟩
  | 119 => ⟨S32x2048x2x1, .f32⟩
  | 120 => ⟨S_, .f32⟩
  | 121 => ⟨S32x2048x2x1, .f32⟩
  | 122 => ⟨S32x2048x2x1, .f32⟩
  | 123 => ⟨S_, .f32⟩
  | 124 => ⟨S32x2048x2x1, .f32⟩
  | 125 => ⟨S32x2048x2x1, .f32⟩
  | 126 => ⟨S32x2048x2x1, .f32⟩
  | 127 => ⟨S32x2048x2x128, .f32⟩
  | _ => ⟨S32x2048x1024, .f32⟩

abbrev hbmTy0_3 (i : Nat) : BufTy := match i % 128 with
  | 0 => ⟨S32x2048x2x128, .f32⟩
  | 1 => ⟨S1x1x1x128, .f32⟩
  | 2 => ⟨S32x2048x2x128, .f32⟩
  | 3 => ⟨S32x2048x2x128, .f32⟩
  | 4 => ⟨S2048x1x128, .f32⟩
  | 5 => ⟨S1x2048x1x128, .f32⟩
  | 6 => ⟨S32x2048x2x128, .f32⟩
  | 7 => ⟨S32x2048x2x128, .f32⟩
  | 8 => ⟨S32x2048x256, .f32⟩
  | 9 => ⟨S32x2048x256, .bf16⟩
  | 10 => ⟨S32x2048x256, .bf16⟩
  | 11 => ⟨S32x2048x128, .bf16⟩
  | 12 => ⟨S32x2048x128, .bf16⟩
  | 13 => ⟨S1x128, .f32⟩
  | 14 => ⟨S128, .f32⟩
  | 15 => ⟨S_, .f32⟩
  | 16 => ⟨S128, .f32⟩
  | 17 => ⟨S128, .f32⟩
  | 18 => ⟨S32x2048x1024, .f32⟩
  | 19 => ⟨S32x2048x8x128, .f32⟩
  | 20 => ⟨S32x2048x8x128, .f32⟩
  | 21 => ⟨S_, .f32⟩
  | 22 => ⟨S32x2048x8, .f32⟩
  | 23 => ⟨S32x2048x8x1, .f32⟩
  | 24 => ⟨S_, .f32⟩
  | 25 => ⟨S32x2048x8x1, .f32⟩
  | 26 => ⟨S32x2048x8x1, .f32⟩
  | 27 => ⟨S_, .f32⟩
  | 28 => ⟨S32x2048x8x1, .f32⟩
  | 29 => ⟨S32x2048x8x1, .f32⟩
  | 30 => ⟨S32x2048x8x1, .f32⟩
  | 31 => ⟨S32x2048x8x128, .f32⟩
  | 32 => ⟨S32x2048x8x128, .f32⟩
  | 33 => ⟨S1x1x1x128, .f32⟩
  | 34 => ⟨S32x2048x8x128, .f32⟩
  | 35 => ⟨S32x2048x8x128, .f32⟩
  | 36 => ⟨S32x2048x8x128, .f32⟩
  | 37 => ⟨S1x1x1x128, .f32⟩
  | 38 => ⟨S32x2048x8x128, .f32⟩
  | 39 => ⟨S32x2048x8x128, .f32⟩
  | 40 => ⟨S32x2048x1024, .f32⟩
  | 41 => ⟨S32x2048x1024, .bf16⟩
  | 42 => ⟨S1x128, .f32⟩
  | 43 => ⟨S128, .f32⟩
  | 44 => ⟨S32x2048x1024, .f32⟩
  | 45 => ⟨S32x2048x8x128, .f32⟩
  | 46 => ⟨S32x2048x8x128, .f32⟩
  | 47 => ⟨S_, .f32⟩
  | 48 => ⟨S32x2048x8, .f32⟩
  | 49 => ⟨S32x2048x8x1, .f32⟩
  | 50 => ⟨S_, .f32⟩
  | 51 => ⟨S32x2048x8x1, .f32⟩
  | 52 => ⟨S32x2048x8x1, .f32⟩
  | 53 => ⟨S_, .f32⟩
  | 54 => ⟨S32x2048x8x1, .f32⟩
  | 55 => ⟨S32x2048x8x1, .f32⟩
  | 56 => ⟨S32x2048x8x1, .f32⟩
  | 57 => ⟨S32x2048x8x128, .f32⟩
  | 58 => ⟨S32x2048x8x128, .f32⟩
  | 59 => ⟨S1x1x1x128, .f32⟩
  | 60 => ⟨S32x2048x8x128, .f32⟩
  | 61 => ⟨S32x2048x8x128, .f32⟩
  | 62 => ⟨S32x2048x8x128, .f32⟩
  | 63 => ⟨S1x1x1x128, .f32⟩
  | 64 => ⟨S32x2048x8x128, .f32⟩
  | 65 => ⟨S32x2048x8x128, .f32⟩
  | 66 => ⟨S32x2048x1024, .f32⟩
  | 67 => ⟨S32x2048x1024, .bf16⟩
  | 68 => ⟨S32x2048x1024, .bf16⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_c_14 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_cst_18 : Ref sig .tc := ⟨.hbm, 89, rfl⟩
abbrev main_v62 : Ref sig .tc := ⟨.hbm, 90, rfl⟩
abbrev main_cst_19 : Ref sig .tc := ⟨.hbm, 91, rfl⟩
abbrev main_v63 : Ref sig .tc := ⟨.hbm, 92, rfl⟩
abbrev main_v64 : Ref sig .tc := ⟨.hbm, 93, rfl⟩
abbrev main_c_20 : Ref sig .tc := ⟨.hbm, 94, rfl⟩
abbrev main_v65 : Ref sig .tc := ⟨.hbm, 95, rfl⟩
abbrev main_v66 : Ref sig .tc := ⟨.hbm, 96, rfl⟩
abbrev main_cst_21 : Ref sig .tc := ⟨.hbm, 97, rfl⟩
abbrev main_v67 : Ref sig .tc := ⟨.hbm, 98, rfl⟩
abbrev main_v68 : Ref sig .tc := ⟨.hbm, 99, rfl⟩
abbrev main_c_22 : Ref sig .tc := ⟨.hbm, 100, rfl⟩
abbrev main_v69 : Ref sig .tc := ⟨.hbm, 101, rfl⟩
abbrev main_v70 : Ref sig .tc := ⟨.hbm, 102, rfl⟩
abbrev main_cst_23 : Ref sig .tc := ⟨.hbm, 103, rfl⟩
abbrev main_v71 : Ref sig .tc := ⟨.hbm, 104, rfl⟩
abbrev main_v72 : Ref sig .tc := ⟨.hbm, 105, rfl⟩
abbrev main_c_24 : Ref sig .tc := ⟨.hbm, 106, rfl⟩
abbrev main_v73 : Ref sig .tc := ⟨.hbm, 107, rfl⟩
abbrev main_v74 : Ref sig .tc := ⟨.hbm, 108, rfl⟩
abbrev main_cst_25 : Ref sig .tc := ⟨.hbm, 109, rfl⟩
abbrev main_v75 : Ref sig .tc := ⟨.hbm, 110, rfl⟩
abbrev main_v76 : Ref sig .tc := ⟨.hbm, 111, rfl⟩
abbrev main_c_26 : Ref sig .tc := ⟨.hbm, 112, rfl⟩
abbrev main_v77 : Ref sig .tc := ⟨.hbm, 113, rfl⟩
abbrev main_v78 : Ref sig .tc := ⟨.hbm, 114, rfl⟩
abbrev main_cst_27 : Ref sig .tc := ⟨.hbm, 115, rfl⟩
abbrev main_v79 : Ref sig .tc := ⟨.hbm, 116, rfl⟩
abbrev main_v80 : Ref sig .tc := ⟨.hbm, 117, rfl⟩
abbrev main_c_28 : Ref sig .tc := ⟨.hbm, 118, rfl⟩
abbrev main_v81 : Ref sig .tc := ⟨.hbm, 119, rfl⟩
abbrev main_v82 : Ref sig .tc := ⟨.hbm, 120, rfl⟩
abbrev main_cst_29 : Ref sig .tc := ⟨.hbm, 121, rfl⟩
abbrev main_v83 : Ref sig .tc := ⟨.hbm, 122, rfl⟩
abbrev main_v84 : Ref sig .tc := ⟨.hbm, 123, rfl⟩
abbrev main_c_30 : Ref sig .tc := ⟨.hbm, 124, rfl⟩
abbrev main_v85 : Ref sig .tc := ⟨.hbm, 125, rfl⟩
abbrev main_v86 : Ref sig .tc := ⟨.hbm, 126, rfl⟩
abbrev main_cst_31 : Ref sig .tc := ⟨.hbm, 127, rfl⟩
abbrev main_v87 : Ref sig .tc := ⟨.hbm, 128, rfl⟩
abbrev main_v88 : Ref sig .tc := ⟨.hbm, 129, rfl⟩
abbrev main_c_32 : Ref sig .tc := ⟨.hbm, 130, rfl⟩
abbrev main_v89 : Ref sig .tc := ⟨.hbm, 131, rfl⟩
abbrev main_v90 : Ref sig .tc := ⟨.hbm, 132, rfl⟩
abbrev main_cst_33 : Ref sig .tc := ⟨.hbm, 133, rfl⟩
abbrev main_v91 : Ref sig .tc := ⟨.hbm, 134, rfl⟩
abbrev main_v92 : Ref sig .tc := ⟨.hbm, 135, rfl⟩
abbrev main_c_34 : Ref sig .tc := ⟨.hbm, 136, rfl⟩
abbrev main_v93 : Ref sig .tc := ⟨.hbm, 137, rfl⟩
abbrev main_v94 : Ref sig .tc := ⟨.hbm, 138, rfl⟩
abbrev main_cst_35 : Ref sig .tc := ⟨.hbm, 139, rfl⟩
abbrev main_v95 : Ref sig .tc := ⟨.hbm, 140, rfl⟩
abbrev main_v96 : Ref sig .tc := ⟨.hbm, 141, rfl⟩
abbrev main_c_36 : Ref sig .tc := ⟨.hbm, 142, rfl⟩
abbrev main_v97 : Ref sig .tc := ⟨.hbm, 143, rfl⟩
abbrev main_v98 : Ref sig .tc := ⟨.hbm, 144, rfl⟩
abbrev main_cst_37 : Ref sig .tc := ⟨.hbm, 145, rfl⟩
abbrev main_v99 : Ref sig .tc := ⟨.hbm, 146, rfl⟩
abbrev main_v100 : Ref sig .tc := ⟨.hbm, 147, rfl⟩
abbrev main_c_38 : Ref sig .tc := ⟨.hbm, 148, rfl⟩
abbrev main_v101 : Ref sig .tc := ⟨.hbm, 149, rfl⟩
abbrev main_v102 : Ref sig .tc := ⟨.hbm, 150, rfl⟩
abbrev main_cst_39 : Ref sig .tc := ⟨.hbm, 151, rfl⟩
abbrev main_v103 : Ref sig .tc := ⟨.hbm, 152, rfl⟩
abbrev main_v104 : Ref sig .tc := ⟨.hbm, 153, rfl⟩
abbrev main_c_40 : Ref sig .tc := ⟨.hbm, 154, rfl⟩
abbrev main_v105 : Ref sig .tc := ⟨.hbm, 155, rfl⟩
abbrev main_v106 : Ref sig .tc := ⟨.hbm, 156, rfl⟩
abbrev main_cst_41 : Ref sig .tc := ⟨.hbm, 157, rfl⟩
abbrev main_v107 : Ref sig .tc := ⟨.hbm, 158, rfl⟩
abbrev main_v108 : Ref sig .tc := ⟨.hbm, 159, rfl⟩
abbrev main_c_42 : Ref sig .tc := ⟨.hbm, 160, rfl⟩
abbrev main_v109 : Ref sig .tc := ⟨.hbm, 161, rfl⟩
abbrev main_v110 : Ref sig .tc := ⟨.hbm, 162, rfl⟩
abbrev main_cst_43 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_44 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_c_45 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_c_46 : Ref sig .tc := ⟨.hbm, 183, rfl⟩
abbrev main_v128 : Ref sig .tc := ⟨.hbm, 184, rfl⟩
abbrev main_v129 : Ref sig .tc := ⟨.hbm, 185, rfl⟩
abbrev main_c_47 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_48 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_c_49 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_cst_50 : Ref sig .tc := ⟨.hbm, 211, rfl⟩
abbrev main_v152 : Ref sig .tc := ⟨.hbm, 212, rfl⟩
abbrev main_v153 : Ref sig .tc := ⟨.hbm, 213, rfl⟩
abbrev main_cst_51 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_52 : Ref sig .tc := ⟨.hbm, 218, rfl⟩
abbrev main_v157 : Ref sig .tc := ⟨.hbm, 219, rfl⟩
abbrev main_v158 : Ref sig .tc := ⟨.hbm, 220, rfl⟩
abbrev main_c_53 : Ref sig .tc := ⟨.hbm, 221, rfl⟩
abbrev main_v159 : Ref sig .tc := ⟨.hbm, 222, rfl⟩
abbrev main_v160 : Ref sig .tc := ⟨.hbm, 223, rfl⟩
abbrev main_c_54 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_55 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_cst_56 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_cst_57 : Ref sig .tc := ⟨.hbm, 245, rfl⟩
abbrev main_v179 : Ref sig .tc := ⟨.hbm, 246, rfl⟩
abbrev main_cst_58 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_c_59 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_c_60 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_cst_61 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_c_62 : Ref sig .tc := ⟨.hbm, 284, rfl⟩
abbrev main_v213 : Ref sig .tc := ⟨.hbm, 285, rfl⟩
abbrev main_v214 : Ref sig .tc := ⟨.hbm, 286, rfl⟩
abbrev main_c_63 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_cst_64 : Ref sig .tc := ⟨.hbm, 291, rfl⟩
abbrev main_v218 : Ref sig .tc := ⟨.hbm, 292, rfl⟩
abbrev main_cst_65 : Ref sig .tc := ⟨.hbm, 293, rfl⟩
abbrev main_v219 : Ref sig .tc := ⟨.hbm, 294, rfl⟩
abbrev main_v220 : Ref sig .tc := ⟨.hbm, 295, rfl⟩
abbrev main_c_66 : Ref sig .tc := ⟨.hbm, 296, rfl⟩
abbrev main_v221 : Ref sig .tc := ⟨.hbm, 297, rfl⟩
abbrev main_v222 : Ref sig .tc := ⟨.hbm, 298, rfl⟩
abbrev main_c_67 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_cst_68 : Ref sig .tc := ⟨.hbm, 303, rfl⟩
abbrev main_v226 : Ref sig .tc := ⟨.hbm, 304, rfl⟩
abbrev main_cst_69 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_cst_70 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_cst_71 : Ref sig .tc := ⟨.hbm, 317, rfl⟩
abbrev main_v237 : Ref sig .tc := ⟨.hbm, 318, rfl⟩
abbrev main_v238 : Ref sig .tc := ⟨.hbm, 319, rfl⟩
abbrev main_cst_72 : Ref sig .tc := ⟨.hbm, 320, rfl⟩
abbrev main_v239 : Ref sig .tc := ⟨.hbm, 321, rfl⟩
abbrev main_v240 : Ref sig .tc := ⟨.hbm, 322, rfl⟩
abbrev main_cst_73 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_cst_74 : Ref sig .tc := ⟨.hbm, 342, rfl⟩
abbrev main_v259 : Ref sig .tc := ⟨.hbm, 343, rfl⟩
abbrev main_v260 : Ref sig .tc := ⟨.hbm, 344, rfl⟩
abbrev main_cst_75 : Ref sig .tc := ⟨.hbm, 345, rfl⟩
abbrev main_v261 : Ref sig .tc := ⟨.hbm, 346, rfl⟩
abbrev main_v262 : Ref sig .tc := ⟨.hbm, 347, rfl⟩
abbrev main_cst_76 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_cst_77 : Ref sig .tc := ⟨.hbm, 373, rfl⟩
abbrev main_v287 : Ref sig .tc := ⟨.hbm, 374, rfl⟩
abbrev main_v288 : Ref sig .tc := ⟨.hbm, 375, rfl⟩
abbrev main_cst_78 : Ref sig .tc := ⟨.hbm, 376, rfl⟩
abbrev main_v289 : Ref sig .tc := ⟨.hbm, 377, rfl⟩
abbrev main_v290 : Ref sig .tc := ⟨.hbm, 378, rfl⟩
abbrev main_cst_79 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_v296 : Ref sig .tc := ⟨.hbm, 385, rfl⟩
abbrev main_v297 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_cst_80 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_cst_81 : Ref sig .tc := ⟨.hbm, 405, rfl⟩
abbrev main_v315 : Ref sig .tc := ⟨.hbm, 406, rfl⟩
abbrev main_v316 : Ref sig .tc := ⟨.hbm, 407, rfl⟩
abbrev main_cst_82 : Ref sig .tc := ⟨.hbm, 408, rfl⟩
abbrev main_v317 : Ref sig .tc := ⟨.hbm, 409, rfl⟩
abbrev main_v318 : Ref sig .tc := ⟨.hbm, 410, rfl⟩
abbrev main_cst_83 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_v334 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_cst_84 : Ref sig .tc := ⟨.hbm, 431, rfl⟩
abbrev main_v338 : Ref sig .tc := ⟨.hbm, 432, rfl⟩
abbrev main_v339 : Ref sig .tc := ⟨.hbm, 433, rfl⟩
abbrev main_cst_85 : Ref sig .tc := ⟨.hbm, 434, rfl⟩
abbrev main_v340 : Ref sig .tc := ⟨.hbm, 435, rfl⟩
abbrev main_v341 : Ref sig .tc := ⟨.hbm, 436, rfl⟩
abbrev main_cst_86 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_v346 : Ref sig .tc := ⟨.hbm, 442, rfl⟩
abbrev main_v347 : Ref sig .tc := ⟨.hbm, 443, rfl⟩
abbrev main_v348 : Ref sig .tc := ⟨.hbm, 444, rfl⟩
abbrev main_v349 : Ref sig .tc := ⟨.hbm, 445, rfl⟩
abbrev main_v350 : Ref sig .tc := ⟨.hbm, 446, rfl⟩
abbrev main_v351 : Ref sig .tc := ⟨.hbm, 447, rfl⟩
abbrev main_v352 : Ref sig .tc := ⟨.hbm, 448, rfl⟩
abbrev main_v353 : Ref sig .tc := ⟨.hbm, 449, rfl⟩
abbrev main_v354 : Ref sig .tc := ⟨.hbm, 450, rfl⟩
abbrev main_v355 : Ref sig .tc := ⟨.hbm, 451, rfl⟩
abbrev main_v356 : Ref sig .tc := ⟨.hbm, 452, rfl⟩

abbrev nD : Nat := 1
abbrev τ : Topo := Topo.v7x

variable {F : FTy → Type} [FloatOps F]
-- ==== Compress.lean ====
abbrev S32x2x128x1024 : Shape := ⟨4, ![32, 2, 128, 1024]⟩
abbrev S2x1024 : Shape := ⟨2, ![2, 1024]⟩
abbrev S2048x256 : Shape := ⟨2, ![2048, 256]⟩
abbrev S1x256 : Shape := ⟨2, ![1, 256]⟩
abbrev S256x128 : Shape := ⟨2, ![256, 128]⟩
abbrev S1x128 : Shape := ⟨2, ![1, 128]⟩
abbrev S32x2x128x128 : Shape := ⟨4, ![32, 2, 128, 128]⟩
abbrev S1x2x128x1024 : Shape := ⟨4, ![1, 2, 128, 1024]⟩
abbrev S1x2x128x128 : Shape := ⟨4, ![1, 2, 128, 128]⟩
abbrev S128x1 : Shape := ⟨2, ![128, 1]⟩
abbrev S128x128 : Shape := ⟨2, ![128, 128]⟩
abbrev S1x1x128x1024 : Shape := ⟨4, ![1, 1, 128, 1024]⟩
abbrev S128x1024 : Shape := ⟨2, ![128, 1024]⟩
abbrev S1x1024 : Shape := ⟨2, ![1, 1024]⟩
abbrev S1024x256 : Shape := ⟨2, ![1024, 256]⟩
abbrev S128x256 : Shape := ⟨2, ![128, 256]⟩
abbrev S128 : Shape := ⟨1, ![128]⟩
abbrev S1x1x128x128 : Shape := ⟨4, ![1, 1, 128, 128]⟩

abbrev nBuf : Space → Nat
  | .hbm => 15
  | .vmem => 19
  | .smem => 0
  | _ => 0

abbrev bufTy : (tb : Table) → Fin (tcTables nBuf tb) → BufTy
  | .hbm, ⟨0, _⟩ => ⟨S32x2x128x1024, .bf16⟩
  | .hbm, ⟨1, _⟩ => ⟨S32x2x128x1024, .bf16⟩
  | .hbm, ⟨2, _⟩ => ⟨S2x1024, .f32⟩
  | .hbm, ⟨3, _⟩ => ⟨S2x1024, .f32⟩
  | .hbm, ⟨4, _⟩ => ⟨S2048x256, .bf16⟩
  | .hbm, ⟨5, _⟩ => ⟨S1x256, .f32⟩
  | .hbm, ⟨6, _⟩ => ⟨S256x128, .bf16⟩
  | .hbm, ⟨7, _⟩ => ⟨S1x128, .f32⟩
  | .hbm, ⟨8, _⟩ => ⟨S2048x256, .bf16⟩
  | .hbm, ⟨9, _⟩ => ⟨S1x256, .f32⟩
  | .hbm, ⟨10, _⟩ => ⟨S256x128, .bf16⟩
  | .hbm, ⟨11, _⟩ => ⟨S1x128, .f32⟩
  | .hbm, ⟨12, _⟩ => ⟨S1x128, .f32⟩
  | .hbm, ⟨13, _⟩ => ⟨S32x2x128x128, .bf16⟩
  | .hbm, ⟨14, _⟩ => ⟨S32x2x128x128, .bf16⟩
  | .local _ .vmem, ⟨0, _⟩ => ⟨S1x2x128x1024, .bf16⟩
  | .local _ .vmem, ⟨1, _⟩ => ⟨S1x2x128x1024, .bf16⟩
  | .local _ .vmem, ⟨2, _⟩ => ⟨S1x2x128x1024, .bf16⟩
  | .local _ .vmem, ⟨3, _⟩ => ⟨S1x2x128x1024, .bf16⟩
  | .local _ .vmem, ⟨4, _⟩ => ⟨S2x1024, .f32⟩
  | .local _ .vmem, ⟨5, _⟩ => ⟨S2x1024, .f32⟩
  | .local _ .vmem, ⟨6, _⟩ => ⟨S2048x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S2048x256, .bf16⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S1x128, .f32⟩
  | .local _ .vmem, ⟨15, _⟩ => ⟨S1x2x128x128, .bf16⟩
  | .local _ .vmem, ⟨16, _⟩ => ⟨S1x2x128x128, .bf16⟩
  | .local _ .vmem, ⟨17, _⟩ => ⟨S1x2x128x128, .bf16⟩
  | .local _ .vmem, ⟨18, _⟩ => ⟨S1x2x128x128, .bf16⟩
  | _, _ => ⟨S32x2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x2x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== CompressRefIdeal.lean ====
abbrev S32x2x128x1024 : Shape := ⟨4, ![32, 2, 128, 1024]⟩
abbrev S2x1024 : Shape := ⟨2, ![2, 1024]⟩
abbrev S2048x256 : Shape := ⟨2, ![2048, 256]⟩
abbrev S1x256 : Shape := ⟨2, ![1, 256]⟩
abbrev S256x128 : Shape := ⟨2, ![256, 128]⟩
abbrev S1x128 : Shape := ⟨2, ![1, 128]⟩
abbrev S32x2x127x1024 : Shape := ⟨4, ![32, 2, 127, 1024]⟩
abbrev S32x2x1x1024 : Shape := ⟨4, ![32, 2, 1, 1024]⟩
abbrev S1x1024 : Shape := ⟨2, ![1, 1024]⟩
abbrev S1024 : Shape := ⟨1, ![1024]⟩
abbrev S1x1x1x1024 : Shape := ⟨4, ![1, 1, 1, 1024]⟩
abbrev S32x2x128x2048 : Shape := ⟨4, ![32, 2, 128, 2048]⟩
abbrev S32x2x128x256 : Shape := ⟨4, ![32, 2, 128, 256]⟩
abbrev S256 : Shape := ⟨1, ![256]⟩
abbrev S1x1x1x256 : Shape := ⟨4, ![1, 1, 1, 256]⟩
abbrev S_ : Shape := ⟨0, ![]⟩
abbrev S32x2x128x128 : Shape := ⟨4, ![32, 2, 128, 128]⟩
abbrev S128 : Shape := ⟨1, ![128]⟩
abbrev S1x1x1x128 : Shape := ⟨4, ![1, 1, 1, 128]⟩
abbrev S32x2x128 : Shape := ⟨3, ![32, 2, 128]⟩
abbrev S32x2x128x1 : Shape := ⟨4, ![32, 2, 128, 1]⟩
abbrev S128x1 : Shape := ⟨2, ![128, 1]⟩
abbrev S128x128 : Shape := ⟨2, ![128, 128]⟩
abbrev S1x1x128x128 : Shape := ⟨4, ![1, 1, 128, 128]⟩

abbrev nBuf : Space → Nat
  | .hbm => 167
  | .vmem => 0
  | .smem => 0
  | _ => 0

abbrev hbmTy0_0 (i : Nat) : BufTy := match i % 128 with
  | 0 => ⟨S32x2x128x1024, .bf16⟩
  | 1 => ⟨S32x2x128x1024, .bf16⟩
  | 2 => ⟨S2x1024, .f32⟩
  | 3 => ⟨S2x1024, .f32⟩
  | 4 => ⟨S2048x256, .bf16⟩
  | 5 => ⟨S1x256, .f32⟩
  | 6 => ⟨S256x128, .bf16⟩
  | 7 => ⟨S1x128, .f32⟩
  | 8 => ⟨S2048x256, .bf16⟩
  | 9 => ⟨S1x256, .f32⟩
  | 10 => ⟨S256x128, .bf16⟩
  | 11 => ⟨S1x128, .f32⟩
  | 12 => ⟨S1x128, .f32⟩
  | 13 => ⟨S32x2x128x1024, .f32⟩
  | 14 => ⟨S32x2x127x1024, .f32⟩
  | 15 => ⟨S32x2x1x1024, .f32⟩
  | 16 => ⟨S32x2x128x1024, .f32⟩
  | 17 => ⟨S1x1024, .f32⟩
  | 18 => ⟨S1024, .f32⟩
  | 19 => ⟨S1x1x1x1024, .f32⟩
  | 20 => ⟨S32x2x128x1024, .f32⟩
  | 21 => ⟨S32x2x128x1024, .f32⟩
  | 22 => ⟨S1x1024, .f32⟩
  | 23 => ⟨S1024, .f32⟩
  | 24 => ⟨S1x1x1x1024, .f32⟩
  | 25 => ⟨S32x2x128x1024, .f32⟩
  | 26 => ⟨S32x2x128x1024, .f32⟩
  | 27 => ⟨S32x2x128x2048, .f32⟩
  | 28 => ⟨S2048x256, .f32⟩
  | 29 => ⟨S32x2x128x256, .f32⟩
  | 30 => ⟨S256, .f32⟩
  | 31 => ⟨S1x1x1x256, .f32⟩
  | 32 => ⟨S32x2x128x256, .f32⟩
  | 33 => ⟨S32x2x128x256, .f32⟩
  | 34 => ⟨S_, .f32⟩
  | 35 => ⟨S32x2x128x256, .f32⟩
  | 36 => ⟨S32x2x128x256, .f32⟩
  | 37 => ⟨S32x2x128x256, .f32⟩
  | 38 => ⟨S32x2x128x256, .f32⟩
  | 39 => ⟨S_, .f32⟩
  | 40 => ⟨S32x2x128x256, .f32⟩
  | 41 => ⟨S32x2x128x256, .f32⟩
  | 42 => ⟨S32x2x128x256, .f32⟩
  | 43 => ⟨S_, .f32⟩
  | 44 => ⟨S32x2x128x256, .f32⟩
  | 45 => ⟨S32x2x128x256, .f32⟩
  | 46 => ⟨S32x2x128x256, .f32⟩
  | 47 => ⟨S_, .f32⟩
  | 48 => ⟨S32x2x128x256, .f32⟩
  | 49 => ⟨S32x2x128x256, .f32⟩
  | 50 => ⟨S32x2x128x256, .f32⟩
  | 51 => ⟨S256x128, .f32⟩
  | 52 => ⟨S32x2x128x128, .f32⟩
  | 53 => ⟨S128, .f32⟩
  | 54 => ⟨S1x1x1x128, .f32⟩
  | 55 => ⟨S32x2x128x128, .f32⟩
  | 56 => ⟨S32x2x128x128, .f32⟩
  | 57 => ⟨S32x2x128x128, .f32⟩
  | 58 => ⟨S_, .f32⟩
  | 59 => ⟨S32x2x128, .f32⟩
  | 60 => ⟨S32x2x128x1, .f32⟩
  | 61 => ⟨S_, .f32⟩
  | 62 => ⟨S32x2x128x1, .f32⟩
  | 63 => ⟨S32x2x128x1, .f32⟩
  | 64 => ⟨S_, .f32⟩
  | 65 => ⟨S32x2x128x1, .f32⟩
  | 66 => ⟨S32x2x128x1, .f32⟩
  | 67 => ⟨S32x2x128x1, .f32⟩
  | 68 => ⟨S32x2x128x128, .f32⟩
  | 69 => ⟨S32x2x128x128, .f32⟩
  | 70 => ⟨S128, .f32⟩
  | 71 => ⟨S1x1x1x128, .f32⟩
  | 72 => ⟨S32x2x128x128, .f32⟩
  | 73 => ⟨S32x2x128x128, .f32⟩
  | 74 => ⟨S128x1, .i32⟩
  | 75 => ⟨S_, .i32⟩
  | 76 => ⟨S128x1, .i32⟩
  | 77 => ⟨S128x1, .i32⟩
  | 78 => ⟨S_, .i32⟩
  | 79 => ⟨S128x1, .i32⟩
  | 80 => ⟨S128x1, .i32⟩
  | 81 => ⟨S1x128, .i32⟩
  | 82 => ⟨S_, .i32⟩
  | 83 => ⟨S1x128, .i32⟩
  | 84 => ⟨S1x128, .i1⟩
  | 85 => ⟨S_, .i32⟩
  | 86 => ⟨S1x128, .i32⟩
  | 87 => ⟨S1x128, .i1⟩
  | 88 => ⟨S_, .i32⟩
  | 89 => ⟨S128x1, .i32⟩
  | 90 => ⟨S128x1, .i32⟩
  | 91 => ⟨S_, .i32⟩
  | 92 => ⟨S128x1, .i32⟩
  | 93 => ⟨S128x1, .i32⟩
  | 94 => ⟨S128x1, .f32⟩
  | 95 => ⟨S_, .i32⟩
  | 96 => ⟨S128x1, .i32⟩
  | 97 => ⟨S128x1, .i32⟩
  | 98 => ⟨S128x1, .f32⟩
  | 99 => ⟨S128x128, .i1⟩
  | 100 => ⟨S128x128, .f32⟩
  | 101 => ⟨S128x128, .f32⟩
  | 102 => ⟨S128x128, .f32⟩
  | 103 => ⟨S128x128, .i1⟩
  | 104 => ⟨S_, .f32⟩
  | 105 => ⟨S128x128, .f32⟩
  | 106 => ⟨S128x128, .f32⟩
  | 107 => ⟨S_, .i32⟩
  | 108 => ⟨S1x128, .i32⟩
  | 109 => ⟨S1x128, .i1⟩
  | 110 => ⟨S_, .i32⟩
  | 111 => ⟨S1x128, .i32⟩
  | 112 => ⟨S1x128, .i1⟩
  | 113 => ⟨S1x128, .i1⟩
  | 114 => ⟨S128x128, .i1⟩
  | 115 => ⟨S_, .f32⟩
  | 116 => ⟨S128x128, .f32⟩
  | 117 => ⟨S128x128, .f32⟩
  | 118 => ⟨S1x1x128x128, .f32⟩
  | 119 => ⟨S32x2x128x128, .f32⟩
  | 120 => ⟨S32x2x128x128, .f32⟩
  | 121 => ⟨S32x2x128x128, .bf16⟩
  | 122 => ⟨S32x2x128x1024, .f32⟩
  | 123 => ⟨S32x2x127x1024, .f32⟩
  | 124 => ⟨S32x2x1x1024, .f32⟩
  | 125 => ⟨S32x2x128x1024, .f32⟩
  | 126 => ⟨S1x1024, .f32⟩
  | 127 => ⟨S1024, .f32⟩
  | _ => ⟨S32x2x128x1024, .bf16⟩

abbrev hbmTy0_1 (i : Nat) : BufTy := match i % 128 with
  | 0 => ⟨S1x1x1x1024, .f32⟩
  | 1 => ⟨S32x2x128x1024, .f32⟩
  | 2 => ⟨S32x2x128x1024, .f32⟩
  | 3 => ⟨S1x1024, .f32⟩
  | 4 => ⟨S1024, .f32⟩
  | 5 => ⟨S1x1x1x1024, .f32⟩
  | 6 => ⟨S32x2x128x1024, .f32⟩
  | 7 => ⟨S32x2x128x1024, .f32⟩
  | 8 => ⟨S32x2x128x2048, .f32⟩
  | 9 => ⟨S2048x256, .f32⟩
  | 10 => ⟨S32x2x128x256, .f32⟩
  | 11 => ⟨S256, .f32⟩
  | 12 => ⟨S1x1x1x256, .f32⟩
  | 13 => ⟨S32x2x128x256, .f32⟩
  | 14 => ⟨S32x2x128x256, .f32⟩
  | 15 => ⟨S_, .f32⟩
  | 16 => ⟨S32x2x128x256, .f32⟩
  | 17 => ⟨S32x2x128x256, .f32⟩
  | 18 => ⟨S32x2x128x256, .f32⟩
  | 19 => ⟨S32x2x128x256, .f32⟩
  | 20 => ⟨S_, .f32⟩
  | 21 => ⟨S32x2x128x256, .f32⟩
  | 22 => ⟨S32x2x128x256, .f32⟩
  | 23 => ⟨S32x2x128x256, .f32⟩
  | 24 => ⟨S_, .f32⟩
  | 25 => ⟨S32x2x128x256, .f32⟩
  | 26 => ⟨S32x2x128x256, .f32⟩
  | 27 => ⟨S32x2x128x256, .f32⟩
  | 28 => ⟨S_, .f32⟩
  | 29 => ⟨S32x2x128x256, .f32⟩
  | 30 => ⟨S32x2x128x256, .f32⟩
  | 31 => ⟨S32x2x128x256, .f32⟩
  | 32 => ⟨S256x128, .f32⟩
  | 33 => ⟨S32x2x128x128, .f32⟩
  | 34 => ⟨S128, .f32⟩
  | 35 => ⟨S1x1x1x128, .f32⟩
  | 36 => ⟨S32x2x128x128, .f32⟩
  | 37 => ⟨S32x2x128x128, .f32⟩
  | 38 => ⟨S32x2x128x128, .bf16⟩
  | _ => ⟨S32x2x128x1024, .bf16⟩

abbrev hbmTy (i : Nat) : BufTy := match i / 128 with
  | 0 => hbmTy0_0 i
  | 1 => hbmTy0_1 i
  | _ => ⟨S32x2x128x1024, .bf16⟩

abbrev bufTy : (tb : Table) → Fin (tcTables nBuf tb) → BufTy
  | .hbm, ⟨i, _⟩ => hbmTy i
  | _, _ => ⟨S32x2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c : Ref sig .tc := ⟨.hbm, 75, rfl⟩
abbrev main_v55 : Ref sig .tc := ⟨.hbm, 76, rfl⟩
abbrev main_v56 : Ref sig .tc := ⟨.hbm, 77, rfl⟩
abbrev main_c_6 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_7 : Ref sig .tc := ⟨.hbm, 82, rfl⟩
abbrev main_v60 : Ref sig .tc := ⟨.hbm, 83, rfl⟩
abbrev main_v61 : Ref sig .tc := ⟨.hbm, 84, rfl⟩
abbrev main_c_8 : Ref sig .tc := ⟨.hbm, 85, rfl⟩
abbrev main_v62 : Ref sig .tc := ⟨.hbm, 86, rfl⟩
abbrev main_v63 : Ref sig .tc := ⟨.hbm, 87, rfl⟩
abbrev main_c_9 : Ref sig .tc := ⟨.hbm, 88, rfl⟩
abbrev main_v64 : Ref sig .tc := ⟨.hbm, 89, rfl⟩
abbrev main_v65 : Ref sig .tc := ⟨.hbm, 90, rfl⟩
abbrev main_c_10 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_11 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_12 : Ref sig .tc := ⟨.hbm, 104, rfl⟩
abbrev main_v77 : Ref sig .tc := ⟨.hbm, 105, rfl⟩
abbrev main_v78 : Ref sig .tc := ⟨.hbm, 106, rfl⟩
abbrev main_c_13 : Ref sig .tc := ⟨.hbm, 107, rfl⟩
abbrev main_v79 : Ref sig .tc := ⟨.hbm, 108, rfl⟩
abbrev main_v80 : Ref sig .tc := ⟨.hbm, 109, rfl⟩
abbrev main_c_14 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_16 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_17 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_18 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_19 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩

abbrev nD : Nat := 1
abbrev τ : Topo := Topo.v7x

variable {F : FTy → Type} [FloatOps F]
-- ==== Nsa.lean ====
abbrev S32x2048x1024 : Shape := ⟨3, ![32, 2048, 1024]⟩
abbrev S32x2048x256 : Shape := ⟨3, ![32, 2048, 256]⟩
abbrev S32x2x128x128 : Shape := ⟨4, ![32, 2, 128, 128]⟩
abbrev S32x2048x128 : Shape := ⟨3, ![32, 2048, 128]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S1x128x512 : Shape := ⟨3, ![1, 128, 512]⟩
abbrev S1x2048x128 : Shape := ⟨3, ![1, 2048, 128]⟩
abbrev S1x1x128x128 : Shape := ⟨4, ![1, 1, 128, 128]⟩
abbrev S1x128x128 : Shape := ⟨3, ![1, 128, 128]⟩
abbrev S512x128 : Shape := ⟨2, ![512, 128]⟩
abbrev S512x1 : Shape := ⟨2, ![512, 1]⟩
abbrev S512 : Shape := ⟨1, ![512]⟩
abbrev S1x512x128 : Shape := ⟨3, ![1, 512, 128]⟩
abbrev S512x512 : Shape := ⟨2, ![512, 512]⟩
abbrev S1x512 : Shape := ⟨2, ![1, 512]⟩
abbrev S1x640x128 : Shape := ⟨3, ![1, 640, 128]⟩
abbrev S640x128 : Shape := ⟨2, ![640, 128]⟩
abbrev S512x640 : Shape := ⟨2, ![512, 640]⟩
abbrev S1x640 : Shape := ⟨2, ![1, 640]⟩

abbrev nBuf : Space → Nat
  | .hbm => 82
  | .vmem => 19
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x256, .bf16⟩
  | .hbm, ⟨2, _⟩ => ⟨S32x2048x256, .bf16⟩
  | .hbm, ⟨3, _⟩ => ⟨S32x2048x256, .bf16⟩
  | .hbm, ⟨4, _⟩ => ⟨S32x2048x256, .bf16⟩
  | .hbm, ⟨5, _⟩ => ⟨S32x2x128x128, .bf16⟩
  | .hbm, ⟨6, _⟩ => ⟨S32x2x128x128, .bf16⟩
  | .hbm, ⟨7, _⟩ => ⟨S32x2048x128, .f32⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S_, .i32⟩
  | .hbm, ⟨13, _⟩ => ⟨S1x128, .i32⟩
  | .hbm, ⟨14, _⟩ => ⟨S1x128, .i32⟩
  | .hbm, ⟨15, _⟩ => ⟨S_, .i32⟩
  | .hbm, ⟨16, _⟩ => ⟨S128x1, .i32⟩
  | .hbm, ⟨17, _⟩ => ⟨S128x1, .i32⟩
  | .hbm, ⟨18, _⟩ => ⟨S_, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i1⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x1, .i1⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S_, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x1, .i32⟩
  | .hbm, ⟨50, _⟩ => ⟨S_, .i32⟩
  | .hbm, ⟨51, _⟩ => ⟨S128x1, .i32⟩
  | .hbm, ⟨52, _⟩ => ⟨S128x1, .i1⟩
  | .hbm, ⟨53, _⟩ => ⟨S128x1, .i32⟩
  | .hbm, ⟨54, _⟩ => ⟨S128x1, .i32⟩
  | .hbm, ⟨55, _⟩ => ⟨S_, .i32⟩
  | .hbm, ⟨56, _⟩ => ⟨S128x1, .i32⟩
  | .hbm, ⟨57, _⟩ => ⟨S128x1, .i1⟩
  | .hbm, ⟨58, _⟩ => ⟨S128x1, .i1⟩
  | .hbm, ⟨59, _⟩ => ⟨S_, .i32⟩
  | .hbm, ⟨60, _⟩ => ⟨S128x1, .i32⟩
  | .hbm, ⟨61, _⟩ => ⟨S128x1, .i32⟩
  | .hbm, ⟨62, _⟩ => ⟨S128x1, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S128x128, .i1⟩
  | .hbm, ⟨70, _⟩ => ⟨S_, .i32⟩
  | .hbm, ⟨71, _⟩ => ⟨S1x128, .i32⟩
  | .hbm, ⟨72, _⟩ => ⟨S1x128, .i1⟩
  | .hbm, ⟨73, _⟩ => ⟨S128x128, .i1⟩
  | .hbm, ⟨74, _⟩ => ⟨S128x128, .i1⟩
  | .hbm, ⟨75, _⟩ => ⟨S_, .i32⟩
  | .hbm, ⟨76, _⟩ => ⟨S1x128, .i32⟩
  | .hbm, ⟨77, _⟩ => ⟨S1x128, .i1⟩
  | .hbm, ⟨78, _⟩ => ⟨S128x128, .i1⟩
  | .hbm, ⟨79, _⟩ => ⟨S128x128, .i1⟩
  | .hbm, ⟨80, _⟩ => ⟨S128x128, .bf16⟩
  | .hbm, ⟨81, _⟩ => ⟨S32x2048x1024, .bf16⟩
  | .local _ .vmem, ⟨0, _⟩ => ⟨S1x128x512, .bf16⟩
  | .local _ .vmem, ⟨1, _⟩ => ⟨S1x128x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x1x128x128, .bf16⟩
  | .local _ .vmem, ⟨11, _⟩ => ⟨S1x1x128x128, .bf16⟩
  | .local _ .vmem, ⟨12, _⟩ => ⟨S1x1x128x128, .bf16⟩
  | .local _ .vmem, ⟨13, _⟩ => ⟨S1x1x128x128, .bf16⟩
  | .local _ .vmem, ⟨14, _⟩ => ⟨S1x128x128, .f32⟩
  | .local _ .vmem, ⟨15, _⟩ => ⟨S1x128x128, .f32⟩
  | .local _ .vmem, ⟨16, _⟩ => ⟨S128x128, .bf16⟩
  | .local _ .vmem, ⟨17, _⟩ => ⟨S1x128x512, .bf16⟩
  | .local _ .vmem, ⟨18, _⟩ => ⟨S1x128x512, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_c_4 : Ref sig .tc := ⟨.hbm, 42, rfl⟩
abbrev main_v13 : Ref sig .tc := ⟨.hbm, 43, rfl⟩
abbrev main_v14 : Ref sig .tc := ⟨.hbm, 44, rfl⟩
abbrev main_c_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_0 : Ref sig .tc := ⟨.hbm, 59, rfl⟩
abbrev main_call1_v12 : Ref sig .tc := ⟨.hbm, 60, rfl⟩
abbrev main_call1_v13 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_c_6 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_c_7 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![32, 2, 16], ![false, false, false]⟩

@[reducible] def k0_t1_loop (i : grid0.Coords) : Scf.Loop 32 :=
  let c0_i32_50 : BitVec 32 := 0#32
  let arg2 : BitVec 32 := BitVec.ofNat 32 (i 2).val
  let c128_i32 : BitVec 32 := 128#32
  let v0 : BitVec 32 := Scalar.muli arg2 c128_i32
  let c0_i32_41 : BitVec 32 := 0#32
  let v535 : BitVec 1 := Scalar.cmpi .sgt v0 c0_i32_41
  let v536 : BitVec 32 := Scalar.extui v535
  let c0_i32_42 : BitVec 32 := 0#32
  let v537 : BitVec 1 := Scalar.cmpi .slt v0 c0_i32_42
  let v538 : BitVec 32 := Scalar.extui v537
  let v539 : BitVec 32 := Scalar.subi v536 v538
  let c512_i32 : BitVec 32 := 512#32
  let c0_i32_43 : BitVec 32 := 0#32
  let v540 : BitVec 1 := Scalar.cmpi .sgt c512_i32 c0_i32_43
  let v541 : BitVec 32 := Scalar.extui v540
  let c0_i32_44 : BitVec 32 := 0#32
  let v542 : BitVec 1 := Scalar.cmpi .slt c512_i32 c0_i32_44
  let v543 : BitVec 32 := Scalar.extui v542
  let v544 : BitVec 32 := Scalar.subi v541 v543
  let v545 : BitVec 1 := Scalar.cmpi .ne v539 v544
  let v546 : BitVec 32 := Scalar.remsi v0 c512_i32
  let c0_i32_45 : BitVec 32 := 0#32
  let v547 : BitVec 1 := Scalar.cmpi .ne v546 c0_i32_45
  let v548 : BitVec 1 := Scalar.andi v545 v547
  let v534 : BitVec 32 := Scalar.divsi v0 c512_i32
  let c1_i32_46 : BitVec 32 := 1#32
  let v549 : BitVec 32 := Scalar.subi v534 c1_i32_46
  let v550 : BitVec 32 := Scalar.select v548 v549 v534
  let v554 : BitVec 32 := Scalar.subi v550 c0_i32_50
  let c1_i32_51 : BitVec 32 := 1#32
  let v556 : BitVec 32 := Scalar.divsi v554 c1_i32_51
  let v557 : BitVec 32 := Scalar.muli v556 c1_i32_51
  let v558 : BitVec 32 := Scalar.addi c0_i32_50 v557
  let c1_i32_52 : BitVec 32 := 1#32
  ⟨c0_i32_50, v558, c1_i32_52⟩
def k0_mult1 (i : grid0.Coords) (k0_t1 : Fin (k0_t1_loop i).trips) : BitVec 32 :=
  let c0_i32_50 : BitVec 32 := 0#32
  let c1_i32_52 : BitVec 32 := 1#32
  let arg13 : BitVec 32 := Scf.iv c0_i32_50 c1_i32_52 k0_t1
  let c512_i32_104 : BitVec 32 := 512#32
  let v741 : BitVec 32 := Scalar.muli arg13 c512_i32_104
  v741
def k0_off1 (i : grid0.Coords) (k0_t1 : Fin (k0_t1_loop i).trips) : Fin 3 → Nat :=
  let c0_105 : Index := 0#32
  let c0_i32_50 : BitVec 32 := 0#32
  let c1_i32_52 : BitVec 32 := 1#32
  let arg13 : BitVec 32 := Scf.iv c0_i32_50 c1_i32_52 k0_t1
  let c512_i32_104 : BitVec 32 := 512#32
  let v741 : BitVec 32 := Scalar.muli arg13 c512_i32_104
  let v742 : BitVec 32 := v741
  let v743 : Index := Scalar.indexCast v742
  let c0_106 : Index := 0#32
  ![0, v743.toNat, 0]
@[reducible] def k0_t2_loop (i : grid0.Coords) : Scf.Loop 32 :=
  let c0_i32_50 : BitVec 32 := 0#32
  let arg2 : BitVec 32 := BitVec.ofNat 32 (i 2).val
  let c128_i32 : BitVec 32 := 128#32
  let v0 : BitVec 32 := Scalar.muli arg2 c128_i32
  let c0_i32_41 : BitVec 32 := 0#32
  let v535 : BitVec 1 := Scalar.cmpi .sgt v0 c0_i32_41
  let v536 : BitVec 32 := Scalar.extui v535
  let c0_i32_42 : BitVec 32 := 0#32
  let v537 : BitVec 1 := Scalar.cmpi .slt v0 c0_i32_42
  let v538 : BitVec 32 := Scalar.extui v537
  let v539 : BitVec 32 := Scalar.subi v536 v538
  let c512_i32 : BitVec 32 := 512#32
  let c0_i32_43 : BitVec 32 := 0#32
  let v540 : BitVec 1 := Scalar.cmpi .sgt c512_i32 c0_i32_43
  let v541 : BitVec 32 := Scalar.extui v540
  let c0_i32_44 : BitVec 32 := 0#32
  let v542 : BitVec 1 := Scalar.cmpi .slt c512_i32 c0_i32_44
  let v543 : BitVec 32 := Scalar.extui v542
  let v544 : BitVec 32 := Scalar.subi v541 v543
  let v545 : BitVec 1 := Scalar.cmpi .ne v539 v544
  let v546 : BitVec 32 := Scalar.remsi v0 c512_i32
  let c0_i32_45 : BitVec 32 := 0#32
  let v547 : BitVec 1 := Scalar.cmpi .ne v546 c0_i32_45
  let v548 : BitVec 1 := Scalar.andi v545 v547
  let v534 : BitVec 32 := Scalar.divsi v0 c512_i32
  let c1_i32_46 : BitVec 32 := 1#32
  let v549 : BitVec 32 := Scalar.subi v534 c1_i32_46
  let v550 : BitVec 32 := Scalar.select v548 v549 v534
  let v554 : BitVec 32 := Scalar.subi v550 c0_i32_50
  let c1_i32_51 : BitVec 32 := 1#32
  let v556 : BitVec 32 := Scalar.divsi v554 c1_i32_51
  let v557 : BitVec 32 := Scalar.muli v556 c1_i32_51
  let v558 : BitVec 32 := Scalar.addi c0_i32_50 v557
  let v555 : BitVec 32 := Scalar.addi c0_i32_50 v554
  let c1_i32_53 : BitVec 32 := 1#32
  ⟨v558, v555, c1_i32_53⟩
def k0_mult2 (i : grid0.Coords) (k0_t2 : Fin (k0_t2_loop i).trips) : BitVec 32 :=
  let c0_i32_50 : BitVec 32 := 0#32
  let arg2 : BitVec 32 := BitVec.ofNat 32 (i 2).val
  let c128_i32 : BitVec 32 := 128#32
  let v0 : BitVec 32 := Scalar.muli arg2 c128_i32
  let c0_i32_41 : BitVec 32 := 0#32
  let v535 : BitVec 1 := Scalar.cmpi .sgt v0 c0_i32_41
  let v536 : BitVec 32 := Scalar.extui v535
  let c0_i32_42 : BitVec 32 := 0#32
  let v537 : BitVec 1 := Scalar.cmpi .slt v0 c0_i32_42
  let v538 : BitVec 32 := Scalar.extui v537
  let v539 : BitVec 32 := Scalar.subi v536 v538
  let c512_i32 : BitVec 32 := 512#32
  let c0_i32_43 : BitVec 32 := 0#32
  let v540 : BitVec 1 := Scalar.cmpi .sgt c512_i32 c0_i32_43
  let v541 : BitVec 32 := Scalar.extui v540
  let c0_i32_44 : BitVec 32 := 0#32
  let v542 : BitVec 1 := Scalar.cmpi .slt c512_i32 c0_i32_44
  let v543 : BitVec 32 := Scalar.extui v542
  let v544 : BitVec 32 := Scalar.subi v541 v543
  let v545 : BitVec 1 := Scalar.cmpi .ne v539 v544
  let v546 : BitVec 32 := Scalar.remsi v0 c512_i32
  let c0_i32_45 : BitVec 32 := 0#32
  let v547 : BitVec 1 := Scalar.cmpi .ne v546 c0_i32_45
  let v548 : BitVec 1 := Scalar.andi v545 v547
  let v534 : BitVec 32 := Scalar.divsi v0 c512_i32
  let c1_i32_46 : BitVec 32 := 1#32
  let v549 : BitVec 32 := Scalar.subi v534 c1_i32_46
  let v550 : BitVec 32 := Scalar.select v548 v549 v534
  let v554 : BitVec 32 := Scalar.subi v550 c0_i32_50
  let c1_i32_51 : BitVec 32 := 1#32
  let v556 : BitVec 32 := Scalar.divsi v554 c1_i32_51
  let v557 : BitVec 32 := Scalar.muli v556 c1_i32_51
  let v558 : BitVec 32 := Scalar.addi c0_i32_50 v557
  let c1_i32_53 : BitVec 32 := 1#32
  let arg13 : BitVec 32 := Scf.iv v558 c1_i32_53 k0_t2
  let c512_i32_104 : BitVec 32 := 512#32
  let v741 : BitVec 32 := Scalar.muli arg13 c512_i32_104
  v741
def k0_off2 (i : grid0.Coords) (k0_t2 : Fin (k0_t2_loop i).trips) : Fin 3 → Nat :=
  let c0_105 : Index := 0#32
  let c0_i32_50 : BitVec 32 := 0#32
  let arg2 : BitVec 32 := BitVec.ofNat 32 (i 2).val
  let c128_i32 : BitVec 32 := 128#32
  let v0 : BitVec 32 := Scalar.muli arg2 c128_i32
  let c0_i32_41 : BitVec 32 := 0#32
  let v535 : BitVec 1 := Scalar.cmpi .sgt v0 c0_i32_41
  let v536 : BitVec 32 := Scalar.extui v535
  let c0_i32_42 : BitVec 32 := 0#32
  let v537 : BitVec 1 := Scalar.cmpi .slt v0 c0_i32_42
  let v538 : BitVec 32 := Scalar.extui v537
  let v539 : BitVec 32 := Scalar.subi v536 v538
  let c512_i32 : BitVec 32 := 512#32
  let c0_i32_43 : BitVec 32 := 0#32
  let v540 : BitVec 1 := Scalar.cmpi .sgt c512_i32 c0_i32_43
  let v541 : BitVec 32 := Scalar.extui v540
  let c0_i32_44 : BitVec 32 := 0#32
  let v542 : BitVec 1 := Scalar.cmpi .slt c512_i32 c0_i32_44
  let v543 : BitVec 32 := Scalar.extui v542
  let v544 : BitVec 32 := Scalar.subi v541 v543
  let v545 : BitVec 1 := Scalar.cmpi .ne v539 v544
  let v546 : BitVec 32 := Scalar.remsi v0 c512_i32
  let c0_i32_45 : BitVec 32 := 0#32
  let v547 : BitVec 1 := Scalar.cmpi .ne v546 c0_i32_45
  let v548 : BitVec 1 := Scalar.andi v545 v547
  let v534 : BitVec 32 := Scalar.divsi v0 c512_i32
  let c1_i32_46 : BitVec 32 := 1#32
  let v549 : BitVec 32 := Scalar.subi v534 c1_i32_46
  let v550 : BitVec 32 := Scalar.select v548 v549 v534
  let v554 : BitVec 32 := Scalar.subi v550 c0_i32_50
  let c1_i32_51 : BitVec 32 := 1#32
  let v556 : BitVec 32 := Scalar.divsi v554 c1_i32_51
  let v557 : BitVec 32 := Scalar.muli v556 c1_i32_51
  let v558 : BitVec 32 := Scalar.addi c0_i32_50 v557
  let c1_i32_53 : BitVec 32 := 1#32
  let arg13 : BitVec 32 := Scf.iv v558 c1_i32_53 k0_t2
  let c512_i32_104 : BitVec 32 := 512#32
  let v741 : BitVec 32 := Scalar.muli arg13 c512_i32_104
  let v742 : BitVec 32 := v741
  let v743 : Index := Scalar.indexCast v742
  let c0_106 : Index := 0#32
  ![0, v743.toNat, 0]
def k0_mult3 (i : grid0.Coords) : BitVec 32 :=
  let arg2 : BitVec 32 := BitVec.ofNat 32 (i 2).val
  let c128_i32 : BitVec 32 := 128#32
  let v0 : BitVec 32 := Scalar.muli arg2 c128_i32
  let c0_i32_41 : BitVec 32 := 0#32
  let v535 : BitVec 1 := Scalar.cmpi .sgt v0 c0_i32_41
  let v536 : BitVec 32 := Scalar.extui v535
  let c0_i32_42 : BitVec 32 := 0#32
  let v537 : BitVec 1 := Scalar.cmpi .slt v0 c0_i32_42
  let v538 : BitVec 32 := Scalar.extui v537
  let v539 : BitVec 32 := Scalar.subi v536 v538
  let c512_i32 : BitVec 32 := 512#32
  let c0_i32_43 : BitVec 32 := 0#32
  let v540 : BitVec 1 := Scalar.cmpi .sgt c512_i32 c0_i32_43
  let v541 : BitVec 32 := Scalar.extui v540
  let c0_i32_44 : BitVec 32 := 0#32
  let v542 : BitVec 1 := Scalar.cmpi .slt c512_i32 c0_i32_44
  let v543 : BitVec 32 := Scalar.extui v542
  let v544 : BitVec 32 := Scalar.subi v541 v543
  let v545 : BitVec 1 := Scalar.cmpi .ne v539 v544
  let v546 : BitVec 32 := Scalar.remsi v0 c512_i32
  let c0_i32_45 : BitVec 32 := 0#32
  let v547 : BitVec 1 := Scalar.cmpi .ne v546 c0_i32_45
  let v548 : BitVec 1 := Scalar.andi v545 v547
  let v534 : BitVec 32 := Scalar.divsi v0 c512_i32
  let c1_i32_46 : BitVec 32 := 1#32
  let v549 : BitVec 32 := Scalar.subi v534 c1_i32_46
  let v550 : BitVec 32 := Scalar.select v548 v549 v534
  let c512_i32_54 : BitVec 32 := 512#32
  let v561 : BitVec 32 := Scalar.muli v550 c512_i32_54
  v561
def k0_off3 (i : grid0.Coords) : Fin 3 → Nat :=
  let c0_55 : Index := 0#32
  let arg2 : BitVec 32 := BitVec.ofNat 32 (i 2).val
  let c128_i32 : BitVec 32 := 128#32
  let v0 : BitVec 32 := Scalar.muli arg2 c128_i32
  let c0_i32_41 : BitVec 32 := 0#32
  let v535 : BitVec 1 := Scalar.cmpi .sgt v0 c0_i32_41
  let v536 : BitVec 32 := Scalar.extui v535
  let c0_i32_42 : BitVec 32 := 0#32
  let v537 : BitVec 1 := Scalar.cmpi .slt v0 c0_i32_42
  let v538 : BitVec 32 := Scalar.extui v537
  let v539 : BitVec 32 := Scalar.subi v536 v538
  let c512_i32 : BitVec 32 := 512#32
  let c0_i32_43 : BitVec 32 := 0#32
  let v540 : BitVec 1 := Scalar.cmpi .sgt c512_i32 c0_i32_43
  let v541 : BitVec 32 := Scalar.extui v540
  let c0_i32_44 : BitVec 32 := 0#32
  let v542 : BitVec 1 := Scalar.cmpi .slt c512_i32 c0_i32_44
  let v543 : BitVec 32 := Scalar.extui v542
  let v544 : BitVec 32 := Scalar.subi v541 v543
  let v545 : BitVec 1 := Scalar.cmpi .ne v539 v544
  let v546 : BitVec 32 := Scalar.remsi v0 c512_i32
  let c0_i32_45 : BitVec 32 := 0#32
  let v547 : BitVec 1 := Scalar.cmpi .ne v546 c0_i32_45
  let v548 : BitVec 1 := Scalar.andi v545 v547
  let v534 : BitVec 32 := Scalar.divsi v0 c512_i32
  let c1_i32_46 : BitVec 32 := 1#32
  let v549 : BitVec 32 := Scalar.subi v534 c1_i32_46
  let v550 : BitVec 32 := Scalar.select v548 v549 v534
  let c512_i32_54 : BitVec 32 := 512#32
  let v561 : BitVec 32 := Scalar.muli v550 c512_i32_54
  let v562 : BitVec 32 := v561
  let v563 : Index := Scalar.indexCast v562
  let c0_56 : Index := 0#32
  ![0, v563.toNat, 0]
def k0_mult4 (i : grid0.Coords) : BitVec 32 :=
  let arg2 : BitVec 32 := BitVec.ofNat 32 (i 2).val
  let c128_i32 : BitVec 32 := 128#32
  let v0 : BitVec 32 := Scalar.muli arg2 c128_i32
  let c512_i32_64 : BitVec 32 := 512#32
  let v597 : BitVec 32 := Scalar.subi v0 c512_i32_64
  let c0_i32_65 : BitVec 32 := 0#32
  let v598 : BitVec 32 := Scalar.maxsi v597 c0_i32_65
  v598
def k0_off4 (i : grid0.Coords) : Fin 3 → Nat :=
  let c0_66 : Index := 0#32
  let arg2 : BitVec 32 := BitVec.ofNat 32 (i 2).val
  let c128_i32 : BitVec 32 := 128#32
  let v0 : BitVec 32 := Scalar.muli arg2 c128_i32
  let c512_i32_64 : BitVec 32 := 512#32
  let v597 : BitVec 32 := Scalar.subi v0 c512_i32_64
  let c0_i32_65 : BitVec 32 := 0#32
  let v598 : BitVec 32 := Scalar.maxsi v597 c0_i32_65
  let v599 : BitVec 32 := v598
  let v600 : Index := Scalar.indexCast v599
  let c0_67 : Index := 0#32
  ![0, v600.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Router.lean ====
abbrev S65536x1024 : Shape := ⟨2, ![65536, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S65536x128 : Shape := ⟨2, ![65536, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 16
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x32, .f32⟩
  | .hbm, ⟨3, _⟩ => ⟨S32, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S1x1024, .f32⟩
  | .hbm, ⟨12, _⟩ => ⟨S65536x128, .i32⟩
  | .hbm, ⟨13, _⟩ => ⟨S65536x128, .f32⟩
  | .hbm, ⟨14, _⟩ => ⟨S65536x128, .i32⟩
  | .hbm, ⟨15, _⟩ => ⟨S1x128, .i32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S256x128, .i32⟩
  | .local _ .vmem, ⟨6, _⟩ => ⟨S256x128, .i32⟩
  | .local _ .vmem, ⟨7, _⟩ => ⟨S256x128, .f32⟩
  | .local _ .vmem, ⟨8, _⟩ => ⟨S256x128, .f32⟩
  | .local _ .vmem, ⟨9, _⟩ => ⟨S256x128, .i32⟩
  | .local _ .vmem, ⟨10, _⟩ => ⟨S256x128, .i32⟩
  | .local _ .vmem, ⟨11, _⟩ => ⟨S1x128, .i32⟩
  | .local _ .vmem, ⟨12, _⟩ => ⟨S1x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Proof.Online.lean ====
/-
  Softmax over a list of scores taken piece by piece, over the extended reals. Scores are never +∞ (a masked one
  is −∞), values are anything. `top s n` is the largest of the first `n` scores, `den s n` the sum of their
  exponentials against it, `num s v n` the sum of those exponentials times the values. `top_add`, `den_add` and
  `num_add` say how the three move when `t` more scores arrive; `num_div_den` says that the quotient at the end is
  the softmax-weighted sum over any longer list whose further scores are all −∞.
-/
module

public import Idealize.ShloMosaic.PureOps.Ideal
public import Idealize.ShloMosaic.Lib.Pointwise

@[expose] public section

noncomputable section

namespace Cert.Online

open Idealize.ShloMosaic

/-- The f32 pattern of −∞ is −∞. -/
theorem ofBits_neg_inf : Ideal.ofBits .f32 0xFF800000#32 = ⊥ := by
  simp [Ideal.ofBits, Ideal.ieee]

/-- The exponential of −∞ is 0. -/
theorem exp_bot : Ideal.exp ⊥ = 0 := rfl

/-- The exponential of a real is the real exponential. -/
theorem exp_coe (r : ℝ) : Ideal.exp (r : EReal) = ((Real.exp r : ℝ) : EReal) := rfl

/-- Away from +∞ the exponential is a nonnegative real. -/
theorem exp_real {x : EReal} (h : x ≠ ⊤) : ∃ r : ℝ, 0 ≤ r ∧ Ideal.exp x = (r : EReal) := by
  induction x using EReal.rec with
  | bot => exact ⟨0, le_refl _, rfl⟩
  | coe r => exact ⟨Real.exp r, (Real.exp_pos r).le, rfl⟩
  | top => exact absurd rfl h

/-- A nonnegative real factor goes into a finite sum of extended reals. -/
theorem real_mul_sum {ι : Type} (A : Finset ι) (f : ι → EReal) {a : EReal} (h0 : 0 ≤ a) (ht : a ≠ ⊤) :
    a * ∑ k ∈ A, f k = ∑ k ∈ A, a * f k := by
  classical
  induction A using Finset.induction_on with
  | empty => simp
  | insert x B hx ih =>
    rw [Finset.sum_insert hx, Finset.sum_insert hx, EReal.left_distrib_of_nonneg_of_ne_top h0 ht, ih]

/-- Changing the reference point of an exponential from `m` to a larger `m'`. -/
theorem exp_rebase {x m m' : EReal} (hx : x ≤ m) (hm : m ≤ m') (ht : m' ≠ ⊤) :
    Ideal.exp (m - m') * Ideal.exp (x - m) = Ideal.exp (x - m') := by
  induction m' using EReal.rec with
  | top => exact absurd rfl ht
  | bot =>
    obtain rfl := le_bot_iff.1 hm
    obtain rfl := le_bot_iff.1 hx
    simp [exp_bot]
  | coe c =>
    induction m using EReal.rec with
    | top => exact absurd hm (not_le.2 (EReal.coe_lt_top c))
    | bot =>
      obtain rfl := le_bot_iff.1 hx
      simp [exp_bot]
    | coe b =>
      induction x using EReal.rec with
      | top => exact absurd hx (not_le.2 (EReal.coe_lt_top b))
      | bot => simp [exp_bot]
      | coe a =>
        rw [← EReal.coe_sub, ← EReal.coe_sub, ← EReal.coe_sub, exp_coe, exp_coe, exp_coe, ← EReal.coe_mul,
          ← Real.exp_add]
        congr 2; ring

/-- A difference of a score against a bound above it is not +∞, when the bound is not. -/
theorem sub_ne_top {x m : EReal} (hx : x ≤ m) (ht : m ≠ ⊤) : x - m ≠ ⊤ := by
  induction m using EReal.rec with
  | top => exact absurd rfl ht
  | bot => obtain rfl := le_bot_iff.1 hx; simp
  | coe b =>
    induction x using EReal.rec with
    | top => exact absurd hx (not_le.2 (EReal.coe_lt_top b))
    | bot => simp
    | coe a => rw [← EReal.coe_sub]; exact EReal.coe_ne_top _

/-- The exponential of such a difference is nonnegative. -/
theorem exp_sub_nonneg {x m : EReal} (hx : x ≤ m) (ht : m ≠ ⊤) : 0 ≤ Ideal.exp (x - m) := by
  obtain ⟨r, hr, e⟩ := exp_real (sub_ne_top hx ht)
  rw [e]; exact_mod_cast hr

/-- … and not +∞. -/
theorem exp_sub_ne_top {x m : EReal} (hx : x ≤ m) (ht : m ≠ ⊤) : Ideal.exp (x - m) ≠ ⊤ := by
  obtain ⟨r, -, e⟩ := exp_real (sub_ne_top hx ht)
  rw [e]; exact EReal.coe_ne_top _

/-- The largest of the first `n` scores. -/
def top (s : ℕ → EReal) (n : ℕ) : EReal := (Finset.range n).sup s

/-- The sum of the exponentials of the first `n` scores against the largest. -/
def den (s : ℕ → EReal) (n : ℕ) : EReal := ∑ k ∈ Finset.range n, Ideal.exp (s k - top s n)

/-- The sum of those exponentials times the values. -/
def num (s v : ℕ → EReal) (n : ℕ) : EReal := ∑ k ∈ Finset.range n, Ideal.exp (s k - top s n) * v k

variable {s v : ℕ → EReal}

theorem top_zero : top s 0 = ⊥ := by simp [top]
theorem den_zero : den s 0 = 0 := by simp [den]
theorem num_zero : num s v 0 = 0 := by simp [num]

theorem le_top {n k : ℕ} (h : k < n) : s k ≤ top s n := Finset.le_sup (f := s) (Finset.mem_range.2 h)

/-- No score is +∞, so neither is the largest. -/
theorem top_ne_top (hs : ∀ k, s k ≠ ⊤) (n : ℕ) : top s n ≠ ⊤ := by
  induction n with
  | zero => rw [top_zero]; exact bot_ne_top
  | succ n ih =>
    rw [top, Finset.range_add_one, Finset.sup_insert]
    intro h
    rcases max_choice (s n) ((Finset.range n).sup s) with h' | h'
    · exact hs n (h'.symm.trans h)
    · exact ih (h'.symm.trans h)

/-- The largest of `n + t` scores: of the first `n` and of the `t` that follow. -/
theorem top_add (n t : ℕ) :
    top s (n + t) = max (top s n) (Finset.univ.fold max ⊥ fun x : Fin t => s (n + x.val)) := by
  have e : (Finset.univ.fold max ⊥ fun x : Fin t => s (n + x.val)) = Finset.univ.sup fun x : Fin t => s (n + x.val) := rfl
  rw [e]
  apply le_antisymm
  · refine Finset.sup_le fun k hk => ?_
    have hk := Finset.mem_range.1 hk
    by_cases h : k < n
    · exact le_max_of_le_left (le_top h)
    · refine le_max_of_le_right ?_
      have := Finset.le_sup (f := fun x : Fin t => s (n + x.val)) (Finset.mem_univ (⟨k - n, by omega⟩ : Fin t))
      simpa [show n + (k - n) = k by omega] using this
  · refine max_le (Finset.sup_mono (Finset.range_mono (by omega))) (Finset.sup_le fun x _ => le_top (by omega))

/-- The same for the sum of exponentials: the old sum rescaled, plus the new terms. -/
theorem den_add (hs : ∀ k, s k ≠ ⊤) (n t : ℕ) :
    den s (n + t) = Ideal.exp (top s n - top s (n + t)) * den s n
      + ∑ x : Fin t, Ideal.exp (s (n + x.val) - top s (n + t)) := by
  have hle : top s n ≤ top s (n + t) := Finset.sup_mono (Finset.range_mono (by omega))
  have ht := top_ne_top hs (n + t)
  rw [den, Finset.sum_range_add, ← Fin.sum_univ_eq_sum_range (fun x => Ideal.exp (s (n + x) - top s (n + t))) t, den,
    real_mul_sum _ _ (exp_sub_nonneg hle ht) (exp_sub_ne_top hle ht)]
  congr 1
  refine Finset.sum_congr rfl fun k hk => (exp_rebase (le_top (Finset.mem_range.1 hk)) hle ht).symm

/-- The same for the sum of exponentials times values. -/
theorem num_add (hs : ∀ k, s k ≠ ⊤) (n t : ℕ) :
    num s v (n + t) = Ideal.exp (top s n - top s (n + t)) * num s v n
      + ∑ x : Fin t, Ideal.exp (s (n + x.val) - top s (n + t)) * v (n + x.val) := by
  have hle : top s n ≤ top s (n + t) := Finset.sup_mono (Finset.range_mono (by omega))
  have ht := top_ne_top hs (n + t)
  rw [num, Finset.sum_range_add,
    ← Fin.sum_univ_eq_sum_range (fun x => Ideal.exp (s (n + x) - top s (n + t)) * v (n + x)) t, num,
    real_mul_sum _ _ (exp_sub_nonneg hle ht) (exp_sub_ne_top hle ht)]
  congr 1
  refine Finset.sum_congr rfl fun k hk => ?_
  rw [← mul_assoc, exp_rebase (le_top (Finset.mem_range.1 hk)) hle ht]

/-- Scores of −∞ after the first `n` change no largest score. -/
theorem top_pad {n N : ℕ} (hN : n ≤ N) (hm : ∀ k, n ≤ k → k < N → s k = ⊥) : top s N = top s n := by
  apply le_antisymm
  · refine Finset.sup_le fun k hk => ?_
    have hk := Finset.mem_range.1 hk
    by_cases h : k < n
    · exact le_top h
    · rw [hm k (by omega) hk]; exact bot_le
  · exact Finset.sup_mono (Finset.range_mono hN)

/-- … and no sum of exponentials. -/
theorem den_pad {n N : ℕ} (hN : n ≤ N) (hm : ∀ k, n ≤ k → k < N → s k = ⊥) : den s N = den s n := by
  rw [den, den, top_pad hN hm]
  refine (Finset.sum_subset (Finset.range_mono hN) fun k hk hk' => ?_).symm
  rw [hm k (by simpa using hk') (Finset.mem_range.1 hk)]; simp [exp_bot]

/-- With one score a real, the sum of exponentials is a positive real. -/
theorem den_pos (hs : ∀ k, s k ≠ ⊤) {n : ℕ} (hn : 0 < n) (h0 : s 0 ≠ ⊥) : ∃ r : ℝ, 0 < r ∧ den s n = (r : EReal) := by
  have ht := top_ne_top hs n
  have hb : top s n ≠ ⊥ := fun h => h0 (le_bot_iff.1 (h ▸ le_top hn))
  have hreal : ∀ k ∈ Finset.range n, ∃ r : ℝ, 0 ≤ r ∧ Ideal.exp (s k - top s n) = (r : EReal) := fun k hk =>
    exp_real (sub_ne_top (le_top (Finset.mem_range.1 hk)) ht)
  have h0r : ∃ r : ℝ, 0 < r ∧ Ideal.exp (s 0 - top s n) = (r : EReal) := by
    lift top s n to ℝ using ⟨ht, hb⟩ with b
    have := hs 0
    lift s 0 to ℝ using ⟨this, h0⟩ with a
    exact ⟨Real.exp (a - b), Real.exp_pos _, by rw [← EReal.coe_sub, exp_coe]⟩
  choose! f hf0 hf using hreal
  obtain ⟨r, hr, er⟩ := h0r
  refine ⟨∑ k ∈ Finset.range n, f k, ?_, ?_⟩
  · have e0 : f 0 = r := by
      have := hf 0 (Finset.mem_range.2 hn)
      rw [er] at this
      exact_mod_cast this.symm
    exact lt_of_lt_of_le (e0 ▸ hr) (Finset.single_le_sum (fun k hk => hf0 k hk) (Finset.mem_range.2 hn))
  · have coe_sum : ∀ A : Finset ℕ, ((∑ k ∈ A, f k : ℝ) : EReal) = ∑ k ∈ A, (f k : EReal) := by
      intro A
      classical
      induction A using Finset.induction_on with
      | empty => simp
      | insert x B hx ih => rw [Finset.sum_insert hx, Finset.sum_insert hx, EReal.coe_add, ih]
    rw [den, coe_sum]
    exact Finset.sum_congr rfl hf

/-- Division by a positive real is multiplication by its inverse, a nonnegative real. -/
theorem div_pos (x : EReal) {r : ℝ} (hr : 0 < r) : Ideal.div x (r : EReal) = ((r⁻¹ : ℝ) : EReal) * x := by
  rw [Ideal.div, if_neg (by exact_mod_cast hr.ne'), mul_comm, EReal.coe_inv]

/-- The quotient after the first `n` scores is the softmax-weighted sum of the values over any longer list whose
    further scores are −∞. -/
theorem num_div_den (hs : ∀ k, s k ≠ ⊤) {n N : ℕ} (hn : 0 < n) (hN : n ≤ N) (h0 : s 0 ≠ ⊥)
    (hm : ∀ k, n ≤ k → k < N → s k = ⊥) :
    Ideal.div (num s v n) (den s n)
      = ∑ k : Fin N, Ideal.div (Ideal.exp (s k.val - top s N)) (den s N) * v k.val := by
  obtain ⟨r, hr, e⟩ := den_pos hs hn h0
  rw [den_pad hN hm, top_pad hN hm, e, Fin.sum_univ_eq_sum_range (fun k => Ideal.div (Ideal.exp (s k - top s n)) (r : EReal) * v k) N,
    div_pos _ hr, num, real_mul_sum _ _ (by exact_mod_cast (inv_pos.2 hr).le) (EReal.coe_ne_top _)]
  rw [← Finset.sum_subset (Finset.range_mono hN) (f := fun k => Ideal.div (Ideal.exp (s k - top s n)) (r : EReal) * v k)
    fun k hk hk' => ?_]
  · refine Finset.sum_congr rfl fun k _ => ?_
    rw [div_pos _ hr, mul_assoc]
  · show Ideal.div (Ideal.exp (s k - top s n)) (r : EReal) * v k = 0
    rw [hm k (by simpa using hk') (Finset.mem_range.1 hk), div_pos _ hr]; simp [exp_bot]

end Cert.Online

end
-- ==== Proof.FoxWords.lean ====
module

public import Idealize.ShloMosaic.Lib.Pointwise

@[expose] public section

namespace Cert.FoxWords

open Idealize.ShloMosaic

/-- A small number as a signed word is itself. -/
theorem toInt_small (z : ℕ) (h : z < 4096) : (BitVec.ofNat 32 z).toInt = (z : ℤ) := by
  rw [BitVec.toInt_eq_toNat_of_lt] <;> rw [BitVec.toNat_ofNat] <;> omega

/-- A comparison of two small numbers as words chooses as the comparison of the numbers. -/
theorem sel_ge {α : Type} (a b : ℕ) (ha : a < 4096) (hb : b < 4096) (x y : α) :
    Scalar.select (IntOp.cmpi .sge (BitVec.ofNat 32 a) (BitVec.ofNat 32 b)) x y = if b ≤ a then x else y := by
  unfold Scalar.select IntOp.cmpi
  simp only [BitVec.sle, toInt_small a ha, toInt_small b hb, Nat.cast_le]
  by_cases h : b ≤ a <;> simp [h]

/-- … and so the other way round. -/
theorem sel_le {α : Type} (a b : ℕ) (ha : a < 4096) (hb : b < 4096) (x y : α) :
    Scalar.select (IntOp.cmpi .sle (BitVec.ofNat 32 a) (BitVec.ofNat 32 b)) x y = if a ≤ b then x else y := by
  unfold Scalar.select IntOp.cmpi
  simp only [BitVec.sle, toInt_small a ha, toInt_small b hb, Nat.cast_le]
  by_cases h : a ≤ b <;> simp [h]

end Cert.FoxWords
-- ==== Proof.FoxTile.lean ====
module

public import proofs.«01_k».proof.Proof.Gen.FoxIdeal.Skeleton
public import proofs.«01_k».proof.Proof.Online
public import proofs.«01_k».proof.Proof.FoxWords
public import Idealize.ShloMosaic.Lib.Pointwise

@[expose] public section

set_option maxRecDepth 16384

noncomputable section

open Idealize.ShloMosaic Idealize.ShloMosaic.TcCoe Idealize.SL.Sem

namespace Cert.FoxIdeal.Tile

open Cert.FoxIdeal Cert.FoxIdeal.Gen Cert.Online

/-- The loop starts from the largest of no scores. -/
theorem init_top (s : ℕ → EReal) (r : Fin 256) : k0_pay3 (F := Ideal) (ix2 r 0) = top s 0 := by
  rw [top_zero]; rfl

/-- … the sum of no exponentials … -/
theorem init_den (s : ℕ → EReal) (r : Fin 256) : k0_pay4 (F := Ideal) (ix2 r 0) = den s 0 := by
  rw [den_zero]; pointwise [k0_pay4]

/-- … and the sum of no weighted values. -/
theorem init_num (s v : ℕ → EReal) (r : Fin 256) (d : Fin 128) : k0_pay5 (F := Ideal) (ix2 r d) = num s v 0 := by
  rw [num_zero]; pointwise [k0_pay5]

variable (Q Kt Vt : S1x256x128.Idx → EReal) (M L : S256x1.Idx → EReal) (C : S256x128.Idx → EReal)

/-- One tile's scores: row `r` of the queries against row `x` of the keys. -/
theorem scores (r x : Fin 256) : k0_pay6 (F := Ideal) Q Kt (ix2 r x) = ∑ e : Fin 128, Q (ix3 0 r e) * Kt (ix3 0 x e) := by
  pointwise [k0_pay6, k0_pay2]

/-- The largest score so far: of those before and the tile's. -/
theorem max_apply (r : Fin 256) : k0_pay7 (F := Ideal) Q M Kt (ix2 r 0)
    = max (M (ix2 r 0)) (Finset.univ.fold max ⊥ fun x : Fin 256 => (show EReal from k0_pay6 (F := Ideal) Q Kt (ix2 r x))) := by
  pointwise [k0_pay7, ofBits_neg_inf]

/-- The factor that rescales what was accumulated. -/
theorem alpha_apply (r : Fin 256) : k0_pay8 (F := Ideal) Q M Kt (ix2 r 0) = Ideal.exp (M (ix2 r 0) - k0_pay7 (F := Ideal) Q M Kt (ix2 r 0)) := by
  pointwise [k0_pay8]

/-- The tile's exponentials. -/
theorem p_apply (r x : Fin 256) : k0_pay9 (F := Ideal) Q M Kt (ix2 r x)
    = Ideal.exp (k0_pay6 (F := Ideal) Q Kt (ix2 r x) - k0_pay7 (F := Ideal) Q M Kt (ix2 r 0)) := by
  pointwise [k0_pay9]

/-- The sum of exponentials after the tile. -/
theorem den_apply (r : Fin 256) : k0_pay10 (F := Ideal) Q M L Kt (ix2 r 0)
    = (show EReal from k0_pay8 (F := Ideal) Q M Kt (ix2 r 0)) * L (ix2 r 0) + ∑ x : Fin 256, (show EReal from k0_pay9 (F := Ideal) Q M Kt (ix2 r x)) := by
  pointwise [k0_pay10]

/-- The weighted sum of values after the tile. -/
theorem num_apply (r : Fin 256) (d : Fin 128) : k0_pay11 (F := Ideal) Q M C Kt Vt (ix2 r d)
    = (show EReal from k0_pay8 (F := Ideal) Q M Kt (ix2 r 0)) * C (ix2 r d)
      + ∑ x : Fin 256, (show EReal from k0_pay9 (F := Ideal) Q M Kt (ix2 r x)) * Vt (ix3 0 x d) := by
  pointwise [k0_pay11]

/-- The last tile's scores: row `x` of the keys is seen by row `r` of the queries when `x ≤ r`. -/
theorem dscores (r x : Fin 256) : k0_pay18 (F := Ideal) Q Kt (ix2 r x)
    = if x.val ≤ r.val then ∑ e : Fin 128, Q (ix3 0 r e) * Kt (ix3 0 x e) else ⊥ := by
  pointwise [k0_pay18, k0_pay2]
  rw [FoxWords.sel_ge r.val x.val (by omega) (by omega)]
  rfl

/-- The largest score after the last tile. -/
theorem dmax_apply (r : Fin 256) : k0_pay19 (F := Ideal) Q M Kt (ix2 r 0)
    = max (M (ix2 r 0)) (Finset.univ.fold max ⊥ fun x : Fin 256 => (show EReal from k0_pay18 (F := Ideal) Q Kt (ix2 r x))) := by
  pointwise [k0_pay19, ofBits_neg_inf]

/-- The factor that rescales what was accumulated before the last tile. -/
theorem dalpha_apply (r : Fin 256) : k0_pay20 (F := Ideal) Q M Kt (ix2 r 0) = Ideal.exp (M (ix2 r 0) - k0_pay19 (F := Ideal) Q M Kt (ix2 r 0)) := by
  pointwise [k0_pay20]

/-- The last tile's exponentials. -/
theorem dp_apply (r x : Fin 256) : k0_pay21 (F := Ideal) Q M Kt (ix2 r x)
    = Ideal.exp (k0_pay18 (F := Ideal) Q Kt (ix2 r x) - k0_pay19 (F := Ideal) Q M Kt (ix2 r 0)) := by
  pointwise [k0_pay21]

/-- The sum of exponentials after the last tile. -/
theorem dden_apply (r : Fin 256) : k0_pay22 (F := Ideal) Q M L Kt (ix2 r 0)
    = (show EReal from k0_pay20 (F := Ideal) Q M Kt (ix2 r 0)) * L (ix2 r 0) + ∑ x : Fin 256, (show EReal from k0_pay21 (F := Ideal) Q M Kt (ix2 r x)) := by
  pointwise [k0_pay22]

/-- What the block stores: the weighted sum of values after the last tile over the sum of exponentials. -/
theorem out_apply (D : S256x1.Idx → EReal) (r : Fin 256) (d : Fin 128) :
    k0_pay1 (F := Ideal) D (k0_pay23 (F := Ideal) Q M C Kt) (k0_pay24 (F := Ideal) Q M Kt) Vt (ix3 0 r d)
    = Ideal.div ((show EReal from k0_pay20 (F := Ideal) Q M Kt (ix2 r 0)) * C (ix2 r d)
      + ∑ x : Fin 256, (show EReal from k0_pay21 (F := Ideal) Q M Kt (ix2 r x)) * Vt (ix3 0 x d)) (D (ix2 r 0)) := by
  pointwise [k0_pay1, k0_pay23, k0_pay24]

variable {s v : ℕ → EReal} (hs : ∀ k, s k ≠ ⊤) (n : ℕ) (r : Fin 256) (d : Fin 128)
  (hM : M (ix2 r 0) = top s n) (hL : L (ix2 r 0) = den s n) (hC : C (ix2 r d) = num s v n)
  (hv : ∀ x : Fin 256, Vt (ix3 0 x d) = v (n + x.val))

section Step
variable (hk : ∀ x : Fin 256, (∑ e : Fin 128, Q (ix3 0 r e) * Kt (ix3 0 x e)) = s (n + x.val))
include hs hM hk

/-- A full tile moves the largest score from the first `n` to the first `n + 256`. -/
theorem step_top : k0_pay7 (F := Ideal) Q M Kt (ix2 r 0) = top s (n + 256) := by
  rw [max_apply, top_add, ← hM]
  simp only [scores, hk]

include hL in
/-- … and the sum of exponentials … -/
theorem step_den : k0_pay10 (F := Ideal) Q M L Kt (ix2 r 0) = den s (n + 256) := by
  rw [den_apply, den_add hs, alpha_apply, step_top Q Kt M hs n r hM hk, ← hM, ← hL]
  simp only [p_apply, step_top Q Kt M hs n r hM hk, scores, hk]

include hC hv in
/-- … and the weighted sum of values. -/
theorem step_num : k0_pay11 (F := Ideal) Q M C Kt Vt (ix2 r d) = num s v (n + 256) := by
  rw [num_apply, num_add hs, alpha_apply, step_top Q Kt M hs n r hM hk, ← hM, ← hC]
  simp only [p_apply, step_top Q Kt M hs n r hM hk, scores, hk, hv]

end Step

section Last
variable (hk : ∀ x : Fin 256, (if x.val ≤ r.val then ∑ e : Fin 128, Q (ix3 0 r e) * Kt (ix3 0 x e) else ⊥) = s (n + x.val))
include hs hM hk

/-- The last tile moves the largest score likewise. -/
theorem last_top : k0_pay19 (F := Ideal) Q M Kt (ix2 r 0) = top s (n + 256) := by
  rw [dmax_apply, top_add, ← hM]
  simp only [dscores, hk]

include hL hC hv in
/-- What the block stores at row `r`, column `d`: the quotient of the two sums over the first `n + 256` scores. -/
theorem last_out :
    k0_pay1 (F := Ideal) (k0_pay22 (F := Ideal) Q M L Kt) (k0_pay23 (F := Ideal) Q M C Kt) (k0_pay24 (F := Ideal) Q M Kt) Vt (ix3 0 r d)
      = Ideal.div (num s v (n + 256)) (den s (n + 256)) := by
  rw [out_apply, dden_apply, num_add hs, den_add hs, dalpha_apply, last_top Q Kt M hs n r hM hk, ← hM, ← hC, ← hL]
  simp only [dp_apply, last_top Q Kt M hs n r hM hk, dscores, hk, hv]

end Last

end Cert.FoxIdeal.Tile
end
-- ==== Proof.FoxOff.lean ====
module

public import proofs.«01_k».proof.Proof.Gen.FoxIdeal.Value

@[expose] public section

set_option maxRecDepth 16384

noncomputable section

open Idealize.ShloMosaic Idealize.ShloMosaic.TcCoe Idealize.SL.Sem

namespace Cert.FoxIdeal.Off

open Cert.FoxIdeal Cert.FoxIdeal.Gen

/-- The first loop runs as many trips as the block's number among the query blocks. -/
theorem trips1 : ∀ i : grid0.Coords, (k0_t1_loop i).trips = (i 2).val := by decide +kernel

/-- The second loop runs no trip. -/
theorem trips2 : ∀ i : grid0.Coords, (k0_t2_loop i).trips = 0 := by decide +kernel

/-- Trip `k` of the first loop reads keys `256k … 256k + 255`. -/
theorem off1 : ∀ (i : grid0.Coords) (k : Fin (k0_t1_loop i).trips), k0_off1 i k = ![0, 256 * k.val, 0] := by decide +kernel

/-- The last tile's keys are the block's own rows. -/
theorem off3 : ∀ i : grid0.Coords, k0_off3 i = ![0, 256 * (i 2).val, 0] := by decide +kernel

/-- Where each of the four blocks of a grid point lies: queries and result in block row `i`, keys and values whole, all of sequence `b`, head `h`. -/
theorem idx : ∀ t : Fin cfg0.N, win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

end Cert.FoxIdeal.Off
end
-- ==== Proof.FoxScore.lean ====
module

public import proofs.«01_k».proof.Proof.Online
public import Idealize.ShloMosaic.Lib.Pointwise

@[expose] public section

set_option maxRecDepth 16384

noncomputable section

open Idealize.ShloMosaic Idealize.ShloMosaic.TcCoe Idealize.SL.Sem

namespace Cert.FoxScore

open Cert.Online

/-- Queries, keys, values and the result: 32 sequences of 2048 positions of 8 heads of 128 columns. -/
abbrev S : Shape := ⟨3, ![32, 2048, 1024]⟩

/-- Column `e` of head `h`. -/
abbrev col (h : Fin 8) (e : Fin 128) : Fin 1024 := ⟨128 * h.val + e.val, by omega⟩

variable (Q K V : S.Idx → EReal)

/-- The score of key `k` for query `R` of sequence `b`, head `h`: their dot product, −∞ for a later key. -/
def score (b : Fin 32) (h : Fin 8) (R : Fin 2048) (k : ℕ) : EReal :=
  if hk : k < 2048 then if k ≤ R.val then ∑ e : Fin 128, Q (ix3 b R (col h e)) * K (ix3 b ⟨k, hk⟩ (col h e)) else ⊥ else ⊥

/-- Column `d` of head `h` of the value at position `k`. -/
def value (b : Fin 32) (h : Fin 8) (d : Fin 128) (k : ℕ) : EReal :=
  if hk : k < 2048 then V (ix3 b ⟨k, hk⟩ (col h d)) else 0

/-- The attention: the values weighted by the softmax of the scores. -/
def attn (b : Fin 32) (h : Fin 8) (R : Fin 2048) (d : Fin 128) : EReal :=
  ∑ k : Fin 2048, Ideal.div (Ideal.exp (score Q K b h R k.val - top (score Q K b h R) 2048)) (den (score Q K b h R) 2048) * value V b h d k.val

/-- The attention of every head, laid out as the kernel does. -/
def whole : S.Idx → EReal := fun j =>
  attn Q K V (j 0) ⟨(j 2).val / 128, by have : (j 2).val < 1024 := (j 2).isLt; omega⟩ (j 1) ⟨(j 2).val % 128, by omega⟩

/-- Row `R`, column `d` of head `h` of the whole is that head's attention. -/
theorem whole_apply (b : Fin 32) (h : Fin 8) (R : Fin 2048) (d : Fin 128) : whole Q K V (ix3 b R (col h d)) = attn Q K V b h R d := by
  have e1 : (128 * h.val + d.val) / 128 = h.val := by omega
  have e2 : (128 * h.val + d.val) % 128 = d.val := by omega
  show attn Q K V b ⟨(128 * h.val + d.val) / 128, _⟩ R ⟨(128 * h.val + d.val) % 128, _⟩ = _
  congr 1
  · exact Fin.ext e1
  · exact Fin.ext e2

/-- A key no later than the query has the dot product as score. -/
theorem score_of_le {b : Fin 32} {h : Fin 8} {R : Fin 2048} (k : Fin 2048) (hk : k.val ≤ R.val) :
    score Q K b h R k.val = ∑ e : Fin 128, Q (ix3 b R (col h e)) * K (ix3 b k (col h e)) := by
  unfold score; rw [dif_pos k.isLt, if_pos hk]

/-- A later key has the score −∞. -/
theorem score_of_lt {b : Fin 32} {h : Fin 8} {R : Fin 2048} (k : ℕ) (hk : R.val < k) : score Q K b h R k = ⊥ := by
  unfold score; split
  · exact if_neg (by omega)
  · rfl

/-- The value at a position of the sequence. -/
theorem value_eq {b : Fin 32} {h : Fin 8} {d : Fin 128} (k : Fin 2048) : value V b h d k.val = V (ix3 b k (col h d)) := by
  unfold value; rw [dif_pos k.isLt]

variable {Q K}

/-- A finite extended real is a real. -/
theorem exists_coe {x : EReal} (h : x ≠ ⊤ ∧ x ≠ ⊥) : ∃ a : ℝ, x = (a : EReal) :=
  ⟨x.toReal, (EReal.coe_toReal h.1 h.2).symm⟩

/-- A sum of products of reals is finite. -/
theorem sum_real {n : ℕ} (f g : Fin n → EReal) (hf : ∀ i, f i ≠ ⊤ ∧ f i ≠ ⊥) (hg : ∀ i, g i ≠ ⊤ ∧ g i ≠ ⊥) :
    (∑ i, f i * g i) ≠ ⊤ ∧ (∑ i, f i * g i) ≠ ⊥ := by
  choose a ha using fun i => exists_coe (hf i)
  choose b hb using fun i => exists_coe (hg i)
  have e : (∑ i, f i * g i) = ((∑ i, a i * b i : ℝ) : EReal) := by
    simp only [ha, hb, ← EReal.coe_mul]
    exact (map_sum (⟨⟨Real.toEReal, EReal.coe_zero⟩, EReal.coe_add⟩ : ℝ →+ EReal) _ _).symm
  rw [e]
  exact ⟨EReal.coe_ne_top _, EReal.coe_ne_bot _⟩

variable (hQ : ∀ j, Q j ≠ ⊤ ∧ Q j ≠ ⊥) (hK : ∀ j, K j ≠ ⊤ ∧ K j ≠ ⊥)
include hQ hK

/-- Finite queries and keys have no score +∞. -/
theorem score_ne_top (b : Fin 32) (h : Fin 8) (R : Fin 2048) (k : ℕ) : score Q K b h R k ≠ ⊤ := by
  unfold score; split
  · split
    · exact (sum_real _ _ (fun _ => hQ _) (fun _ => hK _)).1
    · exact bot_ne_top
  · exact bot_ne_top

/-- Finite queries and keys have a finite score at the first key. -/
theorem score_zero_ne_bot (b : Fin 32) (h : Fin 8) (R : Fin 2048) : score Q K b h R 0 ≠ ⊥ := by
  have e := score_of_le Q K (b := b) (h := h) (R := R) ⟨0, by omega⟩ (Nat.zero_le _)
  simp only at e
  rw [e]
  exact (sum_real _ _ (fun _ => hQ _) (fun _ => hK _)).2

/-- The quotient of the two sums over the keys up to any point past the query's own is the attention. -/
theorem quotient (b : Fin 32) (h : Fin 8) (R : Fin 2048) (d : Fin 128) (n : ℕ) (hn : R.val < n) (hN : n ≤ 2048) :
    Ideal.div (num (score Q K b h R) (value V b h d) n) (den (score Q K b h R) n) = attn Q K V b h R d :=
  num_div_den (score_ne_top hQ hK b h R) (by omega) hN (score_zero_ne_bot hQ hK b h R) fun k hk _ => score_of_lt Q K k (by omega)

end Cert.FoxScore
end
-- ==== Proof.FoxBlock.lean ====
module

public import proofs.«01_k».proof.Proof.Gen.FoxIdeal.Value
public import proofs.«01_k».proof.Proof.FoxTile
public import proofs.«01_k».proof.Proof.FoxOff
public import proofs.«01_k».proof.Proof.FoxScore
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FoxIdeal.Block

open Cert.FoxIdeal Cert.FoxIdeal.Gen Cert.Online Cert.FoxIdeal.Tile Cert.FoxIdeal.Off

/-- A load of 256 rows from row `o` reads row `o + x` at its row `x`. -/
theorem tile_read (arg : Memref sig .tc .vmem S1x2048x128 .bf16) (harg : arg.IsWhole) (X : S1x2048x128.Idx → EReal) (off : Fin 3 → ℕ) (o : ℕ)
    (ho : off = ![0, o, 0]) (inb : ∀ a, off a + S1x256x128.size a ≤ S1x2048x128.size a) (x : Fin 256) (e : Fin 128) (h : o + x.val < 2048) :
    arg.view.readAt (Elt Ideal) (Rect.unit (s := S1x2048x128) off S1x256x128.size inb).toLoadRect (harg.unread X) (ix3 0 x e) = X (ix3 0 ⟨o + x.val, h⟩ e) := by
  subst ho
  rw [View.readAt_eq_ld, harg.read_unread]
  pointwise []

/-- … and as a load of a block's contents. -/
theorem tile_ld (X : S1x2048x128.Idx → EReal) (off : Fin 3 → ℕ) (o : ℕ)
    (ho : off = ![0, o, 0]) (inb : ∀ a, off a + S1x256x128.size a ≤ S1x2048x128.size a) (x : Fin 256) (e : Fin 128) (h : o + x.val < 2048) :
    @View.ld (Elt Ideal) S1x2048x128 .bf16 X (Rect.unit (s := S1x2048x128) off S1x256x128.size inb) (ix3 0 x e) = X (ix3 0 ⟨o + x.val, h⟩ e) := by
  subst ho
  pointwise []

section Loop
variable (𝒱 : Variants) (c : Dev nD) (bd : Option 𝒱.V) (i : grid0.Coords) (arg3 : Memref sig .tc .vmem S1x256x128 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S1x256x128 .bf16) (harg6 : arg6.IsWhole)
  (q : S1x256x128.Idx → EReal) (ks vs : S1x2048x128.Idx → EReal)
  {s v : ℕ → EReal} (hs : ∀ k, s k ≠ ⊤) (r : Fin 256) (d : Fin 128)
  (hk : ∀ j : Fin 2048, j.val < 256 * (i 2).val → (∑ e : Fin 128, q (ix3 0 r e) * ks (ix3 0 j e)) = s j.val)
  (hv : ∀ j : Fin 2048, vs (ix3 0 j d) = v j.val)

include hs hk hv in
/-- After `k` trips the loop holds the largest score, the sum of exponentials and the weighted sum of values of the first `256 k` keys. -/
theorem loop (k : ℕ) (h : k ≤ (i 2).val) :
    let a := st_k0_t1 (F := Ideal) 𝒱 c bd i arg3 harg3 arg4 harg4 arg5 harg5 arg6 harg6 q (harg4.unread ks) (harg5.unread vs) (k0_pay3, k0_pay4, k0_pay5) k
    a.1 (ix2 r 0) = top s (256 * k) ∧ a.2.1 (ix2 r 0) = den s (256 * k) ∧ a.2.2 (ix2 r d) = num s v (256 * k) := by
  induction k with
  | zero => exact ⟨init_top s r, init_den s r, init_num s v r d⟩
  | succ k ih =>
    have hi : (i 2).val < 8 := (i 2).isLt
    have hlt : k < (k0_t1_loop i).trips := by rw [trips1]; omega
    obtain ⟨hM, hL, hC⟩ := ih (by omega)
    have e := st_k0_t1_succ (F := Ideal) 𝒱 c bd i arg3 harg3 arg4 harg4 arg5 harg5 arg6 harg6 q (harg4.unread ks) (harg5.unread vs) (k0_pay3, k0_pay4, k0_pay5) ⟨k, hlt⟩
    simp only at e
    rw [e]
    unfold tripR_k0_t1
    unfold trip_k0_t1
    dsimp only
    have tl (x : Fin 256) : 256 * k + x.val < 2048 := by omega
    rw [Nat.mul_succ]
    refine ⟨step_top _ _ _ hs _ _ hM fun x => ?_, step_den _ _ _ _ hs _ _ hM hL fun x => ?_, step_num _ _ _ _ _ hs _ _ _ hM hC (fun x => ?_) fun x => ?_⟩
    · simp only [tile_read _ _ _ _ _ (off1 i ⟨k, hlt⟩) _ _ _ (tl x)]
      exact hk ⟨_, tl x⟩ (show 256 * k + x.val < 256 * (i 2).val by omega)
    · simp only [tile_read _ _ _ _ _ (off1 i ⟨k, hlt⟩) _ _ _ (tl x)]
      exact hk ⟨_, tl x⟩ (show 256 * k + x.val < 256 * (i 2).val by omega)
    · exact (tile_read _ _ _ _ _ (off1 i ⟨k, hlt⟩) _ _ _ (tl x)).trans (hv ⟨_, tl x⟩)
    · simp only [tile_read _ _ _ _ _ (off1 i ⟨k, hlt⟩) _ _ _ (tl x)]
      exact hk ⟨_, tl x⟩ (show 256 * k + x.val < 256 * (i 2).val by omega)

end Loop

open Cert.FoxScore

variable (m : (ℓ : Loc nD τ sig) → Buf (Elt Ideal) ℓ)

/-- The queries, keys and values in memory. -/
abbrev Qm (c : Dev nD) : S.Idx → EReal := m ((c : Thread nD τ).loc main_arg0)
abbrev Km (c : Dev nD) : S.Idx → EReal := m ((c : Thread nD τ).loc main_arg1)
abbrev Vm (c : Dev nD) : S.Idx → EReal := m ((c : Thread nD τ).loc main_arg2)

/-- The sequence, head, query row and key row of a grid point. -/
abbrev seq (t : Fin cfg0.N) : Fin 32 := grid0.coords t 0
abbrev head (t : Fin cfg0.N) : Fin 8 := grid0.coords t 1
abbrev blk (t : Fin cfg0.N) : Fin 8 := grid0.coords t 2
abbrev row (t : Fin cfg0.N) (r : Fin 256) : Fin 2048 := ⟨256 * (blk t).val + r.val, by omega⟩

/-- A row of a grid point's block of queries. -/
theorem qblk (c : Dev nD) (t : Fin cfg0.N) (r : Fin 256) (e : Fin 128) : iblk m c 0 t (ix3 0 r e) = Qm m c (ix3 (seq t) (row t r) (col (head t) e)) := by
  blk_ext [iblk, V, idx t] <;> (simp only [seq, head, blk]; omega)

/-- A row of its keys. -/
theorem kblk (c : Dev nD) (t : Fin cfg0.N) (j : Fin 2048) (e : Fin 128) : iblk m c 1 t (ix3 0 j e) = Km m c (ix3 (seq t) j (col (head t) e)) := by
  blk_ext [iblk, V, idx t] <;> (simp only [seq, head, blk]; omega)

/-- A row of its values. -/
theorem vblk (c : Dev nD) (t : Fin cfg0.N) (j : Fin 2048) (e : Fin 128) : iblk m c 2 t (ix3 0 j e) = Vm m c (ix3 (seq t) j (col (head t) e)) := by
  blk_ext [iblk, V, idx t] <;> (simp only [seq, head, blk]; omega)

variable (c : Dev nD) (hQ : ∀ j, Qm m c j ≠ ⊤ ∧ Qm m c j ≠ ⊥) (hK : ∀ j, Km m c j ≠ ⊤ ∧ Km m c j ≠ ⊥)
include hQ hK

/-- Row `r`, column `d` of what a grid point stores is the attention there. -/
theorem block (t : Fin cfg0.N) (r : Fin 256) (d : Fin 128) :
    outsAt0 m c t (ix3 0 r d) = attn (Qm m c) (Km m c) (Vm m c) (seq t) (head t) (row t r) d := by
  unfold outsAt0
  frame_out
  have e1 := trips1 (grid0.coords t)
  have e2 := trips2 (grid0.coords t)
  simp only [k0_t1_loop, k0_t2_loop] at e1 e2
  simp only [e1, e2, st_k0_t2_zero]
  have hs := score_ne_top hQ hK (seq t) (head t) (row t r)
  have hb : (grid0.coords t 2).val < 8 := (blk t).isLt
  have hl := loop Variants.none c none (grid0.coords t) (ms0_0 t) (hs0_0 t) (ms0_1 t) (hs0_1 t) (ms0_2 t) (hs0_2 t) (ms0_3 t) (hs0_3 t)
    (iblk m c 0 t) (iblk m c 1 t) (iblk m c 2 t) hs r d (v := value (Vm m c) (seq t) (head t) d)
    (fun j hj => by
      rw [score_of_le _ _ j (show j.val ≤ 256 * (grid0.coords t 2).val + r.val by omega)]
      exact Finset.sum_congr rfl fun e _ => congrArg₂ (· * ·) (qblk m c t r e) (kblk m c t j e))
    (fun j => (vblk m c t j d).trans (value_eq _ j).symm) _ le_rfl
  have hx (x : Fin 256) : 256 * (grid0.coords t 2).val + x.val < 2048 := by omega
  refine (last_out _ _ _ _ _ _ hs _ r d hl.1 hl.2.1 hl.2.2 (fun x => ?_) fun x => ?_).trans
    (quotient (Vm m c) hQ hK (seq t) (head t) (row t r) d _ (show 256 * (grid0.coords t 2).val + r.val < 256 * (grid0.coords t 2).val + 256 by omega) (by omega))
  · rw [tile_ld _ _ _ (off3 (grid0.coords t)) _ _ _ (hx x), vblk m c t ⟨_, hx x⟩ d]
    exact (value_eq _ ⟨_, hx x⟩).symm
  · by_cases h : x.val ≤ r.val
    · rw [if_pos h]
      refine Eq.trans (Finset.sum_congr rfl fun e _ => congrArg₂ (· * ·) (qblk m c t r e)
        ((tile_ld _ _ _ (off3 (grid0.coords t)) _ x e (hx x)).trans (kblk m c t ⟨_, hx x⟩ e))) ?_
      exact (score_of_le (R := row t r) _ _ ⟨_, hx x⟩ (show 256 * (grid0.coords t 2).val + x.val ≤ 256 * (grid0.coords t 2).val + r.val by omega)).symm
    · rw [if_neg h]
      exact (score_of_lt (R := row t r) _ _ _ (show 256 * (grid0.coords t 2).val + r.val < 256 * (grid0.coords t 2).val + x.val by omega)).symm

/-- The kernel's result array ends as the attention of every head. -/
theorem final : (dats m 0 c).arrAt 3 cfg0.N = whole (Qm m c) (Km m c) (Vm m c) := by
  refine (dats m 0 c).arrAt_eq_of_covers 3 (whole (Qm m c) (Km m c) (Vm m c)) (by decide +kernel) fun t _ y => ?_
  blk_simp
  rw [after0_3]
  obtain ⟨r, d, rfl⟩ : ∃ (r : Fin 256) (d : Fin 128), y = ix3 0 r d := by
    exact ⟨y 1, y 2, by idx_vars y; blk_ext⟩
  rw [block m c hQ hK]
  have e : (win0_3.blk t).view.emb (ix3 0 r d) = ix3 (seq t) (row t r) (col (head t) d) := by
    blk_ext [idx t] <;> (simp only [seq, head, blk]; omega)
  rw [e]
  exact (whole_apply _ _ _ (seq t) (head t) (row t r) d).symm

end Cert.FoxIdeal.Block
end
-- ==== Proof.FoxRefValue.lean ====
module

public import proofs.«01_k».proof.Proof.Gen.FoxRefIdeal.Read
public import proofs.«01_k».proof.Proof.FoxScore
public import proofs.«01_k».proof.Proof.FoxWords
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FoxRefIdeal.Attn

open Cert.FoxRefIdeal Cert.FoxRefIdeal.Read Cert.Online Cert.FoxScore

variable (Q K V : S32x2048x1024.Idx → EReal) (b : Fin 32) (h : Fin 8) (R k : Fin 2048) (d : Fin 128)

/-- Head `h`, column `e` of a row of 8 heads of 128 columns. -/
theorem head_col (X : S32x2048x1024.Idx → EReal) (i : S32x2048x1024.Idx) (e : Fin 128)
    (h0 : (i 0).val = b.val) (h1 : (i 1).val = R.val) (h2 : (i 2).val = 128 * h.val + e.val) : X i = X (ix3 b R (col h e)) := by
  congr 1
  funext a
  match a with
  | ⟨0, _⟩ => exact Fin.ext h0
  | ⟨1, _⟩ => exact Fin.ext h1
  | ⟨2, _⟩ => exact Fin.ext h2

/-- The mask: a key is seen when it is no later than the query. -/
theorem mask_apply : val_main_v8 (F := Ideal) (ix2 R k) = IntOp.cmpi .sle (BitVec.ofNat 32 k.val) (BitVec.ofNat 32 R.val) := by
  rw [val_main_v8_apply, val_main_v6_apply, val_main_v4_apply, val_main_v3_apply, val_main_v7_apply, val_main_v5_apply, val_main_v3_apply]
  rfl

/-- The masked score. -/
theorem score_apply : val_main_v10 (F := Ideal) Q K (ix4 b h R k) = score Q K b h R k.val := by
  rw [val_main_v10_apply, val_main_call0_v1_apply, val_main_call0_v2_apply, val_main_call0_v0_apply, val_main_cst_apply, val_main_v9_apply,
    show idx_main_call0_v1 (ix4 b h R k) = ix2 R k by blk_ext, mask_apply, FoxWords.sel_le _ _ (by omega) (by omega)]
  by_cases hk : k.val ≤ R.val
  · rw [if_pos hk, score_of_le _ _ _ hk]
    refine Finset.sum_congr rfl fun e _ => congrArg₂ (· * ·) ?_ ?_
    · rw [val_main_v0_apply]
      exact head_col b h R Q _ e (by show (((b.val * 2048 + R.val) * 8 + h.val) * 128 + e.val) / 2097152 = _; omega)
        (by show (((b.val * 2048 + R.val) * 8 + h.val) * 128 + e.val) / 1024 % 2048 = _; omega)
        (by show (((b.val * 2048 + R.val) * 8 + h.val) * 128 + e.val) % 1024 = _; omega)
    · rw [val_main_v1_apply]
      exact head_col b h k K _ e (by show (((b.val * 2048 + k.val) * 8 + h.val) * 128 + e.val) / 2097152 = _; omega)
        (by show (((b.val * 2048 + k.val) * 8 + h.val) * 128 + e.val) / 1024 % 2048 = _; omega)
        (by show (((b.val * 2048 + k.val) * 8 + h.val) * 128 + e.val) % 1024 = _; omega)
  · rw [if_neg hk, score_of_lt _ _ _ (by omega)]
    exact ofBits_neg_inf

/-- The largest score of a query. -/
theorem max_apply : val_main_v13 (F := Ideal) Q K (ix3 b h R) = top (score Q K b h R) 2048 := by
  have e := Online.top_add (s := score Q K b h R) 0 2048
  simp only [Nat.zero_add, top_zero] at e
  rw [e, val_main_v13_apply, val_main_v12_apply, val_main_cst_1_apply]
  have c : val_main_cst_0 (F := Ideal) (Shape.Idx.first Gen.h_S_) = ⊥ := ofBits_neg_inf
  pointwise [val_main_v11]
  simp only [score_apply, ofBits_neg_inf, c]

/-- The exponential of a score, less the largest. -/
theorem exp_apply : val_main_v17 (F := Ideal) Q K (ix4 b h R k) = Ideal.exp (score Q K b h R k.val - top (score Q K b h R) 2048) := by
  rw [val_main_v17_apply, val_main_v16_apply, val_main_v15_apply, val_main_v14_apply, score_apply,
    show idx_main_v14 (idx_main_v15 (ix4 b h R k)) = ix3 b h R by blk_ext, max_apply]
  rfl

/-- The sum of a query's exponentials. -/
theorem sum_apply : val_main_v18 (F := Ideal) Q K (ix3 b h R) = den (score Q K b h R) 2048 := by
  have e (k : Fin 2048) : idx_main_v18 (ix3 b h R) k = ix4 b h R k := by blk_ext
  have c : val_main_cst_2 (F := Ideal) (Shape.Idx.first Gen.h_S_) = 0 := Ideal.ofBits_zero .f32
  rw [val_main_v18_apply, c, zero_add]
  simp only [e, exp_apply]
  rw [den, Finset.sum_range]

variable {Q K} (hQ : ∀ j, Q j ≠ ⊤ ∧ Q j ≠ ⊥) (hK : ∀ j, K j ≠ ⊤ ∧ K j ≠ ⊥)
include hQ hK

/-- The weight of a key. -/
theorem weight_apply : val_main_v23 (F := Ideal) Q K (ix4 b h R k)
    = Ideal.div (Ideal.exp (score Q K b h R k.val - top (score Q K b h R) 2048)) (den (score Q K b h R) 2048) := by
  have c : val_main_call1_v2 (F := Ideal) (ix4 b h R k) = 0 := by
    rw [val_main_call1_v2_apply]; exact Ideal.ofBits_zero .f32
  have e : val_main_v21 (F := Ideal) Q K (ix4 b h R k)
      = Ideal.div (Ideal.exp (score Q K b h R k.val - top (score Q K b h R) 2048)) (den (score Q K b h R) 2048) := by
    rw [val_main_v21_apply, val_main_v20_apply, val_main_v19_apply, exp_apply,
      show idx_main_v19 (idx_main_v20 (ix4 b h R k)) = ix3 b h R by blk_ext, sum_apply]
    rfl
  rw [val_main_v23_apply, val_main_v22_apply, val_main_call1_v1_apply, show idx_main_call1_v1 (ix4 b h R k) = ix2 R k by blk_ext,
    mask_apply, FoxWords.sel_le _ _ (by omega) (by omega), c, e]
  by_cases hk : k.val ≤ R.val
  · rw [if_pos hk]; rfl
  · rw [if_neg hk, score_of_lt _ _ _ (by omega)]
    obtain ⟨r, hr, e⟩ := den_pos (score_ne_top hQ hK b h R) (n := 2048) (by omega) (score_zero_ne_bot hQ hK b h R)
    rw [e, EReal.bot_sub, exp_bot, Online.div_pos _ hr, mul_zero]
    rfl

/-- The result at a row, head and column. -/
theorem out_apply : val_main_v27 (F := Ideal) Q K V (ix3 b R (col h d)) = attn Q K V b h R d := by
  have hc : col h d = (⟨128 * h.val + d.val, by omega⟩ : Fin 1024) := rfl
  have e : idx_main_v27 (ix3 b R (col h d)) = ix4 b R h d := by blk_ext
  have e' : idx_main_v25 (ix4 b R h d) = ix4 b h d R := by blk_ext
  rw [val_main_v27_apply, e, val_main_v26_apply, val_main_v25_apply, e', val_main_v24_apply]
  unfold attn
  refine Finset.sum_congr rfl fun k _ => ?_
  rw [mul_comm, show ridx_main_v24 (ix4 b h d R) k = ix4 b h R k by blk_ext, weight_apply b h R k hQ hK, value_eq, val_main_v2_apply]
  refine congrArg _ ?_
  exact head_col b h k V _ d (by show (((b.val * 2048 + k.val) * 8 + h.val) * 128 + d.val) / 2097152 = _; omega)
    (by show (((b.val * 2048 + k.val) * 8 + h.val) * 128 + d.val) / 1024 % 2048 = _; omega)
    (by show (((b.val * 2048 + k.val) * 8 + h.val) * 128 + d.val) % 1024 = _; omega)

/-- The reference's result is the attention of every head. -/
theorem whole_eq : val_main_v27 (F := Ideal) Q K V = whole Q K V := by
  funext j
  obtain ⟨b, R, h, d, rfl⟩ : ∃ (b : Fin 32) (R : Fin 2048) (h : Fin 8) (d : Fin 128), j = ix3 b R (col h d) := by
    have h2 : (j 2).val < 1024 := (j 2).isLt
    refine ⟨j 0, j 1, ⟨(j 2).val / 128, by omega⟩, ⟨(j 2).val % 128, by omega⟩, ?_⟩
    funext a
    match a with
    | ⟨0, _⟩ => rfl
    | ⟨1, _⟩ => rfl
    | ⟨2, _⟩ => exact Fin.ext (show (j 2).val = 128 * ((j 2).val / 128) + (j 2).val % 128 by omega)
  rw [out_apply V b h R d hQ hK, whole_apply]

end Cert.FoxRefIdeal.Attn
end
-- ==== Proof.FoxPre.lean ====
module

public import proofs.«01_k».proof.Pre_finite_scores
public import Idealize.ShloMosaic.Lib.Pointwise

@[expose] public section

noncomputable section

open Idealize.ShloMosaic

namespace Cert.FoxPre

instance facts : Cert.Pre_finite_scores.Facts := ⟨by decide⟩

/-- Below +∞ in absolute value is neither infinity. -/
theorem finite_of_abs {x : EReal} (h : BitVec.ofBool (decide (max x (-x) < Ideal.ofBits .bf16 0x7F80#16)) = 1#1) : x ≠ ⊤ ∧ x ≠ ⊥ := by
  have e : Ideal.ofBits .bf16 0x7F80#16 = ⊤ := by simp [Ideal.ofBits, Ideal.ieee]
  rw [e] at h
  refine ⟨fun hx => ?_, fun hx => ?_⟩ <;> subst hx <;> simp at h

/-- The precondition says that no query and no key is infinite. -/
theorem finite (Q K V : Cert.Pre_finite_scores.S32x2048x1024.Idx → EReal)
    (h : Cert.Pre_finite_scores.fn (F := Ideal) Q K V = fun _ => 1#1) : (∀ j, Q j ≠ ⊤ ∧ Q j ≠ ⊥) ∧ (∀ j, K j ≠ ⊤ ∧ K j ≠ ⊥) := by
  have andi_one (a b : BitVec 1) : IntOp.andi a b = 1#1 ↔ a = 1#1 ∧ b = 1#1 := by revert a b; decide
  have pre := fun y => congrFun h y
  simp only [Cert.Pre_finite_scores.fn, constant, broadcastInDim, cmpf, andi, andi_one, Host.absf] at pre
  exact ⟨fun j => finite_of_abs (pre j).1, fun j => finite_of_abs (pre j).2⟩

end Cert.FoxPre
end
-- ==== Proof.ExpertsIdealKit.lean ====
/- The experts' tile pass: the memory at the start of the pass, its tables, its blocks, and the frame read off a run. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the pass begins: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is its host operations, then the pass. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is none of the seven results of the host operations is found as launched. -/
theorem V_kept (c : Dev nD) (b : Ref sig .tc)
    (h0 : b ≠ main_v0) (h1 : b ≠ main_v1) (h2 : b ≠ main_v2) (h3 : b ≠ main_v3) (h4 : b ≠ main_v4) (h5 : b ≠ main_v5) (h6 : b ≠ main_v6) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) :=
  V_kept m c _ (by decide) (by decide) (by decide) (by decide) (by decide) (by decide) (by decide)
theorem V_main_arg1 (c : Dev nD) : V m c main_arg1 = m ((c : Thread nD τ).loc main_arg1) :=
  V_kept m c _ (by decide) (by decide) (by decide) (by decide) (by decide) (by decide) (by decide)
theorem V_main_arg2 (c : Dev nD) : V m c main_arg2 = m ((c : Thread nD τ).loc main_arg2) :=
  V_kept m c _ (by decide) (by decide) (by decide) (by decide) (by decide) (by decide) (by decide)
theorem V_main_arg3 (c : Dev nD) : V m c main_arg3 = m ((c : Thread nD τ).loc main_arg3) :=
  V_kept m c _ (by decide) (by decide) (by decide) (by decide) (by decide) (by decide) (by decide)
theorem V_main_arg4 (c : Dev nD) : V m c main_arg4 = m ((c : Thread nD τ).loc main_arg4) :=
  V_kept m c _ (by decide) (by decide) (by decide) (by decide) (by decide) (by decide) (by decide)
theorem V_main_arg5 (c : Dev nD) : V m c main_arg5 = m ((c : Thread nD τ).loc main_arg5) :=
  V_kept m c _ (by decide) (by decide) (by decide) (by decide) (by decide) (by decide) (by decide)
theorem V_main_arg6 (c : Dev nD) : V m c main_arg6 = m ((c : Thread nD τ).loc main_arg6) :=
  V_kept m c _ (by decide) (by decide) (by decide) (by decide) (by decide) (by decide) (by decide)
theorem V_main_arg7 (c : Dev nD) : V m c main_arg7 = m ((c : Thread nD τ).loc main_arg7) :=
  V_kept m c _ (by decide) (by decide) (by decide) (by decide) (by decide) (by decide) (by decide)
theorem V_main_arg8 (c : Dev nD) : V m c main_arg8 = m ((c : Thread nD τ).loc main_arg8) :=
  V_kept m c _ (by decide) (by decide) (by decide) (by decide) (by decide) (by decide) (by decide)
theorem V_main_arg9 (c : Dev nD) : V m c main_arg9 = m ((c : Thread nD τ).loc main_arg9) :=
  V_kept m c _ (by decide) (by decide) (by decide) (by decide) (by decide) (by decide) (by decide)

/-- What the two tables hold when the pass begins. -/
def tbl : pre0.Contents (Elt F) := fun j => V m (0 : Dev nD) (pre0.ref j)
/-- There is one device, so every device's tables hold those contents. -/
theorem V_pre (c : Dev nD) (j : Fin 2) : V m c (pre0.ref j) = tbl m j := by
  obtain rfl : c = 0 := Subsingleton.elim _ _; rfl
/-- The tables name experts that are there: every block picked through them lies inside its array. -/
abbrev Ok : Prop := ok0 (F := F) (tbl m)
/-- The tables' contents as admitted contents, and the pass at them. -/
abbrev adm (hO : Ok m) : (pcfg0 (F := F)).Adm := ⟨tbl m, hO⟩
abbrev cfgM (hO : Ok m) : Pipeline.Cfg sig Λ₀ := cfg0 (adm m hO)

/-- The two tables as the body is handed them. -/
abbrev tbM0_0 : Memref sig .tc .smem S544 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table's contents on core `c`, and the half share of it the body holds. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at tile `t`, as the pass finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- From a run of the pass: the ten arguments end as they began. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) h

/-- One staging buffer of the result, through which its contents are stated. -/
abbrev VO0_8 : View sig .tc .vmem S512x1024 .f32 := (Memref.whole cc0_stg8_0 : Memref sig .tc .vmem S512x1024 .f32).view

abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S512x1024 .f32 := spec0_8.stage ((cfgM m hO).slots t 8)
abbrev hs0_8 (hO : Ok m) (t : Fin (cfgM m hO).N) : (ms0_8 m hO t).IsWhole := hstage0_8 (((cfgM m hO).slots t 8).cast nbuf0_8)

/-- The body at tile `t`, on what the pass calls it with. -/
abbrev bodyAt0 (a : (pcfg0 (F := F)).Adm) (t : Fin (cfg0 a).N) : Prog (TpuEff nD τ sig (Elt F) Λ₀ .tc) PUnit :=
  cc0_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

/-- Every tile writes its result back, whatever the tables hold. -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

/-- One of the two conditions holds at every tile, whatever the count of used tiles: `i < n` or `i ≥ n`. -/
theorem cond_or (i : grid0.Coords) (n : BitVec 32) : k0_cond2 i n = 1#1 ↔ ¬ k0_cond1 i n = 1#1 := by
  unfold k0_cond1 k0_cond2
  simp only [Scalar.cmpi, Scalar.extui, IntOp.cmpi, BitVec.slt, BitVec.sle]
  by_cases h : (BitVec.ofNat 32 (i 0).val).toInt < n.toInt
  · simp [h, not_le.mpr h]
  · simp [h, not_lt.mp h]

end Cert.ExpertsIdeal.Gen

end
-- ==== Proof.ExpertsIdealBody.lean ====
/- The body of the experts' tile pass, run on any staging buffers. -/
module

public import proofs.«01_k».proof.Proof.ExpertsIdealKit
public import Idealize.ShloMosaic.Lib.WritesUnit
public import Idealize.ShloMosaic.Lib.Pipeline.ValueKit.Basic

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole staging buffer reads its contents. -/
theorem load_whole {S : Shape} {e : EltTy} (M : Memref sig .tc .vmem S e) (hM : M.IsWhole) (x : Vec F S e) {off : Fin S.rank → ℕ}
    (inb : ∀ a, off a + S.size a ≤ S.size a) (h : ∀ a, off a = 0) :
    View.readAt (Elt F) M.view (Rect.unit off S.size inb).toLoadRect (hM.unread x) = x := by
  show View.ld (M.view.read (Elt F) (hM.unread x)) (Rect.unit off S.size inb) = x
  rw [hM.read_unread]
  exact View.ld_unit_lit inb x h

/-- A store over a whole staging buffer leaves what was stored, whatever was there. -/
theorem store_whole (M : Memref sig .tc .vmem S512x1024 .f32) (f : BufTy.Contents (Elt F) M.view.ty) (w : Vec F S512x1024 .f32)
    (inb : ∀ a, (![0, 0] : Fin 2 → ℕ) a + S512x1024.size a ≤ S512x1024.size a) :
    M.view.read (Elt F) (M.view.writes (Elt F) f [⟨Rect.unit (s := S512x1024) ![0, 0] S512x1024.size inb, w⟩]) = w := by
  funext y
  exact View.read_writes_cons_unit_of_mem (s := S512x1024) M.view f (off' := fun _ => 0) inb w [] y y (by funext a; fin_cases a <;> rfl) (fun a => (Nat.zero_add _).symm)

/-- The number of tiles in use: the one word of the second table. -/
def count (c : Dev nD) (xt1 : TbBuf0 (F := F) c tbM0_1) : BitVec 32 := tbM0_1.view.read (Elt F) xt1 (fun a => ⟨0, by fin_cases a; decide⟩)

/-- A table of one word has one place. -/
theorem one_place (x y : S1.Idx) : x = y := funext fun a => Fin.ext (by
  have hx := (x a).isLt; have hy := (y a).isLt; have hs : S1.size a = 1 := by fin_cases a; rfl
  omega)

/-- What the body leaves in the result's buffer at tile `i`: the expert's output while the tile is in use, zeros after. -/
def out (i : grid0.Coords) (n : BitVec 32) (x0 : Vec F S512x1024 .f32) (x1 : Vec F S1x1024 .f32) (x2 : Vec F S1x1024x1024 .bf16) (x3 : Vec F S1x1x1024 .f32) (x4 : Vec F S1x1024x1024 .bf16) (x5 : Vec F S1x1x1024 .f32) (x6 : Vec F S1x1024x1024 .bf16) (x7 : Vec F S1x1x1024 .f32) : Vec F S512x1024 .f32 :=
  if k0_cond1 i n = 1#1 then k0_pay1 (k0_pay4 x0 x1 x2 x3) (k0_pay5 x0 x1 x4 x5) x6 x7 else k0_pay2

set_option maxHeartbeats 1000000 in
/-- The body on any staging buffers: the eight inputs are read and kept, the result's buffer ends at `out`. -/
theorem run_body (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S512x1024 .f32) (harg11 : arg11.IsWhole)
    (x0 : Vec F S512x1024 .f32) (x1 : Vec F S1x1024 .f32) (x2 : Vec F S1x1024x1024 .bf16) (x3 : Vec F S1x1x1024 .f32) (x4 : Vec F S1x1024x1024 .bf16) (x5 : Vec F S1x1x1024 .f32) (x6 : Vec F S1x1024x1024 .bf16) (x7 : Vec F S1x1x1024 .f32) (xt0 : TbBuf0 (F := F) c tbM0_0) (xt1 : TbBuf0 (F := F) c tbM0_1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (out i (count c xt1) x0 x1 x2 x3 x4 x5 x6 x7) ∗ tbPt0 c tbM0_0 xt0 ∗ tbPt0 c tbM0_1 xt1) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10 arg11 harg11) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr
    swap; · iexact H8
    ipureintro
    have hn : run_body.sl.r c xt1 = count c xt1 := by
      unfold run_body.sl.r count
      exact congrArg (tbM0_1.view.read (Elt F) xt1) (one_place _ _)
    rw [hn]
    by_cases h1 : k0_cond1 i (count c xt1) = 1#1
    · have h2 : ¬ k0_cond2 i (count c xt1) = 1#1 := fun h2 => (cond_or i _).mp h2 h1
      rw [dif_neg h2, dif_pos h1]
      refine (store_whole arg11 f8 _ _).trans ?_
      unfold out run_body.sl.r_1 run_body.sl.r_2
      rw [if_pos h1]
      congr 1
      · congr 1
        · exact load_whole arg3 harg3 x0 _ (fun a => by fin_cases a <;> rfl)
        · exact load_whole arg4 harg4 x1 _ (fun a => by fin_cases a <;> rfl)
        · exact load_whole arg5 harg5 x2 _ (fun a => by fin_cases a <;> rfl)
        · exact load_whole arg6 harg6 x3 _ (fun a => by fin_cases a <;> rfl)
      · congr 1
        · exact load_whole arg3 harg3 x0 _ (fun a => by fin_cases a <;> rfl)
        · exact load_whole arg4 harg4 x1 _ (fun a => by fin_cases a <;> rfl)
        · exact load_whole arg7 harg7 x4 _ (fun a => by fin_cases a <;> rfl)
        · exact load_whole arg8 harg8 x5 _ (fun a => by fin_cases a <;> rfl)
      · exact load_whole arg9 harg9 x6 _ (fun a => by fin_cases a <;> rfl)
      · exact load_whole arg10 harg10 x7 _ (fun a => by fin_cases a <;> rfl)
    · have h2 : k0_cond2 i (count c xt1) = 1#1 := (cond_or i _).mpr h1
      rw [dif_pos h2, dif_neg h1]
      refine (store_whole arg11 f8 _ _).trans ?_
      unfold out
      rw [if_neg h1]
  isplitl [HT0]; · iexact HT0
  iexact HT1

end Cert.ExpertsIdeal.Gen

end
-- ==== Proof.ExpertsIdealFrame.lean ====
/- The frame of the experts' tile pass: the body at every tile, the run, and the arguments kept. -/
module

public import proofs.«01_k».proof.Proof.ExpertsIdealBody
public import Idealize.ShloMosaic.Lib.Claim

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result's buffer holds after tile `t`. -/
def outsAt0 (hO : Ok m) (c : Dev nD) (t : Fin (cfgM m hO).N) : Vec F S512x1024 .f32 :=
  out (grid0.coords t) (count c (tbl m 1)) (iblk m hO c 0 t) (iblk m hO c 1 t) (iblk m hO c 2 t) (iblk m hO c 3 t) (iblk m hO c 4 t) (iblk m hO c 5 t) (iblk m hO c 6 t) (iblk m hO c 7 t)

/-- What the buffers hold tile by tile: an input's its block, the result's `outsAt0`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t)
  Φ _ := iprop(Pipeline.ΦA spec0 c ∗ Pipeline.ΦT pre0 (tbl m) c)
  q _ := fullShare
  owed _ := 0

/-- The arrays are those the pass finds. -/
theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-- The result's buffer is stored at every tile: one of the two conditions holds there, whatever the tables hold. -/
theorem busy (pf : pre0.Contents (Elt F)) (i : grid0.Coords) : idle0 pf 8 i = false := by
  show (!(k0_cond1 i (pf.atD 1 ![0]) == 1#1) && !(k0_cond2 i (pf.atD 1 ![0]) == 1#1)) = false
  generalize pf.atD 1 ![0] = n
  by_cases h1 : k0_cond1 i n = 1#1
  · rw [h1]; rfl
  · rw [(cond_or i n).mpr h1]; cases (k0_cond1 i n == 1#1) <;> rfl

/-- What the body is called with at tile `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- What it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
/-- The body at any tile. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HT0]; · iexact HT0
  isplitl [HT1]; · iexact HT1
  iintro ⟨H0, H1, H2, H3, H4, H5, H6, H7, H8, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pass calls the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every tile. -/
theorem body_obligation (hO : Ok m) (c : Dev nD) : BodyObligation (dats (F := F) m hO 0 c) (defs₀ (F := F)) Variants.none () Set.univ := fun t => by
  rw [bigSep_W0, bigSep_W0, defs₀_row m hO]
  simp only []
  rw [busy (tbl m)]
  exact triple_restated (sound_body m hO c t) rfl .rfl fun _ => .rfl

set_option backward.isDefEq.respectTransparency.types false in
/-- The run: every array ends at what the tiles left, and the counters at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame: the ten arguments end as they began and every counter at zero, whenever the table names experts that are there. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ hO (dats m hO) (A_eq m hO) (run_main m ρ hO)) ((θ_run defs _ _).mono (fun _ h => h.2) (run_main_quiescent m ρ hO))

end Cert.ExpertsIdeal.Gen

end
-- ==== Proof.ExpertsIdealOk.lean ====
/- Tables that name experts which are there: every block picked through them lies inside its array. -/
module

public import proofs.«01_k».proof.Proof.ExpertsIdealKit

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The expert tile `i` is sent to: the word of the first table at the tile's place. -/
def expertAt (pf : pre0.Contents (Elt F)) (i : grid0.Coords) : BitVec 32 := pf.at 0 (Rect.unit (s := S544) (k0_off1 i) S1.size (k0_off1_inb i)) numel1_S1

/-- The place of the word that tile `i` reads is the tile's number. -/
theorem off1_val (i : grid0.Coords) (a : Fin 1) : k0_off1 i a = (i 0).val := by
  fin_cases a
  have h : (i 0).val < 544 := (i 0).isLt
  show ((Scalar.indexCast (BitVec.ofNat 32 (i 0).val) : Index)).toNat = (i 0).val
  simp [Scalar.indexCast]
  omega

/-- The word of the tile is the table's word of that number. -/
theorem expertAt_eq (pf : pre0.Contents (Elt F)) (i : grid0.Coords) (t : S544.Idx) (h : (t 0).val = (i 0).val) : expertAt pf i = pf 0 t := by
  show pf 0 _ = pf 0 t
  congr 1
  funext (a : Fin 1)
  obtain rfl : a = (0 : Fin 1) := Subsingleton.elim _ _
  apply Fin.ext
  refine Eq.trans ?_ h.symm
  refine Eq.trans ?_ (off1_val i 0)
  show k0_off1 i 0 + 1 * 0 = k0_off1 i 0
  rfl

theorem transform_2 (pf : pre0.Contents (Elt F)) (i : grid0.Coords) : cc0_transform_2 k0_off1_inb numel1_S1 pf i = ![(expertAt pf i).toNat, 0, 0] := rfl
theorem transform_3 (pf : pre0.Contents (Elt F)) (i : grid0.Coords) : cc0_transform_3 k0_off1_inb numel1_S1 pf i = ![(expertAt pf i).toNat, 0, 0] := rfl
theorem transform_4 (pf : pre0.Contents (Elt F)) (i : grid0.Coords) : cc0_transform_4 k0_off1_inb numel1_S1 pf i = ![(expertAt pf i).toNat, 0, 0] := rfl
theorem transform_5 (pf : pre0.Contents (Elt F)) (i : grid0.Coords) : cc0_transform_5 k0_off1_inb numel1_S1 pf i = ![(expertAt pf i).toNat, 0, 0] := rfl
theorem transform_6 (pf : pre0.Contents (Elt F)) (i : grid0.Coords) : cc0_transform_6 k0_off1_inb numel1_S1 pf i = ![(expertAt pf i).toNat, 0, 0] := rfl
theorem transform_7 (pf : pre0.Contents (Elt F)) (i : grid0.Coords) : cc0_transform_7 k0_off1_inb numel1_S1 pf i = ![(expertAt pf i).toNat, 0, 0] := rfl

/-- The block of a weight array at an expert that is there lies inside the array and is whole words. -/
theorem block_weights (w : ℕ) (hw : w < 32) : ∃ h : (∀ a, ((![w, 0, 0] : Fin 3 → ℕ) a + 1) * S1x1024x1024.size a ≤ S32x1024x1024.size a),
    EltTy.bits .bf16 = 32 ∨ (Rect.block (s := S32x1024x1024) S1x1024x1024.size ![w, 0, 0] h).WholeWords (EltTy.packing .bf16) := by
  refine ⟨fun a => ?_, .inr (.inr ⟨by decide, rfl, ?_, rfl⟩)⟩
  · fin_cases a
    · show (w + 1) * 1 ≤ 32; omega
    · show (0 + 1) * 1024 ≤ 1024; omega
    · show (0 + 1) * 1024 ≤ 1024; omega
  · show 0 * 1024 = 0; rfl

/-- The block of a bias array at an expert that is there lies inside the array. -/
theorem block_bias (w : ℕ) (hw : w < 32) : ∃ h : (∀ a, ((![w, 0, 0] : Fin 3 → ℕ) a + 1) * S1x1x1024.size a ≤ S32x1x1024.size a),
    EltTy.bits .f32 = 32 ∨ (Rect.block (s := S32x1x1024) S1x1x1024.size ![w, 0, 0] h).WholeWords (EltTy.packing .f32) := by
  refine ⟨fun a => ?_, .inl rfl⟩
  fin_cases a
  · show (w + 1) * 1 ≤ 32; omega
  · show (0 + 1) * 1 ≤ 1; omega
  · show (0 + 1) * 1024 ≤ 1024; omega

/-- The place of tile `i` in the first table. -/
def place (i : grid0.Coords) : S544.Idx := fun a => ⟨(i 0).val, by obtain rfl : a = (0 : Fin 1) := Subsingleton.elim _ _; exact (i 0).isLt⟩

/-- Contents whose first table names experts that are there are admitted. -/
theorem ok_of_lt (pf : pre0.Contents (Elt F)) (h : ∀ i, (expertAt pf i).toNat < 32) : ok0 (F := F) pf :=
  ⟨fun i => block_weights _ (h i), fun i => block_bias _ (h i), fun i => block_weights _ (h i),
    fun i => block_bias _ (h i), fun i => block_weights _ (h i), fun i => block_bias _ (h i)⟩

variable (m : (ℓ : Loc nD τ sig) → Buf (Elt F) ℓ)

/-- The expert of tile `i` in terms of the launch memory's table. -/
theorem expertAt_tbl (i : grid0.Coords) (t : S544.Idx) (h : (t 0).val = (i 0).val) :
    expertAt (tbl m) i = (m (((0 : Dev nD) : Thread nD τ).loc main_arg1) : S544.Idx → BitVec 32) t := by
  rw [expertAt_eq (tbl m) i t h]
  exact congrFun (V_main_arg1 m 0) t

/-- If every word of the launch memory's table is below 32, the pass is admitted. -/
theorem ok_of_named (h : ∀ t : S544.Idx, ((m (((0 : Dev nD) : Thread nD τ).loc main_arg1) : S544.Idx → BitVec 32) t).toNat < 32) : Ok m :=
  ok_of_lt (tbl m) fun i => by rw [expertAt_tbl m i (place i) rfl]; exact h _

end Cert.ExpertsIdeal.Gen

end
-- ==== Proof.ExpertsScore.lean ====
/- The experts as mathematics: what a row becomes under one expert, and what the whole pass is to compute. -/
module

public import Idealize.ShloMosaic.Lib.Pointwise

@[expose] public section

set_option maxRecDepth 16384

noncomputable section

open Idealize.ShloMosaic Idealize.ShloMosaic.TcCoe Idealize.SL.Sem

namespace Cert.ExpertsScore

/-- The bounds of the clipping and the factor inside the activation. -/
abbrev seven : EReal := Ideal.ofBits .f32 0x40E00000#32
abbrev minusSeven : EReal := Ideal.ofBits .f32 0xC0E00000#32
abbrev slope : EReal := Ideal.ofBits .f32 0x3FD9DB23#32
abbrev one : EReal := Ideal.ofBits .f32 0x3F800000#32

section Row
variable (x g : Fin 1024 → EReal) (wg : Fin 1024 → Fin 1024 → EReal) (bg : Fin 1024 → EReal) (wu : Fin 1024 → Fin 1024 → EReal) (bu : Fin 1024 → EReal)
  (wd : Fin 1024 → Fin 1024 → EReal) (bd : Fin 1024 → EReal)

/-- A row divided by the root of its mean square, then scaled by the gain. -/
def normed (d : Fin 1024) : EReal :=
  x d * Ideal.rsqrt (Ideal.div (∑ k, x k * x k) (Ideal.ofBits .f32 0x44800000#32) + Ideal.ofBits .f32 0x358637BD#32) * g d

/-- The gate of hidden unit `f`, at most seven. -/
def gate (f : Fin 1024) : EReal := min ((∑ d, normed x g d * wg d f) + bg f) seven

/-- The linear part of hidden unit `f`, between minus seven and seven. -/
def linear (f : Fin 1024) : EReal := min seven (max minusSeven ((∑ d, normed x g d * wu d f) + bu f))

/-- Hidden unit `f`. -/
def hidden (f : Fin 1024) : EReal := (linear x g wu bu f + one) * gate x g wg bg f * Ideal.logistic (slope * gate x g wg bg f)

/-- Column `d` of the expert's output for the row. -/
def expert (d : Fin 1024) : EReal := (∑ f, hidden x g wg bg wu bu f * wd f d) + bd d

end Row

/-- The rows in tiles of 512, the gain, the experts' matrices and biases, the table of experts and the count of tiles in use. -/
abbrev SX : Shape := ⟨2, ![278528, 1024]⟩
abbrev SG : Shape := ⟨1, ![1024]⟩
abbrev SW : Shape := ⟨3, ![32, 1024, 1024]⟩
abbrev SB : Shape := ⟨2, ![32, 1024]⟩
abbrev ST : Shape := ⟨1, ![544]⟩
abbrev SN : Shape := ⟨1, ![1]⟩

section Whole
variable (X : SX.Idx → EReal) (te : ST.Idx → BitVec 32) (nv : SN.Idx → BitVec 32) (G : SG.Idx → EReal)
  (Wg : SW.Idx → EReal) (Bg : SB.Idx → EReal) (Wu : SW.Idx → EReal) (Bu : SB.Idx → EReal) (Wd : SW.Idx → EReal) (Bd : SB.Idx → EReal)

/-- Column `d` of the output of expert `e` for row `n`. -/
def byExpert (e : Fin 32) (n : Fin 278528) (d : Fin 1024) : EReal :=
  expert (fun k => X (ix2 n k)) (fun k => G (ix1 k)) (fun a b => Wg (ix3 e a b)) (fun k => Bg (ix2 e k)) (fun a b => Wu (ix3 e a b)) (fun k => Bu (ix2 e k))
    (fun a b => Wd (ix3 e a b)) (fun k => Bd (ix2 e k)) d

/-- The tile of a row. -/
abbrev tile (n : Fin 278528) : Fin 544 := ⟨n.val / 512, by omega⟩

/-- The tile is in use: its number is below the count. -/
def used (t : Fin 544) : Prop := (BitVec.ofNat 32 t.val).slt (nv (ix1 0)) = true

/-- The expert the table names for tile `t`. -/
def named (t : Fin 544) : Fin 32 := ⟨(te (ix1 t)).toNat % 32, Nat.mod_lt _ (by decide)⟩

open Classical in
/-- What the pass computes: each row under the expert its tile is sent to, zeros in tiles that are not in use. -/
def whole : SX.Idx → EReal := fun j =>
  if used nv (tile (j 0)) then byExpert X G Wg Bg Wu Bu Wd Bd (named te (tile (j 0))) (j 0) (j 1) else 0

end Whole

end Cert.ExpertsScore
end
-- ==== Proof.ExpertsTile.lean ====
/- One tile of the experts' pass as mathematics: each row of the stored block is the expert's output for that row. -/
module

public import proofs.«01_k».proof.Proof.ExpertsIdealBody
public import proofs.«01_k».proof.Proof.ExpertsScore
public import Idealize.ShloMosaic.Lib.Pointwise

@[expose] public section

set_option maxRecDepth 16384

noncomputable section

open Idealize.ShloMosaic Idealize.ShloMosaic.TcCoe Idealize.SL.Sem

namespace Cert.ExpertsIdeal.Tile

open Cert.ExpertsIdeal Cert.ExpertsIdeal.Gen Cert.ExpertsScore

variable (x0 : S512x1024.Idx → EReal) (x1 : S1x1024.Idx → EReal) (W : S1x1024x1024.Idx → EReal) (B : S1x1x1024.Idx → EReal)
  (W' : S1x1024x1024.Idx → EReal) (B' : S1x1x1024.Idx → EReal) (r : Fin 512)

/-- A row, the gain, a matrix and a bias of the blocks. -/
abbrev rowOf : Fin 1024 → EReal := fun k => x0 (ix2 r k)
abbrev gainOf : Fin 1024 → EReal := fun k => x1 (ix2 0 k)
abbrev matOf : Fin 1024 → Fin 1024 → EReal := fun a b => W (ix3 0 a b)
abbrev biasOf : Fin 1024 → EReal := fun k => B (ix3 0 0 k)

/-- The normed row. -/
theorem normed_apply (d : Fin 1024) : k0_pay3 (F := Ideal) x0 x1 (ix2 r d) = normed (rowOf x0 r) (gainOf x1) d := by
  pointwise [k0_pay3, normed]

/-- The gate. -/
theorem gate_apply (f : Fin 1024) : k0_pay4 (F := Ideal) x0 x1 W B (ix2 r f) = gate (rowOf x0 r) (gainOf x1) (matOf W) (biasOf B) f := by
  pointwise [k0_pay4, gate, ← normed_apply]

/-- The linear part. -/
theorem linear_apply (f : Fin 1024) : k0_pay5 (F := Ideal) x0 x1 W B (ix2 r f) = linear (rowOf x0 r) (gainOf x1) (matOf W) (biasOf B) f := by
  pointwise [k0_pay5, linear, ← normed_apply]

/-- The product with the last matrix, from the gate and the linear part. -/
theorem last_apply (v : S512x1024.Idx → EReal) (u : S512x1024.Idx → EReal) (d : Fin 1024) : k0_pay1 (F := Ideal) v u W B (ix2 r d)
    = (∑ f : Fin 1024, (u (ix2 r f) + one) * v (ix2 r f) * Ideal.logistic (slope * v (ix2 r f)) * W (ix3 0 f d)) + B (ix3 0 0 d) := by
  pointwise [k0_pay1]

end Cert.ExpertsIdeal.Tile
end
-- ==== Proof.ExpertsBlock.lean ====
/- The experts' pass: what each tile reads and writes, and the whole result. -/
module

public import proofs.«01_k».proof.Proof.ExpertsIdealFrame
public import proofs.«01_k».proof.Proof.ExpertsIdealOk
public import proofs.«01_k».proof.Proof.ExpertsTile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Rounds
open Idealize.ShloMosaic.Pipeline (Dat Cfg Window)

namespace Cert.ExpertsIdeal.Block

open Cert.ExpertsIdeal Cert.ExpertsIdeal.Gen Cert.ExpertsScore Cert.ExpertsIdeal.Tile

/-- A tile's number is its place in the grid. -/
theorem coord : ∀ t : Fin grid0.N, (grid0.coords t 0).val = t.val := by decide +kernel

/-- The row block a tile reads, and the one it writes. -/
theorem transform_0 (i : grid0.Coords) : cc0_transform_0 i = ![(i 0).val, 0] := by
  have h : (i 0).val < 544 := (i 0).isLt
  funext a
  fin_cases a
  · show (BitVec.ofNat 32 (i 0).val).toNat = (i 0).val
    rw [BitVec.toNat_ofNat]
    omega
  · rfl

theorem transform_8 (i : grid0.Coords) : cc0_transform_8 i = ![(i 0).val, 0] := transform_0 i

variable (a : (pcfg0 (F := Ideal)).Adm)

/-- Window 0: where an element of the block of a tile sits in the array. -/
theorem emb_0 (t : Fin (cfg0 a).N) (y : S512x1024.Idx) (i : S278528x1024.Idx) (h0 : (i 0).val = ((grid0.coords t 0).val) * 512 + (y 0).val) (h1 : (i 1).val = (y 1).val) :
    ((((cfg0 a).win 0).blk t).view.emb y : S278528x1024.Idx) = i := by
  funext (k : Fin 2)
  apply Fin.ext
  refine (Pipeline.Window.rect_emb_val ((cfg0 a).win 0) t y k rfl).trans ?_
  rw [show ((cfg0 a).win 0).index t = ![(grid0.coords t 0).val, 0] from transform_0 _]
  fin_cases k
  · refine Eq.trans ?_ h0.symm
    show (((grid0.coords t 0).val) * 512 + (y 0).val) = _
    rfl
  · refine Eq.trans ?_ h1.symm
    show (0 * 1024 + (y 1).val) = _
    rw [Nat.zero_mul, Nat.zero_add]

/-- Window 1: where an element of the block of a tile sits in the array. -/
theorem emb_1 (t : Fin (cfg0 a).N) (y : S1x1024.Idx) (i : S1x1024.Idx) (h0 : (i 0).val = (y 0).val) (h1 : (i 1).val = (y 1).val) :
    ((((cfg0 a).win 1).blk t).view.emb y : S1x1024.Idx) = i := by
  funext (k : Fin 2)
  apply Fin.ext
  refine (Pipeline.Window.rect_emb_val ((cfg0 a).win 1) t y k rfl).trans ?_
  rw [show ((cfg0 a).win 1).index t = ![0, 0] from rfl]
  fin_cases k
  · refine Eq.trans ?_ h0.symm
    show (0 * 1 + (y 0).val) = _
    rw [Nat.zero_mul, Nat.zero_add]
  · refine Eq.trans ?_ h1.symm
    show (0 * 1024 + (y 1).val) = _
    rw [Nat.zero_mul, Nat.zero_add]

/-- Window 2: where an element of the block of a tile sits in the array. -/
theorem emb_2 (t : Fin (cfg0 a).N) (y : S1x1024x1024.Idx) (i : S32x1024x1024.Idx) (h0 : (i 0).val = ((expertAt a.1 (grid0.coords t)).toNat) * 1 + (y 0).val) (h1 : (i 1).val = (y 1).val) (h2 : (i 2).val = (y 2).val) :
    ((((cfg0 a).win 2).blk t).view.emb y : S32x1024x1024.Idx) = i := by
  funext (k : Fin 3)
  apply Fin.ext
  refine (Pipeline.Window.rect_emb_val ((cfg0 a).win 2) t y k rfl).trans ?_
  rw [show ((cfg0 a).win 2).index t = ![(expertAt a.1 (grid0.coords t)).toNat, 0, 0] from transform_2 _ _]
  fin_cases k
  · refine Eq.trans ?_ h0.symm
    show (((expertAt a.1 (grid0.coords t)).toNat) * 1 + (y 0).val) = _
    rfl
  · refine Eq.trans ?_ h1.symm
    show (0 * 1024 + (y 1).val) = _
    rw [Nat.zero_mul, Nat.zero_add]
  · refine Eq.trans ?_ h2.symm
    show (0 * 1024 + (y 2).val) = _
    rw [Nat.zero_mul, Nat.zero_add]

/-- Window 4: where an element of the block of a tile sits in the array. -/
theorem emb_4 (t : Fin (cfg0 a).N) (y : S1x1024x1024.Idx) (i : S32x1024x1024.Idx) (h0 : (i 0).val = ((expertAt a.1 (grid0.coords t)).toNat) * 1 + (y 0).val) (h1 : (i 1).val = (y 1).val) (h2 : (i 2).val = (y 2).val) :
    ((((cfg0 a).win 4).blk t).view.emb y : S32x1024x1024.Idx) = i := by
  funext (k : Fin 3)
  apply Fin.ext
  refine (Pipeline.Window.rect_emb_val ((cfg0 a).win 4) t y k rfl).trans ?_
  rw [show ((cfg0 a).win 4).index t = ![(expertAt a.1 (grid0.coords t)).toNat, 0, 0] from transform_4 _ _]
  fin_cases k
  · refine Eq.trans ?_ h0.symm
    show (((expertAt a.1 (grid0.coords t)).toNat) * 1 + (y 0).val) = _
    rfl
  · refine Eq.trans ?_ h1.symm
    show (0 * 1024 + (y 1).val) = _
    rw [Nat.zero_mul, Nat.zero_add]
  · refine Eq.trans ?_ h2.symm
    show (0 * 1024 + (y 2).val) = _
    rw [Nat.zero_mul, Nat.zero_add]

/-- Window 6: where an element of the block of a tile sits in the array. -/
theorem emb_6 (t : Fin (cfg0 a).N) (y : S1x1024x1024.Idx) (i : S32x1024x1024.Idx) (h0 : (i 0).val = ((expertAt a.1 (grid0.coords t)).toNat) * 1 + (y 0).val) (h1 : (i 1).val = (y 1).val) (h2 : (i 2).val = (y 2).val) :
    ((((cfg0 a).win 6).blk t).view.emb y : S32x1024x1024.Idx) = i := by
  funext (k : Fin 3)
  apply Fin.ext
  refine (Pipeline.Window.rect_emb_val ((cfg0 a).win 6) t y k rfl).trans ?_
  rw [show ((cfg0 a).win 6).index t = ![(expertAt a.1 (grid0.coords t)).toNat, 0, 0] from transform_6 _ _]
  fin_cases k
  · refine Eq.trans ?_ h0.symm
    show (((expertAt a.1 (grid0.coords t)).toNat) * 1 + (y 0).val) = _
    rfl
  · refine Eq.trans ?_ h1.symm
    show (0 * 1024 + (y 1).val) = _
    rw [Nat.zero_mul, Nat.zero_add]
  · refine Eq.trans ?_ h2.symm
    show (0 * 1024 + (y 2).val) = _
    rw [Nat.zero_mul, Nat.zero_add]

/-- Window 3: where an element of the block of a tile sits in the array. -/
theorem emb_3 (t : Fin (cfg0 a).N) (y : S1x1x1024.Idx) (i : S32x1x1024.Idx) (h0 : (i 0).val = ((expertAt a.1 (grid0.coords t)).toNat) * 1 + (y 0).val) (h1 : (i 1).val = (y 1).val) (h2 : (i 2).val = (y 2).val) :
    ((((cfg0 a).win 3).blk t).view.emb y : S32x1x1024.Idx) = i := by
  funext (k : Fin 3)
  apply Fin.ext
  refine (Pipeline.Window.rect_emb_val ((cfg0 a).win 3) t y k rfl).trans ?_
  rw [show ((cfg0 a).win 3).index t = ![(expertAt a.1 (grid0.coords t)).toNat, 0, 0] from transform_3 _ _]
  fin_cases k
  · refine Eq.trans ?_ h0.symm
    show (((expertAt a.1 (grid0.coords t)).toNat) * 1 + (y 0).val) = _
    rfl
  · refine Eq.trans ?_ h1.symm
    show (0 * 1 + (y 1).val) = _
    rw [Nat.zero_mul, Nat.zero_add]
  · refine Eq.trans ?_ h2.symm
    show (0 * 1024 + (y 2).val) = _
    rw [Nat.zero_mul, Nat.zero_add]

/-- Window 5: where an element of the block of a tile sits in the array. -/
theorem emb_5 (t : Fin (cfg0 a).N) (y : S1x1x1024.Idx) (i : S32x1x1024.Idx) (h0 : (i 0).val = ((expertAt a.1 (grid0.coords t)).toNat) * 1 + (y 0).val) (h1 : (i 1).val = (y 1).val) (h2 : (i 2).val = (y 2).val) :
    ((((cfg0 a).win 5).blk t).view.emb y : S32x1x1024.Idx) = i := by
  funext (k : Fin 3)
  apply Fin.ext
  refine (Pipeline.Window.rect_emb_val ((cfg0 a).win 5) t y k rfl).trans ?_
  rw [show ((cfg0 a).win 5).index t = ![(expertAt a.1 (grid0.coords t)).toNat, 0, 0] from transform_5 _ _]
  fin_cases k
  · refine Eq.trans ?_ h0.symm
    show (((expertAt a.1 (grid0.coords t)).toNat) * 1 + (y 0).val) = _
    rfl
  · refine Eq.trans ?_ h1.symm
    show (0 * 1 + (y 1).val) = _
    rw [Nat.zero_mul, Nat.zero_add]
  · refine Eq.trans ?_ h2.symm
    show (0 * 1024 + (y 2).val) = _
    rw [Nat.zero_mul, Nat.zero_add]

/-- Window 7: where an element of the block of a tile sits in the array. -/
theorem emb_7 (t : Fin (cfg0 a).N) (y : S1x1x1024.Idx) (i : S32x1x1024.Idx) (h0 : (i 0).val = ((expertAt a.1 (grid0.coords t)).toNat) * 1 + (y 0).val) (h1 : (i 1).val = (y 1).val) (h2 : (i 2).val = (y 2).val) :
    ((((cfg0 a).win 7).blk t).view.emb y : S32x1x1024.Idx) = i := by
  funext (k : Fin 3)
  apply Fin.ext
  refine (Pipeline.Window.rect_emb_val ((cfg0 a).win 7) t y k rfl).trans ?_
  rw [show ((cfg0 a).win 7).index t = ![(expertAt a.1 (grid0.coords t)).toNat, 0, 0] from transform_7 _ _]
  fin_cases k
  · refine Eq.trans ?_ h0.symm
    show (((expertAt a.1 (grid0.coords t)).toNat) * 1 + (y 0).val) = _
    rfl
  · refine Eq.trans ?_ h1.symm
    show (0 * 1 + (y 1).val) = _
    rw [Nat.zero_mul, Nat.zero_add]
  · refine Eq.trans ?_ h2.symm
    show (0 * 1024 + (y 2).val) = _
    rw [Nat.zero_mul, Nat.zero_add]

/-- Window 8: where an element of the block of a tile sits in the array. -/
theorem emb_8 (t : Fin (cfg0 a).N) (y : S512x1024.Idx) (i : S278528x1024.Idx) (h0 : (i 0).val = ((grid0.coords t 0).val) * 512 + (y 0).val) (h1 : (i 1).val = (y 1).val) :
    ((((cfg0 a).win 8).blk t).view.emb y : S278528x1024.Idx) = i := by
  funext (k : Fin 2)
  apply Fin.ext
  refine (Pipeline.Window.rect_emb_val ((cfg0 a).win 8) t y k rfl).trans ?_
  rw [show ((cfg0 a).win 8).index t = ![(grid0.coords t 0).val, 0] from transform_8 _]
  fin_cases k
  · refine Eq.trans ?_ h0.symm
    show (((grid0.coords t 0).val) * 512 + (y 0).val) = _
    rfl
  · refine Eq.trans ?_ h1.symm
    show (0 * 1024 + (y 1).val) = _
    rw [Nat.zero_mul, Nat.zero_add]

variable (m : (ℓ : Loc nD τ sig) → Buf (Elt Ideal) ℓ) (hO : Ok m) (c : Dev nD)

theorem weights_4 (i : S32x1024x1024.Idx) : (V m c main_v1 : S32x1024x1024.Idx → EReal) i = (m ((c.tc : Thread nD τ).loc main_arg4) : S32x1024x1024.Idx → EReal) i := by
  entry_read
  pointwise []

theorem weights_6 (i : S32x1024x1024.Idx) : (V m c main_v3 : S32x1024x1024.Idx → EReal) i = (m ((c.tc : Thread nD τ).loc main_arg6) : S32x1024x1024.Idx → EReal) i := by
  entry_read
  pointwise []

theorem weights_8 (i : S32x1024x1024.Idx) : (V m c main_v5 : S32x1024x1024.Idx → EReal) i = (m ((c.tc : Thread nD τ).loc main_arg8) : S32x1024x1024.Idx → EReal) i := by
  entry_read
  pointwise []

theorem bias_5 (e : Fin 32) (f : Fin 1024) : (V m c main_v2 : S32x1x1024.Idx → EReal) (ix3 e 0 f) = (m ((c.tc : Thread nD τ).loc main_arg5) : S32x1024.Idx → EReal) (ix2 e f) := by
  entry_read
  pointwise []
  blk_ext

theorem bias_7 (e : Fin 32) (f : Fin 1024) : (V m c main_v4 : S32x1x1024.Idx → EReal) (ix3 e 0 f) = (m ((c.tc : Thread nD τ).loc main_arg7) : S32x1024.Idx → EReal) (ix2 e f) := by
  entry_read
  pointwise []
  blk_ext

theorem bias_9 (e : Fin 32) (f : Fin 1024) : (V m c main_v6 : S32x1x1024.Idx → EReal) (ix3 e 0 f) = (m ((c.tc : Thread nD τ).loc main_arg9) : S32x1024.Idx → EReal) (ix2 e f) := by
  entry_read
  pointwise []
  blk_ext

theorem gain_3 (k : Fin 1024) : (V m c main_v0 : S1x1024.Idx → EReal) (ix2 0 k) = (m ((c.tc : Thread nD τ).loc main_arg3) : S1024.Idx → EReal) (ix1 k) := by
  entry_read
  pointwise []
  blk_ext

/-- The kernel's condition is the comparison of the tile's number with the count of tiles in use. -/
theorem cond_iff (i : grid0.Coords) (n : BitVec 32) : k0_cond1 i n = 1#1 ↔ (BitVec.ofNat 32 (i 0).val).slt n = true := by
  unfold k0_cond1
  simp only [Scalar.cmpi, Scalar.extui, IntOp.cmpi]
  by_cases h : (BitVec.ofNat 32 (i 0).val).slt n <;> simp [h]

theorem zeros_apply (y : S512x1024.Idx) : k0_pay2 (F := Ideal) y = 0 := by
  unfold k0_pay2
  pointwise []

/-- What the body leaves at one place of a tile in use. -/
theorem out_used (i : grid0.Coords) (n : BitVec 32) (x0 : S512x1024.Idx → EReal) (x1 : S1x1024.Idx → EReal) (x2 x4 x6 : S1x1024x1024.Idx → EReal) (x3 x5 x7 : S1x1x1024.Idx → EReal)
    (h : (BitVec.ofNat 32 (i 0).val).slt n = true) (r : Fin 512) (d : Fin 1024) :
    out (F := Ideal) i n x0 x1 x2 x3 x4 x5 x6 x7 (ix2 r d)
      = expert (rowOf x0 r) (gainOf x1) (matOf x2) (biasOf x3) (matOf x4) (biasOf x5) (matOf x6) (biasOf x7) d := by
  unfold out
  rw [if_pos ((cond_iff i n).mpr h), last_apply]
  simp only [gate_apply, linear_apply]
  rfl

/-- What the body leaves at one place of a tile not in use. -/
theorem out_unused (i : grid0.Coords) (n : BitVec 32) (x0 : S512x1024.Idx → EReal) (x1 : S1x1024.Idx → EReal) (x2 x4 x6 : S1x1024x1024.Idx → EReal) (x3 x5 x7 : S1x1x1024.Idx → EReal)
    (h : ¬ (BitVec.ofNat 32 (i 0).val).slt n = true) (y : S512x1024.Idx) :
    out (F := Ideal) i n x0 x1 x2 x3 x4 x5 x6 x7 y = (0 : EReal) := by
  unfold out
  rw [if_neg fun hc => h ((cond_iff i n).mp hc)]
  exact zeros_apply y

/-- The count of tiles in use, read from its table. -/
theorem count_eq (x : S1.Idx → BitVec 32) : count (F := Ideal) c x = x (ix1 0) :=
  congrArg x (one_place _ _)

theorem count_tbl : count (F := Ideal) c (tbl m 1) = (m ((c.tc : Thread nD τ).loc main_arg2) : S1.Idx → BitVec 32) (ix1 0) := by
  obtain rfl : c = 0 := Subsingleton.elim _ _
  exact (count_eq 0 _).trans (congrFun (V_main_arg2 m 0) (ix1 0))

/-- The place in the whole array of row `r` of tile `t`. -/
def rowAt (t : Fin grid0.N) (r : Fin 512) : Fin 278528 := ⟨t.val * 512 + r.val, by have h : t.val < 544 := t.isLt; omega⟩

theorem tile_rowAt (t : Fin grid0.N) (r : Fin 512) : (tile (rowAt t r)).val = t.val := by
  show (t.val * 512 + r.val) / 512 = t.val
  omega

/-- The expert of a tile. -/
def expertOf (hn : ∀ t : S544.Idx, ((m ((c.tc : Thread nD τ).loc main_arg1) : S544.Idx → BitVec 32) t).toNat < 32) (t : Fin grid0.N) : Fin 32 :=
  ⟨((m ((c.tc : Thread nD τ).loc main_arg1) : S544.Idx → BitVec 32) (ix1 ⟨t.val, t.isLt⟩)).toNat, hn _⟩

theorem expertAt_of (hn : ∀ t : S544.Idx, ((m ((c.tc : Thread nD τ).loc main_arg1) : S544.Idx → BitVec 32) t).toNat < 32) (t : Fin grid0.N) :
    (expertAt (tbl m) (grid0.coords t)).toNat = (expertOf m c hn t).val := by
  obtain rfl : c = 0 := Subsingleton.elim _ _
  rw [expertAt_tbl m (grid0.coords t) (ix1 ⟨t.val, t.isLt⟩) (coord t).symm]
  rfl

theorem read_0 (t : Fin (cfgM m hO).N) (r : Fin 512) : rowOf (iblk m hO c 0 t) r
    = fun k => (m ((c.tc : Thread nD τ).loc main_arg0) : S278528x1024.Idx → EReal) (ix2 (rowAt t r) k) := by
  funext k
  refine Eq.trans (congrArg (V m c main_arg0 : S278528x1024.Idx → EReal) (emb_0 (adm m hO) t (ix2 r k) (ix2 (rowAt t r) k) ?_ rfl)) ?_
  · rw [coord]; rfl
  · rw [V_main_arg0]

theorem read_1 (t : Fin (cfgM m hO).N) : gainOf (iblk m hO c 1 t) = fun k => (m ((c.tc : Thread nD τ).loc main_arg3) : S1024.Idx → EReal) (ix1 k) := by
  funext k
  exact Eq.trans (congrArg (V m c main_v0 : S1x1024.Idx → EReal) (emb_1 (adm m hO) t (ix2 0 k) (ix2 0 k) rfl rfl)) (gain_3 m c k)

variable (hn : ∀ t : S544.Idx, ((m ((c.tc : Thread nD τ).loc main_arg1) : S544.Idx → BitVec 32) t).toNat < 32)

theorem read_2 (t : Fin (cfgM m hO).N) : matOf (iblk m hO c 2 t)
    = fun k f => (m ((c.tc : Thread nD τ).loc main_arg4) : S32x1024x1024.Idx → EReal) (ix3 (expertOf m c hn t) k f) := by
  funext k f
  refine Eq.trans (congrArg (V m c main_v1 : S32x1024x1024.Idx → EReal) (emb_2 (adm m hO) t (ix3 0 k f) (ix3 (expertOf m c hn t) k f) ?_ rfl rfl)) (weights_4 m c _)
  exact (expertAt_of m c hn t).symm.trans (Nat.mul_one _).symm

theorem read_4 (t : Fin (cfgM m hO).N) : matOf (iblk m hO c 4 t)
    = fun k f => (m ((c.tc : Thread nD τ).loc main_arg6) : S32x1024x1024.Idx → EReal) (ix3 (expertOf m c hn t) k f) := by
  funext k f
  refine Eq.trans (congrArg (V m c main_v3 : S32x1024x1024.Idx → EReal) (emb_4 (adm m hO) t (ix3 0 k f) (ix3 (expertOf m c hn t) k f) ?_ rfl rfl)) (weights_6 m c _)
  exact (expertAt_of m c hn t).symm.trans (Nat.mul_one _).symm

theorem read_6 (t : Fin (cfgM m hO).N) : matOf (iblk m hO c 6 t)
    = fun k f => (m ((c.tc : Thread nD τ).loc main_arg8) : S32x1024x1024.Idx → EReal) (ix3 (expertOf m c hn t) k f) := by
  funext k f
  refine Eq.trans (congrArg (V m c main_v5 : S32x1024x1024.Idx → EReal) (emb_6 (adm m hO) t (ix3 0 k f) (ix3 (expertOf m c hn t) k f) ?_ rfl rfl)) (weights_8 m c _)
  exact (expertAt_of m c hn t).symm.trans (Nat.mul_one _).symm

theorem read_3 (t : Fin (cfgM m hO).N) : biasOf (iblk m hO c 3 t)
    = fun f => (m ((c.tc : Thread nD τ).loc main_arg5) : S32x1024.Idx → EReal) (ix2 (expertOf m c hn t) f) := by
  funext f
  refine Eq.trans (congrArg (V m c main_v2 : S32x1x1024.Idx → EReal) (emb_3 (adm m hO) t (ix3 0 0 f) (ix3 (expertOf m c hn t) 0 f) ?_ rfl rfl)) (bias_5 m c _ _)
  exact (expertAt_of m c hn t).symm.trans (Nat.mul_one _).symm

theorem read_5 (t : Fin (cfgM m hO).N) : biasOf (iblk m hO c 5 t)
    = fun f => (m ((c.tc : Thread nD τ).loc main_arg7) : S32x1024.Idx → EReal) (ix2 (expertOf m c hn t) f) := by
  funext f
  refine Eq.trans (congrArg (V m c main_v4 : S32x1x1024.Idx → EReal) (emb_5 (adm m hO) t (ix3 0 0 f) (ix3 (expertOf m c hn t) 0 f) ?_ rfl rfl)) (bias_7 m c _ _)
  exact (expertAt_of m c hn t).symm.trans (Nat.mul_one _).symm

theorem read_7 (t : Fin (cfgM m hO).N) : biasOf (iblk m hO c 7 t)
    = fun f => (m ((c.tc : Thread nD τ).loc main_arg9) : S32x1024.Idx → EReal) (ix2 (expertOf m c hn t) f) := by
  funext f
  refine Eq.trans (congrArg (V m c main_v6 : S32x1x1024.Idx → EReal) (emb_7 (adm m hO) t (ix3 0 0 f) (ix3 (expertOf m c hn t) 0 f) ?_ rfl rfl)) (bias_9 m c _ _)
  exact (expertAt_of m c hn t).symm.trans (Nat.mul_one _).symm

/-- The whole result in terms of the launch memory. -/
def result : S278528x1024.Idx → EReal :=
  whole (m ((c.tc : Thread nD τ).loc main_arg0) : S278528x1024.Idx → EReal) (m ((c.tc : Thread nD τ).loc main_arg1) : S544.Idx → BitVec 32) (m ((c.tc : Thread nD τ).loc main_arg2) : S1.Idx → BitVec 32) (m ((c.tc : Thread nD τ).loc main_arg3) : S1024.Idx → EReal) (m ((c.tc : Thread nD τ).loc main_arg4) : S32x1024x1024.Idx → EReal) (m ((c.tc : Thread nD τ).loc main_arg5) : S32x1024.Idx → EReal) (m ((c.tc : Thread nD τ).loc main_arg6) : S32x1024x1024.Idx → EReal) (m ((c.tc : Thread nD τ).loc main_arg7) : S32x1024.Idx → EReal) (m ((c.tc : Thread nD τ).loc main_arg8) : S32x1024x1024.Idx → EReal) (m ((c.tc : Thread nD τ).loc main_arg9) : S32x1024.Idx → EReal)

include hn in
theorem named_eq (t : Fin grid0.N) (r : Fin 512) : named (m ((c.tc : Thread nD τ).loc main_arg1) : S544.Idx → BitVec 32) (tile (rowAt t r)) = expertOf m c hn t := by
  apply Fin.ext
  rw [show tile (rowAt t r) = ⟨t.val, t.isLt⟩ from Fin.ext (tile_rowAt t r)]
  exact Nat.mod_eq_of_lt (hn _)

include hn in
/-- What a tile leaves is its part of the whole result. -/
theorem outs_apply (t : Fin (cfgM m hO).N) (r : Fin 512) (d : Fin 1024) : (outsAt0 m hO c t : S512x1024.Idx → EReal) (ix2 r d) = result m c (ix2 (rowAt t r) d) := by
  have ht : (grid0.coords t 0).val = (tile (rowAt t r)).val := (coord t).trans (tile_rowAt t r).symm
  unfold outsAt0 result whole
  by_cases hu : used (m ((c.tc : Thread nD τ).loc main_arg2) : S1.Idx → BitVec 32) (tile (rowAt t r))
  · refine Eq.trans (out_used _ _ _ _ _ _ _ _ _ _ ?_ r d) ?_
    · rw [count_tbl, ht]; exact hu
    · rw [read_0, read_1, read_2 m hO c hn, read_3 m hO c hn, read_4 m hO c hn, read_5 m hO c hn, read_6 m hO c hn, read_7 m hO c hn]
      refine Eq.trans ?_ (if_pos hu).symm
      show _ = byExpert _ _ _ _ _ _ _ _ (named _ (tile (rowAt t r))) (rowAt t r) d
      rw [named_eq m c hn t r]
      rfl
  · refine Eq.trans (out_unused _ _ _ _ _ _ _ _ _ _ ?_ _) (if_neg hu).symm
    rw [count_tbl, ht]; exact hu

/-- The array written by a pass from what its tiles leave, whatever the tables' contents. -/
theorem final_of (dat : Dat τ (Elt Ideal) Unit ℕ (UR sig nD τ) ℕ (cfg0 a) c) (o : Fin (cfg0 a).N → S512x1024.Idx → EReal)
    (ho : ∀ t, dat.after 8 t = o t) (G : S278528x1024.Idx → EReal)
    (hG : ∀ (t : Fin (cfg0 a).N) (r : Fin 512) (d : Fin 1024), o t (ix2 r d) = G (ix2 (rowAt t r) d)) : dat.arrAt 8 (cfg0 a).N = G := by
  refine dat.arrAt_eq_of_emb 8 G (fun t _ y => ?_) fun i => ?_
  · have hy (y : S512x1024.Idx) : o t y = G (((((cfg0 a).win 8).blk t).view.emb y : S278528x1024.Idx)) := by
      obtain ⟨r, d, rfl⟩ : ∃ (r : Fin 512) (d : Fin 1024), y = ix2 r d := ⟨y 0, y 1, by funext (k : Fin 2); fin_cases k <;> rfl⟩
      rw [emb_8 a t (ix2 r d) (ix2 (rowAt t r) d) (by rw [coord]; rfl) rfl]
      exact hG t r d
    refine Eq.trans ?_ (hy y)
    rw [ho t]
    rfl
  · have hi : (i (0 : Fin 2)).val < 278528 := (i (0 : Fin 2)).isLt
    have ht : (i (0 : Fin 2)).val / 512 < 544 := by omega
    let t : Fin (cfg0 a).N := (⟨(i (0 : Fin 2)).val / 512, ht⟩ : Fin 544)
    refine ⟨t, flush0_8 a t, ?_⟩
    have he := emb_8 a t (ix2 ⟨(i (0 : Fin 2)).val % 512, Nat.mod_lt _ (by decide)⟩ (i (1 : Fin 2))) i (by
      rw [coord]
      show (i (0 : Fin 2)).val = (i (0 : Fin 2)).val / 512 * 512 + (i (0 : Fin 2)).val % 512
      omega) rfl
    exact he ▸ View.emb_mem_set _ _

include hn in
/-- The whole result of the pass. -/
theorem final : (dats m hO 0 c).arrAt 8 (cfgM m hO).N = result m c :=
  final_of (adm m hO) c (dats m hO 0 c) (outsAt0 m hO c) (after0_8 m hO c) (result m c) (outs_apply m hO c hn)

/-- The run of the kernel: its result is `result`, its arguments are kept. -/
theorem run (ρ : Dev nD → PrngReg) (hn : ∀ (c : Dev nD) (t : S544.Idx), ((m ((c.tc : Thread nD τ).loc main_arg1) : S544.Idx → BitVec 32) t).toNat < 32) :
    θ_run (defs (F := Ideal)) (onTc (τ := τ) (main (F := Ideal))) ⟨m, fun _ => 0, ρ⟩ (fun r => ∀ c : Dev nD,
      r.2.mem ((c.tc : Thread nD τ).loc main_v7) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) := by
  have hO : Ok m := ok_of_named m (hn 0)
  refine (θ_run defs _ _).mono (fun r h c => ?_) (run_main m ρ hO)
  exact ⟨((h c).1 8).trans (final m hO c (hn c)), ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩

end Cert.ExpertsIdeal.Block
end
-- ==== Proof.ExpertsRefValue.lean ====
/- The reference of the experts, read at one place of its result. -/
module

public import proofs.«01_k».proof.Proof.Gen.ExpertsRefIdeal.Read
public import proofs.«01_k».proof.Proof.ExpertsScore
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ExpertsRefIdeal.Sum

open Cert.ExpertsRefIdeal Cert.ExpertsRefIdeal.Read Cert.ExpertsScore

variable (X : S278528x1024.Idx → EReal) (te : S544.Idx → BitVec 32) (nv : S1.Idx → BitVec 32) (G : S1024.Idx → EReal)
  (Wg : S32x1024x1024.Idx → EReal) (Bg : S32x1024.Idx → EReal) (Wu : S32x1024x1024.Idx → EReal) (Bu : S32x1024.Idx → EReal)
  (Wd : S32x1024x1024.Idx → EReal) (Bd : S32x1024.Idx → EReal) (e : Fin 32) (n : Fin 278528) (d f : Fin 1024)

/-- The constant zero. -/
theorem zero_apply (i : S_.Idx) : val_main_cst (F := Ideal) i = 0 := Ideal.ofBits_zero .f32

/-- The normed row. -/
theorem normed_apply : val_main_v12 (F := Ideal) X G (ix2 n d) = normed (fun k => X (ix2 n k)) (fun k => G (ix1 k)) d := by
  have e1 (k : Fin 1024) : idx_main_v1 (idx_main_v2 (idx_main_v8 (ix2 n d))) k = ix2 n k := by blk_ext
  have e2 : idx_main_v10 (idx_main_v11 (ix2 n d)) = ix1 d := by blk_ext
  rw [val_main_v12_apply, val_main_v9_apply, val_main_v8_apply, val_main_v7_apply, val_main_v6_apply, val_main_v4_apply, val_main_v2_apply,
    val_main_v1_apply, val_main_v3_apply, val_main_v5_apply, val_main_cst_0_apply, val_main_cst_1_apply, val_main_v11_apply, val_main_v10_apply, e2,
    zero_apply, zero_add]
  simp only [e1, val_main_v0_apply]
  rfl

/-- A row of the first product. -/
theorem dot_apply (W : S32x1024x1024.Idx → EReal) : val_main_v30 (F := Ideal) X G W (ix3 e f n)
    = ∑ k, normed (fun k => X (ix2 n k)) (fun k => G (ix1 k)) k * W (ix3 e k f) := by
  rw [val_main_v30_apply]
  refine Finset.sum_congr rfl fun k _ => ?_
  rw [mul_comm, show lidx_main_v30 (ix3 e f n) k = ix3 e k f by blk_ext, show ridx_main_v30 (ix3 e f n) k = ix2 n k by blk_ext, normed_apply]

/-- The gate. -/
theorem gate_apply : val_main_v36 (F := Ideal) X G Wg Bg (ix3 e n f)
    = gate (fun k => X (ix2 n k)) (fun k => G (ix1 k)) (fun a b => Wg (ix3 e a b)) (fun k => Bg (ix2 e k)) f := by
  rw [val_main_v36_apply, val_main_v34_apply, val_main_v31_apply, val_main_v33_apply, val_main_v32_apply, val_main_v35_apply, val_main_cst_2_apply,
    show idx_main_v31 (ix3 e n f) = ix3 e f n by blk_ext, show idx_main_v32 (idx_main_v33 (ix3 e n f)) = ix2 e f by blk_ext, dot_apply]
  rfl

/-- The linear part. -/
theorem linear_apply : val_main_v42 (F := Ideal) X G Wu Bu (ix3 e n f)
    = linear (fun k => X (ix2 n k)) (fun k => G (ix1 k)) (fun a b => Wu (ix3 e a b)) (fun k => Bu (ix2 e k)) f := by
  have h : val_main_v37 (F := Ideal) X G Wu = val_main_v30 (F := Ideal) X G Wu := rfl
  rw [val_main_v42_apply, val_main_call0_v4_apply, val_main_call0_v3_apply, val_main_cst_4_apply, val_main_call0_v2_apply, val_main_call0_v1_apply,
    val_main_call0_v0_apply, val_main_cst_3_apply, val_main_v41_apply, val_main_v38_apply, val_main_v40_apply, val_main_v39_apply,
    show idx_main_v38 (ix3 e n f) = ix3 e f n by blk_ext, show idx_main_v39 (idx_main_v40 (ix3 e n f)) = ix2 e f by blk_ext, h, dot_apply]
  rfl

/-- One is one. -/
theorem one_eq : one = 1 := by
  simp [one, Ideal.ofBits, Ideal.ieee]
  rw [← EReal.coe_mul]
  norm_num

/-- A hidden unit. -/
theorem hidden_apply : val_main_v54 (F := Ideal) X G Wg Bg Wu Bu (ix3 e n f)
    = ExpertsScore.hidden (fun k => X (ix2 n k)) (fun k => G (ix1 k)) (fun a b => Wg (ix3 e a b)) (fun k => Bg (ix2 e k)) (fun a b => Wu (ix3 e a b)) (fun k => Bu (ix2 e k)) f := by
  rw [val_main_v54_apply, val_main_v45_apply, val_main_v44_apply, val_main_v43_apply, val_main_cst_5_apply, val_main_v53_apply, val_main_v52_apply,
    val_main_cst_8_apply, val_main_v51_apply, val_main_v50_apply, val_main_cst_7_apply, val_main_v49_apply, val_main_v48_apply, val_main_v47_apply,
    val_main_v46_apply, val_main_cst_6_apply, gate_apply, linear_apply]
  unfold ExpertsScore.hidden Ideal.logistic
  rw [← one_eq]
  rfl

/-- The output of one expert for one row. -/
theorem expert_apply : val_main_v58 (F := Ideal) X G Wg Bg Wu Bu Wd Bd (ix3 e n d) = byExpert X G Wg Bg Wu Bu Wd Bd e n d := by
  rw [val_main_v58_apply, val_main_v55_apply, val_main_v57_apply, val_main_v56_apply, show idx_main_v56 (idx_main_v57 (ix3 e n d)) = ix2 e d by blk_ext]
  have h (k : Fin 1024) : val_main_v54 (F := Ideal) X G Wg Bg Wu Bu (lidx_main_v55 (ix3 e n d) k) * Wd (ridx_main_v55 (ix3 e n d) k)
      = ExpertsScore.hidden (fun k => X (ix2 n k)) (fun k => G (ix1 k)) (fun a b => Wg (ix3 e a b)) (fun k => Bg (ix2 e k)) (fun a b => Wu (ix3 e a b)) (fun k => Bu (ix2 e k)) k
        * Wd (ix3 e k d) := by
    rw [show lidx_main_v55 (ix3 e n d) k = ix3 e n k by blk_ext, show ridx_main_v55 (ix3 e n d) k = ix3 e k d by blk_ext, hidden_apply]
  simp only [h]
  rfl

/-- The count of tiles in use, as a scalar. -/
theorem count_apply (i : S_.Idx) : val_main_v20 (F := Ideal) nv i = nv (ix1 0) := by
  unfold val_main_v20
  pointwise []

/-- Whether a row is sent to an expert. -/
theorem mask_apply : val_main_v29 (F := Ideal) te nv (ix2 n e)
    = FloatOps.uitofp (F := Ideal) .f32 (IntOp.andi (IntOp.cmpi .eq (te (ix1 (tile n))) (BitVec.ofNat 32 e.val)) (IntOp.cmpi .slt (BitVec.ofNat 32 (tile n).val) (nv (ix1 0)))) := by
  have e1 : idx_main_v26 (idx_main_v27 (idx_main_v28 (ix2 n e))) = ix2 (tile n) e := by
    funext a
    match a with
    | ⟨0, _⟩ => exact Fin.ext (show (n.val * 32 + e.val) / 16384 = n.val / 512 by omega)
    | ⟨1, _⟩ => exact Fin.ext (show (n.val * 32 + e.val) % 32 = e.val by omega)
  rw [val_main_v29_apply, val_main_v28_apply, val_main_v27_apply, val_main_v26_apply, e1, val_main_v25_apply, val_main_v19_apply, val_main_v17_apply,
    val_main_v14_apply, val_main_v18_apply, val_main_v16_apply, val_main_v15_apply, val_main_v24_apply, val_main_v23_apply, val_main_v22_apply, val_main_v21_apply,
    val_main_v13_apply, count_apply, show idx_main_v14 (idx_main_v17 (ix2 (tile n) e)) = ix1 (tile n) by blk_ext]
  rfl

/-- A row's result before the sum over the experts. -/
theorem term_apply : val_main_v62 (F := Ideal) X te nv G Wg Bg Wu Bu Wd Bd (ix3 e n d)
    = (val_main_v29 (F := Ideal) te nv (ix2 n e) : EReal) * byExpert X G Wg Bg Wu Bu Wd Bd e n d := by
  rw [val_main_v62_apply, val_main_v61_apply, val_main_v60_apply, val_main_v59_apply, expert_apply,
    show idx_main_v59 (idx_main_v60 (idx_main_v61 (ix3 e n d))) = ix2 n e by blk_ext]
  rfl

/-- The mask of a row and an expert is one when the tile is in use and the table names the expert, zero otherwise. -/
theorem mask_one (h : (te (ix1 (tile n))).toNat < 32) (hu : used nv (tile n)) (he : e = named te (tile n)) :
    (val_main_v29 (F := Ideal) te nv (ix2 n e) : EReal) = 1 := by
  have hw : te (ix1 (tile n)) = BitVec.ofNat 32 e.val := by
    subst he
    apply BitVec.eq_of_toNat_eq
    show _ = (BitVec.ofNat 32 ((te (ix1 (tile n))).toNat % 32)).toNat
    rw [BitVec.toNat_ofNat]
    omega
  unfold used at hu
  rw [mask_apply, hw]
  simp only [IntOp.cmpi, beq_self_eq_true, hu]
  simp [FloatOps.uitofp, IntOp.andi]

theorem mask_zero (h : (te (ix1 (tile n))).toNat < 32) (hu : ¬ (used nv (tile n) ∧ e = named te (tile n))) :
    (val_main_v29 (F := Ideal) te nv (ix2 n e) : EReal) = 0 := by
  rw [mask_apply]
  by_cases hs : used nv (tile n)
  · have hw : ¬ te (ix1 (tile n)) = BitVec.ofNat 32 e.val := fun hw => hu ⟨hs, Fin.ext (by
      show e.val = (te (ix1 (tile n))).toNat % 32
      rw [hw, BitVec.toNat_ofNat]
      omega)⟩
    have hb : (te (ix1 (tile n)) == BitVec.ofNat 32 e.val) = false := beq_eq_false_iff_ne.mpr hw
    simp only [IntOp.cmpi, hb]
    simp [FloatOps.uitofp, IntOp.andi]
  · unfold used at hs
    have hb : (BitVec.ofNat 32 (tile n).val).slt (nv (ix1 0)) = false := by simpa using hs
    simp only [IntOp.cmpi, hb]
    simp [FloatOps.uitofp, IntOp.andi]

open Classical in
/-- The reference's result: each row under the expert its tile is sent to, zeros in tiles that are not in use. -/
theorem whole_eq (h : ∀ t, (te t).toNat < 32) : val_main_v63 (F := Ideal) X te nv G Wg Bg Wu Bu Wd Bd = whole X te nv G Wg Bg Wu Bu Wd Bd := by
  funext j
  obtain ⟨n, d, rfl⟩ : ∃ (n : Fin 278528) (d : Fin 1024), j = ix2 n d := by
    exact ⟨j 0, j 1, by idx_vars j; blk_ext⟩
  have hc : val_main_cst_9 (F := Ideal) (Shape.Idx.first Gen.h_S_) = 0 := Ideal.ofBits_zero .f32
  have ht (k : Fin 32) : val_main_v62 (F := Ideal) X te nv G Wg Bg Wu Bu Wd Bd (idx_main_v63 (ix2 n d) k)
      = (val_main_v29 (F := Ideal) te nv (ix2 n k) : EReal) * byExpert X G Wg Bg Wu Bu Wd Bd k n d := by
    rw [show idx_main_v63 (ix2 n d) k = ix3 k n d by blk_ext, term_apply]
  rw [val_main_v63_apply, hc, zero_add]
  simp only [ht]
  show _ = if used nv (tile n) then byExpert X G Wg Bg Wu Bu Wd Bd (named te (tile n)) n d else 0
  by_cases hu : used nv (tile n)
  · rw [if_pos hu, Finset.sum_eq_single (named te (tile n))
      (fun k _ hk => by rw [mask_zero te nv k n (h _) (fun hh => hk hh.2), zero_mul]) (fun hn => absurd (Finset.mem_univ _) hn),
      mask_one te nv _ n (h _) hu rfl, one_mul]
  · rw [if_neg hu]
    exact Finset.sum_eq_zero fun k _ => by rw [mask_zero te nv k n (h _) (fun hh => hu hh.1), zero_mul]

end Cert.ExpertsRefIdeal.Sum
end
-- ==== Proof.ExpertsPre.lean ====
/- The table of experts: the precondition says that every word of it names one of the thirty-two experts. -/
module

public import proofs.«01_k».proof.Pre_experts_named
public import Idealize.ShloMosaic.Lib.Pointwise

@[expose] public section

noncomputable section

open Idealize.ShloMosaic

namespace Cert.ExpertsPre

instance facts : Cert.Pre_experts_named.Facts := ⟨by decide⟩

/-- A word between 0 and 31 as a signed number is below 32 as a natural number. -/
theorem word_lt (w : BitVec 32) (h0 : IntOp.cmpi .sge w 0#32 = 1#1) (h1 : IntOp.cmpi .slt w 32#32 = 1#1) : w.toNat < 32 := by
  have ofBool_one (b : Bool) : BitVec.ofBool b = 1#1 ↔ b = true := by cases b <;> decide
  simp only [IntOp.cmpi, ofBool_one, BitVec.sle, BitVec.slt, decide_eq_true_eq] at h0 h1
  have h32 : (32#32 : BitVec 32).toInt = 32 := by decide
  have hz : (0#32 : BitVec 32).toInt = 0 := by decide
  rw [h32] at h1
  rw [hz] at h0
  rw [BitVec.toInt_eq_toNat_cond] at h0 h1
  split at h0 <;> omega

/-- Under the precondition every word of the table is below 32. -/
theorem named {F : FTy → Type} [FloatOps F] (x0) (te : IVec Cert.Pre_experts_named.S544 32) (x2 x3 x4 x5 x6 x7 x8 x9)
    (h : Cert.Pre_experts_named.fn (F := F) x0 te x2 x3 x4 x5 x6 x7 x8 x9 = fun _ => 1#1) (t : Cert.Pre_experts_named.S544.Idx) : (te t).toNat < 32 := by
  have andi_one (a b : BitVec 1) : IntOp.andi a b = 1#1 ↔ a = 1#1 ∧ b = 1#1 := by revert a b; decide
  have pre := congrFun h t
  simp only [Cert.Pre_experts_named.fn, constantI, broadcastInDim, cmpi, andi, andi_one] at pre
  exact word_lt _ pre.1 pre.2

end Cert.ExpertsPre
end
-- ==== Proof.MergeScore.lean ====
/- The gated merge of two branches and the output projection, row by row. -/
module

public import proofs.«01_k».proof.Proof.ExpertsScore
public import Idealize.ShloMosaic.Lib.Pointwise

@[expose] public section

noncomputable section

open Idealize.ShloMosaic

namespace Cert.MergeScore

open Cert.ExpertsScore

/-- The two halves of the gates' columns. -/
def left (d : Fin 1024) : Fin 2048 := ⟨d.val, by omega⟩
def right (d : Fin 1024) : Fin 2048 := ⟨1024 + d.val, by omega⟩

/-- The place of a branch's column among the columns of heads padded from 64 to 128. -/
def spread (k : Fin 512) : Fin 1024 := ⟨k.val / 64 * 128 + k.val % 64, by omega⟩

variable (x g : Fin 1024 → EReal) (a b : Fin 1024 → EReal) (wm : Fin 1024 → Fin 2048 → EReal) (bm : Fin 2048 → EReal)
  (wa wb : Fin 512 → Fin 1024 → EReal) (wo : Fin 1024 → Fin 1024 → EReal)

/-- A merge gate. -/
def mergeGate (j : Fin 2048) : EReal := Ideal.logistic ((∑ d, normed x g d * wm d j) + bm j)

/-- A branch's output lifted to the model's width, from its padded columns. -/
def lift (d : Fin 1024) : EReal := ∑ k : Fin 512, a (spread k) * wa k d

/-- The merged branches. -/
def merged (d : Fin 1024) : EReal :=
  mergeGate x g wm bm (left d) * lift a wa d + mergeGate x g wm bm (right d) * lift b wb d

/-- The layer's input with the projected merge added. -/
def mergeOut (d : Fin 1024) : EReal := x d + ∑ k, merged x g a b wm bm wa wb k * wo k d

/-- A row of a lift matrix with zero rows put between the heads. -/
def padded (k d : Fin 1024) : EReal := if h : k.val % 128 < 64 then wa ⟨k.val / 128 * 64 + k.val % 128, by omega⟩ d else 0

/-- The lift with the padded matrix is the lift: the zero rows add nothing, whatever the padded columns hold. -/
theorem lift_padded (d : Fin 1024) : (∑ k : Fin 1024, a k * padded wa k d) = lift a wa d := by
  refine (Finset.sum_of_injOn spread (fun k _ l _ h => ?_) (fun _ _ => Finset.mem_univ _) (fun k _ hk => ?_) (fun k _ => ?_)).symm
  · have := congrArg Fin.val h
    simp only [spread] at this
    exact Fin.ext (by omega)
  · unfold padded
    by_cases h : k.val % 128 < 64
    · exact absurd ⟨⟨k.val / 128 * 64 + k.val % 128, by omega⟩, Finset.mem_coe.mpr (Finset.mem_univ _), Fin.ext (by simp only [spread]; omega)⟩ hk
    · rw [dif_neg h, mul_zero]
  · have h : (spread k).val % 128 < 64 := by simp only [spread]; omega
    unfold padded
    rw [dif_pos h]
    congr 2
    exact Fin.ext (by simp only [spread]; omega)

abbrev SN : Shape := ⟨2, ![65536, 1024]⟩
abbrev SV : Shape := ⟨1, ![1024]⟩
abbrev SM : Shape := ⟨2, ![1024, 2048]⟩
abbrev SG : Shape := ⟨1, ![2048]⟩
abbrev SU : Shape := ⟨2, ![512, 1024]⟩
abbrev SO : Shape := ⟨2, ![1024, 1024]⟩

/-- The whole result: every row merged. -/
def whole (X : SN.Idx → EReal) (G : SV.Idx → EReal) (A B : SN.Idx → EReal) (Wm : SM.Idx → EReal) (Bm : SG.Idx → EReal)
    (Wa Wb : SU.Idx → EReal) (Wo : SO.Idx → EReal) : SN.Idx → EReal := fun j =>
  mergeOut (fun k => X (ix2 (j 0) k)) (fun k => G (ix1 k)) (fun k => A (ix2 (j 0) k)) (fun k => B (ix2 (j 0) k)) (fun k l => Wm (ix2 k l))
    (fun k => Bm (ix1 k)) (fun k l => Wa (ix2 k l)) (fun k l => Wb (ix2 k l)) (fun k l => Wo (ix2 k l)) (j 1)

end Cert.MergeScore
end
-- ==== Proof.MergeHost.lean ====
/- The merge's operands as its region finds them. -/
module

public import proofs.«01_k».proof.Proof.Gen.MergeIdeal.Frame
public import proofs.«01_k».proof.Proof.MergeScore
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeIdeal.Entry

open Cert.MergeIdeal Cert.MergeIdeal.Gen Cert.MergeScore

variable (m : (ℓ : Loc nD τ sig) → Buf (Elt Ideal) ℓ) (c : Dev nD)

/-- A lift matrix with zero rows put between the heads, as the host builds it. -/
def widened (W : S512x1024.Idx → EReal) : S1024x1024.Idx → EReal :=
  truncf (F := Ideal) .bf16 (transpose S1024x1024 [1, 0] (shapeCast S1024x1024 (pad S1024x8x128 ![0, 0, 0] ![0, 0, 64] ![0, 0, 0]
    (shapeCast S1024x8x64 (transpose S1024x512 [1, 0] W transposes_S512x1024_S1024x512_1_0) shapeCasts_S1024x512_S1024x8x64)
    (sitofp (F := Ideal) .f32 (constantI S_ 32 0#32)) pads_S1024x8x64_S1024x8x128_000_000_0640 h_S_) shapeCasts_S1024x8x128_S1024x1024) transposes_S1024x1024_S1024x1024_1_0) bitsLt_bf16_f32

theorem widened_apply (W : S512x1024.Idx → EReal) (k d : Fin 1024) : widened W (ix2 k d) = padded (fun k l => W (ix2 k l)) k d := by
  unfold widened
  pointwise [padded]
  have h8 : k.val / 128 < 8 := by omega
  by_cases h : k.val % 128 < 64
  · rw [dif_pos ⟨h8, h⟩, dif_pos h]
  · rw [dif_neg h, dif_neg fun hh => h hh.2]
    simp [FloatOps.sitofp]

/-- The lift matrix of a branch as the region finds it. -/
theorem lift_6 : (V m c main_v8 : S1024x1024.Idx → EReal) = widened (m ((c.tc : Thread nD τ).loc main_arg6)) := by
  dsimp only [V]
  simp only [List.flatten_cons, List.flatten_nil, List.append_nil, List.cons_append, List.nil_append, StableHlo.TRef.unary, StableHlo.TRef.binary]
  entry_read
  simp only [StableHlo.TRef.toBuf, StableHlo.TRef.ofBuf, cast_eq, eqRec_eq_cast]
  rfl

/-- The lift matrix of a branch as the region finds it. -/
theorem lift_7 : (V m c main_v14 : S1024x1024.Idx → EReal) = widened (m ((c.tc : Thread nD τ).loc main_arg7)) := by
  dsimp only [V]
  simp only [List.flatten_cons, List.flatten_nil, List.append_nil, List.cons_append, List.nil_append, StableHlo.TRef.unary, StableHlo.TRef.binary]
  entry_read
  simp only [StableHlo.TRef.toBuf, StableHlo.TRef.ofBuf, cast_eq, eqRec_eq_cast]
  rfl

/-- A vector as one row. -/
theorem row_apply_1024 (G : S1024.Idx → EReal) (k : Fin 1024) : shapeCast S1x1024 G shapeCasts_S1024_S1x1024 (ix2 0 k) = G (ix1 k) := by
  pointwise []
  blk_ext

theorem row_apply_2048 (G : S2048.Idx → EReal) (k : Fin 2048) : shapeCast S1x2048 G shapeCasts_S2048_S1x2048 (ix2 0 k) = G (ix1 k) := by
  pointwise []
  blk_ext

/-- The other operands as the region finds them. -/
theorem gain_1 : (V m c main_v0 : S1x1024.Idx → EReal) = shapeCast S1x1024 (m ((c.tc : Thread nD τ).loc main_arg1) : S1024.Idx → EReal) shapeCasts_S1024_S1x1024 := by
  dsimp only [V]
  simp only [List.flatten_cons, List.flatten_nil, List.append_nil, List.cons_append, List.nil_append, StableHlo.TRef.unary, StableHlo.TRef.binary]
  entry_read
  rfl

theorem gates_4 : (V m c main_v1 : S1024x2048.Idx → EReal) = (m ((c.tc : Thread nD τ).loc main_arg4) : S1024x2048.Idx → EReal) := by
  dsimp only [V]
  simp only [List.flatten_cons, List.flatten_nil, List.append_nil, List.cons_append, List.nil_append, StableHlo.TRef.unary, StableHlo.TRef.binary]
  entry_read
  rfl

theorem bias_5 : (V m c main_v2 : S1x2048.Idx → EReal) = shapeCast S1x2048 (m ((c.tc : Thread nD τ).loc main_arg5) : S2048.Idx → EReal) shapeCasts_S2048_S1x2048 := by
  dsimp only [V]
  simp only [List.flatten_cons, List.flatten_nil, List.append_nil, List.cons_append, List.nil_append, StableHlo.TRef.unary, StableHlo.TRef.binary]
  entry_read
  rfl

theorem proj_8 : (V m c main_v15 : S1024x1024.Idx → EReal) = (m ((c.tc : Thread nD τ).loc main_arg8) : S1024x1024.Idx → EReal) := by
  dsimp only [V]
  simp only [List.flatten_cons, List.flatten_nil, List.append_nil, List.cons_append, List.nil_append, StableHlo.TRef.unary, StableHlo.TRef.binary]
  entry_read
  rfl

end Cert.MergeIdeal.Entry
end
-- ==== Proof.MergeBlock.lean ====
/- The merge: what each tile computes, and the whole result. -/
module

public import proofs.«01_k».proof.Proof.Gen.MergeIdeal.Value
public import proofs.«01_k».proof.Proof.MergeScore
public import proofs.«01_k».proof.Proof.MergeHost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeIdeal.Block

open Cert.MergeIdeal Cert.MergeIdeal.Gen Cert.ExpertsScore Cert.MergeScore

section Tile
variable (x0 : S256x1024.Idx → EReal) (x1 : S1x1024.Idx → EReal) (x2 x3 : S256x1024.Idx → EReal) (x4 : S1024x2048.Idx → EReal) (x5 : S1x2048.Idx → EReal)
  (x6 x7 x8 : S1024x1024.Idx → EReal) (r : Fin 256) (d : Fin 1024)

/-- The merged branches of a tile, the lifts taken with whole matrices. -/
theorem merged_apply : k0_pay2 (F := Ideal) x0 x1 x4 x5 x2 x6 x3 x7 (ix2 r d)
    = mergeGate (fun k => x0 (ix2 r k)) (fun k => x1 (ix2 0 k)) (fun k l => x4 (ix2 k l)) (fun l => x5 (ix2 0 l)) (left d) * (∑ k : Fin 1024, x2 (ix2 r k) * x6 (ix2 k d))
      + mergeGate (fun k => x0 (ix2 r k)) (fun k => x1 (ix2 0 k)) (fun k l => x4 (ix2 k l)) (fun l => x5 (ix2 0 l)) (right d) * (∑ k : Fin 1024, x3 (ix2 r k) * x7 (ix2 k d)) := by
  pointwise [k0_pay2, mergeGate, normed, left, right]

/-- The projection and the residual. -/
theorem out_apply (v : S256x1024.Idx → EReal) : k0_pay1 (F := Ideal) x0 v x8 (ix2 r d) = x0 (ix2 r d) + ∑ k : Fin 1024, v (ix2 r k) * x8 (ix2 k d) := by
  pointwise [k0_pay1]

end Tile

variable (m : (ℓ : Loc nD τ sig) → Buf (Elt Ideal) ℓ) (c : Dev nD)

/-- The row of the whole a tile's row is. -/
def row (t : Fin cfg0.N) (r : Fin 256) : Fin 65536 := ⟨t.val * 256 + r.val, by have : t.val < 256 := t.isLt; omega⟩

theorem idx : ∀ t : Fin cfg0.N, win0_0.index t = ![t.val, 0] ∧ win0_2.index t = ![t.val, 0] ∧ win0_3.index t = ![t.val, 0] ∧ win0_9.index t = ![t.val, 0]
    ∧ win0_1.index t = ![0, 0] ∧ win0_4.index t = ![0, 0] ∧ win0_5.index t = ![0, 0] ∧ win0_6.index t = ![0, 0] ∧ win0_7.index t = ![0, 0] ∧ win0_8.index t = ![0, 0] := by
  decide +kernel

/-- Where an element of a tile's block sits in its array. -/
theorem emb_0 (t : Fin cfg0.N) (r : Fin 256) (k : Fin 1024) : ((win0_0.blk t).view.emb (ix2 r k) : S65536x1024.Idx) = ix2 (row t r) k := by
  blk_ext [idx t]
  rfl

theorem emb_2 (t : Fin cfg0.N) (r : Fin 256) (k : Fin 1024) : ((win0_2.blk t).view.emb (ix2 r k) : S65536x1024.Idx) = ix2 (row t r) k := by
  blk_ext [idx t]
  rfl

theorem emb_3 (t : Fin cfg0.N) (r : Fin 256) (k : Fin 1024) : ((win0_3.blk t).view.emb (ix2 r k) : S65536x1024.Idx) = ix2 (row t r) k := by
  blk_ext [idx t]
  rfl

theorem emb_9 (t : Fin cfg0.N) (r : Fin 256) (k : Fin 1024) : ((win0_9.blk t).view.emb (ix2 r k) : S65536x1024.Idx) = ix2 (row t r) k := by
  blk_ext [idx t]
  rfl

theorem emb_1 (t : Fin cfg0.N) (i : Fin 1) (k : Fin 1024) : ((win0_1.blk t).view.emb (ix2 i k) : S1x1024.Idx) = ix2 i k := by
  blk_ext [idx t]

theorem emb_4 (t : Fin cfg0.N) (i : Fin 1024) (k : Fin 2048) : ((win0_4.blk t).view.emb (ix2 i k) : S1024x2048.Idx) = ix2 i k := by
  blk_ext [idx t]

theorem emb_5 (t : Fin cfg0.N) (i : Fin 1) (k : Fin 2048) : ((win0_5.blk t).view.emb (ix2 i k) : S1x2048.Idx) = ix2 i k := by
  blk_ext [idx t]

theorem emb_6 (t : Fin cfg0.N) (i : Fin 1024) (k : Fin 1024) : ((win0_6.blk t).view.emb (ix2 i k) : S1024x1024.Idx) = ix2 i k := by
  blk_ext [idx t]

theorem emb_7 (t : Fin cfg0.N) (i : Fin 1024) (k : Fin 1024) : ((win0_7.blk t).view.emb (ix2 i k) : S1024x1024.Idx) = ix2 i k := by
  blk_ext [idx t]

theorem emb_8 (t : Fin cfg0.N) (i : Fin 1024) (k : Fin 1024) : ((win0_8.blk t).view.emb (ix2 i k) : S1024x1024.Idx) = ix2 i k := by
  blk_ext [idx t]

/-- What a tile reads. -/
theorem read_0 (t : Fin cfg0.N) (r : Fin 256) (k : Fin 1024) : (iblk m c 0 t : S256x1024.Idx → EReal) (ix2 r k)
    = (m ((c.tc : Thread nD τ).loc main_arg0) : S65536x1024.Idx → EReal) (ix2 (row t r) k) :=
  (congrArg (V m c main_arg0 : S65536x1024.Idx → EReal) (emb_0 t r k)).trans (congrFun (V_main_arg0 m c) _)

theorem read_2 (t : Fin cfg0.N) (r : Fin 256) (k : Fin 1024) : (iblk m c 2 t : S256x1024.Idx → EReal) (ix2 r k)
    = (m ((c.tc : Thread nD τ).loc main_arg2) : S65536x1024.Idx → EReal) (ix2 (row t r) k) :=
  (congrArg (V m c main_arg2 : S65536x1024.Idx → EReal) (emb_2 t r k)).trans (congrFun (V_main_arg2 m c) _)

theorem read_3 (t : Fin cfg0.N) (r : Fin 256) (k : Fin 1024) : (iblk m c 3 t : S256x1024.Idx → EReal) (ix2 r k)
    = (m ((c.tc : Thread nD τ).loc main_arg3) : S65536x1024.Idx → EReal) (ix2 (row t r) k) :=
  (congrArg (V m c main_arg3 : S65536x1024.Idx → EReal) (emb_3 t r k)).trans (congrFun (V_main_arg3 m c) _)

theorem read_1 (t : Fin cfg0.N) (k : Fin 1024) : (iblk m c 1 t : S1x1024.Idx → EReal) (ix2 0 k)
    = (m ((c.tc : Thread nD τ).loc main_arg1) : S1024.Idx → EReal) (ix1 k) :=
  (congrArg (V m c main_v0 : S1x1024.Idx → EReal) (emb_1 t 0 k)).trans ((congrFun (Entry.gain_1 m c) _).trans (Entry.row_apply_1024 _ k))

theorem read_4 (t : Fin cfg0.N) (i : Fin 1024) (k : Fin 2048) : (iblk m c 4 t : S1024x2048.Idx → EReal) (ix2 i k)
    = (m ((c.tc : Thread nD τ).loc main_arg4) : S1024x2048.Idx → EReal) (ix2 i k) :=
  (congrArg (V m c main_v1 : S1024x2048.Idx → EReal) (emb_4 t i k)).trans (congrFun (Entry.gates_4 m c) _)

theorem read_5 (t : Fin cfg0.N) (k : Fin 2048) : (iblk m c 5 t : S1x2048.Idx → EReal) (ix2 0 k)
    = (m ((c.tc : Thread nD τ).loc main_arg5) : S2048.Idx → EReal) (ix1 k) :=
  (congrArg (V m c main_v2 : S1x2048.Idx → EReal) (emb_5 t 0 k)).trans ((congrFun (Entry.bias_5 m c) _).trans (Entry.row_apply_2048 _ k))

theorem read_6 (t : Fin cfg0.N) (i k : Fin 1024) : (iblk m c 6 t : S1024x1024.Idx → EReal) (ix2 i k)
    = padded (fun a b => (m ((c.tc : Thread nD τ).loc main_arg6) : S512x1024.Idx → EReal) (ix2 a b)) i k :=
  (congrArg (V m c main_v8 : S1024x1024.Idx → EReal) (emb_6 t i k)).trans ((congrFun (Entry.lift_6 m c) _).trans (Entry.widened_apply _ i k))

theorem read_7 (t : Fin cfg0.N) (i k : Fin 1024) : (iblk m c 7 t : S1024x1024.Idx → EReal) (ix2 i k)
    = padded (fun a b => (m ((c.tc : Thread nD τ).loc main_arg7) : S512x1024.Idx → EReal) (ix2 a b)) i k :=
  (congrArg (V m c main_v14 : S1024x1024.Idx → EReal) (emb_7 t i k)).trans ((congrFun (Entry.lift_7 m c) _).trans (Entry.widened_apply _ i k))

theorem read_8 (t : Fin cfg0.N) (i k : Fin 1024) : (iblk m c 8 t : S1024x1024.Idx → EReal) (ix2 i k)
    = (m ((c.tc : Thread nD τ).loc main_arg8) : S1024x1024.Idx → EReal) (ix2 i k) :=
  (congrArg (V m c main_v15 : S1024x1024.Idx → EReal) (emb_8 t i k)).trans (congrFun (Entry.proj_8 m c) _)

/-- What a tile writes at one place, from what it reads. -/
theorem tile_apply (x0 : S256x1024.Idx → EReal) (x1 : S1x1024.Idx → EReal) (x2 x3 : S256x1024.Idx → EReal) (x4 : S1024x2048.Idx → EReal) (x5 : S1x2048.Idx → EReal)
    (x6 x7 x8 : S1024x1024.Idx → EReal) (r : Fin 256) (d : Fin 1024) (wa wb : Fin 512 → Fin 1024 → EReal)
    (h6 : ∀ k l, x6 (ix2 k l) = padded wa k l) (h7 : ∀ k l, x7 (ix2 k l) = padded wb k l) :
    (out0_9 (F := Ideal) x0 x1 x2 x3 x4 x5 x6 x7 x8 : S256x1024.Idx → EReal) (ix2 r d)
      = mergeOut (fun k => x0 (ix2 r k)) (fun k => x1 (ix2 0 k)) (fun k => x2 (ix2 r k)) (fun k => x3 (ix2 r k)) (fun k l => x4 (ix2 k l)) (fun k => x5 (ix2 0 k))
        wa wb (fun k l => x8 (ix2 k l)) d := by
  have h : (out0_9 (F := Ideal) x0 x1 x2 x3 x4 x5 x6 x7 x8 : S256x1024.Idx → EReal) (ix2 r d) = k0_pay1 (F := Ideal) x0 (k0_pay2 (F := Ideal) x0 x1 x4 x5 x2 x6 x3 x7) x8 (ix2 r d) := by
    unfold out0_9
    frame_out
  rw [h, out_apply]
  simp only [merged_apply, h6, h7, lift_padded]
  rfl

/-- The whole merge of the kernel's arguments. -/
abbrev target : S65536x1024.Idx → EReal :=
  whole (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8))

theorem block (t : Fin cfg0.N) (r : Fin 256) (d : Fin 1024) :
    (out0_9 (F := Ideal) (iblk m c 0 t) (iblk m c 1 t) (iblk m c 2 t) (iblk m c 3 t) (iblk m c 4 t) (iblk m c 5 t) (iblk m c 6 t) (iblk m c 7 t) (iblk m c 8 t) : S256x1024.Idx → EReal) (ix2 r d)
      = target m c (ix2 (row t r) d) := by
  refine (tile_apply _ _ _ _ _ _ _ _ _ r d _ _ (read_6 m c t) (read_7 m c t)).trans ?_
  have e0 := funext fun k => read_0 m c t r k
  have e1 := funext fun k => read_1 m c t k
  have e2 := funext fun k => read_2 m c t r k
  have e3 := funext fun k => read_3 m c t r k
  have e4 := funext fun k => funext fun l => read_4 m c t k l
  have e5 := funext fun k => read_5 m c t k
  have e8 := funext fun k => funext fun l => read_8 m c t k l
  rw [e0, e1, e2, e3, e4, e5, e8]
  rfl

/-- The kernel's result array ends as the whole merge. -/
theorem final : (dats m 0 c).arrAt 9 cfg0.N = target m c := by
  refine (dats m 0 c).arrAt_eq_of_covers 9 (target m c) (by decide +kernel) fun t _ y => ?_
  blk_simp
  rw [after0_9]
  obtain ⟨r, d, rfl⟩ : ∃ (r : Fin 256) (d : Fin 1024), y = ix2 r d := by
    exact ⟨y 0, y 1, by idx_vars y; blk_ext⟩
  refine (block m c t r d).trans ?_
  rw [show (win0_9.blk t).view.emb (ix2 r d) = ix2 (row t r) d from emb_9 t r d]

end Cert.MergeIdeal.Block
end
-- ==== Proof.MergeRefValue.lean ====
/- The reference of the merge, read at one place of its result. -/
module

public import proofs.«01_k».proof.Proof.Gen.MergeRefIdeal.Read
public import proofs.«01_k».proof.Proof.MergeScore
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeRefIdeal.Sum

open Cert.MergeRefIdeal Cert.MergeRefIdeal.Read Cert.ExpertsScore Cert.MergeScore

variable (X : S65536x1024.Idx → EReal) (G : S1024.Idx → EReal) (A B : S65536x1024.Idx → EReal) (Wm : S1024x2048.Idx → EReal) (Bm : S2048.Idx → EReal)
  (Wa Wb : S512x1024.Idx → EReal) (Wo : S1024x1024.Idx → EReal) (n : Fin 65536) (d : Fin 1024) (l : Fin 2048)

/-- The normed row. -/
theorem normed_apply : val_main_v12 (F := Ideal) X G (ix2 n d) = normed (fun k => X (ix2 n k)) (fun k => G (ix1 k)) d := by
  have e1 (k : Fin 1024) : idx_main_v1 (idx_main_v2 (idx_main_v8 (ix2 n d))) k = ix2 n k := by blk_ext
  have e2 : idx_main_v10 (idx_main_v11 (ix2 n d)) = ix1 d := by blk_ext
  have e3 (i : S_.Idx) : val_main_cst (F := Ideal) i = 0 := Ideal.ofBits_zero .f32
  rw [val_main_v12_apply, val_main_v9_apply, val_main_v8_apply, val_main_v7_apply, val_main_v6_apply, val_main_v4_apply, val_main_v2_apply,
    val_main_v1_apply, val_main_v3_apply, val_main_v5_apply, val_main_cst_0_apply, val_main_cst_1_apply, val_main_v11_apply, val_main_v10_apply, e2,
    e3, zero_add]
  simp only [e1, val_main_v0_apply]
  rfl

/-- One is one. -/
theorem one_eq : one = 1 := by
  simp [one, Ideal.ofBits, Ideal.ieee]
  rw [← EReal.coe_mul]
  norm_num

/-- A merge gate. -/
theorem gate_apply : val_main_v22 (F := Ideal) X G Wm Bm (ix2 n l)
    = mergeGate (fun k => X (ix2 n k)) (fun k => G (ix1 k)) (fun a b => Wm (ix2 a b)) (fun k => Bm (ix1 k)) l := by
  have h (k : Fin 1024) : val_main_v12 (F := Ideal) X G (lidx_main_v13 (ix2 n l) k) * Wm (ridx_main_v13 (ix2 n l) k)
      = normed (fun k => X (ix2 n k)) (fun k => G (ix1 k)) k * Wm (ix2 k l) := by
    rw [show lidx_main_v13 (ix2 n l) k = ix2 n k by blk_ext, show ridx_main_v13 (ix2 n l) k = ix2 k l by blk_ext, normed_apply]
  rw [val_main_v22_apply, val_main_v21_apply, val_main_cst_3_apply, val_main_v20_apply, val_main_v19_apply, val_main_cst_2_apply, val_main_v18_apply,
    val_main_v17_apply, val_main_v16_apply, val_main_v13_apply, val_main_v15_apply, val_main_v14_apply,
    show idx_main_v14 (idx_main_v15 (ix2 n l)) = ix1 l by blk_ext]
  simp only [h]
  unfold mergeGate Ideal.logistic
  rw [← one_eq]
  rfl

/-- The branches lifted. -/
theorem lift_a : val_main_v32 (F := Ideal) A Wa (ix2 n d) = lift (fun k => A (ix2 n k)) (fun a b => Wa (ix2 a b)) d := by
  have h (k : Fin 512) : val_main_v26 (F := Ideal) A (lidx_main_v32 (ix2 n d) k) * Wa (ridx_main_v32 (ix2 n d) k) = A (ix2 n (spread k)) * Wa (ix2 k d) := by
    have e : idx_main_v23 (idx_main_v24 (idx_main_v25 (ix2 n k))) = ix2 n (spread k) := by
      have h1 : k.val < 512 := k.isLt
      blk_ext <;> (simp only [spread]; omega)
    rw [show lidx_main_v32 (ix2 n d) k = ix2 n k by blk_ext, show ridx_main_v32 (ix2 n d) k = ix2 k d by blk_ext, val_main_v26_apply, val_main_v25_apply,
      val_main_v24_apply, val_main_v23_apply, e]
    rfl
  rw [val_main_v32_apply]
  simp only [h]
  rfl

theorem lift_b : val_main_v35 (F := Ideal) B Wb (ix2 n d) = lift (fun k => B (ix2 n k)) (fun a b => Wb (ix2 a b)) d :=
  lift_a B Wb n d

/-- The merged branches. -/
theorem merged_apply : val_main_v37 (F := Ideal) X G A B Wm Bm Wa Wb (ix2 n d)
    = merged (fun k => X (ix2 n k)) (fun k => G (ix1 k)) (fun k => A (ix2 n k)) (fun k => B (ix2 n k)) (fun a b => Wm (ix2 a b)) (fun k => Bm (ix1 k))
      (fun a b => Wa (ix2 a b)) (fun a b => Wb (ix2 a b)) d := by
  rw [val_main_v37_apply, val_main_v33_apply, val_main_v36_apply, val_main_v31_apply, val_main_v34_apply, lift_a, lift_b,
    show idx_main_v31 (ix2 n d) = ix2 n (left d) by blk_ext <;> (simp only [left]), show idx_main_v34 (ix2 n d) = ix2 n (right d) by blk_ext <;> (simp only [right]), gate_apply, gate_apply]
  rfl

/-- The reference's result. -/
theorem whole_eq : val_main_v39 (F := Ideal) X G A B Wm Bm Wa Wb Wo = whole X G A B Wm Bm Wa Wb Wo := by
  funext j
  obtain ⟨n, d, rfl⟩ : ∃ (n : Fin 65536) (d : Fin 1024), j = ix2 n d := by
    exact ⟨j 0, j 1, by idx_vars j; blk_ext⟩
  have h (k : Fin 1024) : val_main_v37 (F := Ideal) X G A B Wm Bm Wa Wb (lidx_main_v38 (ix2 n d) k) * Wo (ridx_main_v38 (ix2 n d) k)
      = merged (fun k => X (ix2 n k)) (fun k => G (ix1 k)) (fun k => A (ix2 n k)) (fun k => B (ix2 n k)) (fun a b => Wm (ix2 a b)) (fun k => Bm (ix1 k))
        (fun a b => Wa (ix2 a b)) (fun a b => Wb (ix2 a b)) k * Wo (ix2 k d) := by
    rw [show lidx_main_v38 (ix2 n d) k = ix2 n k by blk_ext, show ridx_main_v38 (ix2 n d) k = ix2 k d by blk_ext, merged_apply]
  rw [val_main_v39_apply, val_main_v38_apply]
  simp only [h]
  rfl

end Cert.MergeRefIdeal.Sum
end
-- ==== Proof.ProjScore.lean ====
/- The input projection's plain columns, row by row: the normed row against a column of the packed weights. -/
module

public import proofs.«01_k».proof.Proof.ExpertsScore
public import Idealize.ShloMosaic.Lib.Pointwise

@[expose] public section

noncomputable section

open Idealize.ShloMosaic

namespace Cert.ProjScore

open Cert.ExpertsScore

/-- Column `l` of a row's projection. -/
def proj (x g : Fin 1024 → EReal) (w : Fin 1024 → Fin 5504 → EReal) (l : Fin 5504) : EReal := ∑ d, normed x g d * w d l

/-- Column `j` of a group of columns that starts at column `off`. -/
def column (off n : Nat) (h : off + n ≤ 5504) (j : Fin n) : Fin 5504 := ⟨off + j.val, by omega⟩

/-- The shapes of the arguments and the results. -/
abbrev SX : Shape := ⟨3, ![32, 2048, 1024]⟩
abbrev SG : Shape := ⟨2, ![1, 1024]⟩
abbrev SW : Shape := ⟨2, ![1024, 5504]⟩
abbrev SR (n : Nat) : Shape := ⟨3, ![32, 2048, n]⟩

/-- A group of `n` columns of every row's projection. -/
def group (off n : Nat) (h : off + n ≤ 5504) (X : SX.Idx → EReal) (G : SG.Idx → EReal) (W : SW.Idx → EReal) : (SR n).Idx → EReal := fun j =>
  proj (fun k => X (ix3 (j 0) (j 1) k)) (fun k => G (ix2 0 k)) (fun k l => W (ix2 k l)) (column off n h (j 2))

end Cert.ProjScore
end
-- ==== Proof.ProjTile.lean ====
/- The input projection's plain columns: what a tile's payloads are at one place. -/
module

public import proofs.«01_k».proof.Proof.Gen.ProjIdeal.Skeleton
public import proofs.«01_k».proof.Proof.ProjScore
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjIdeal.Tile

open Cert.ProjIdeal Cert.ProjIdeal.Gen Cert.ExpertsScore Cert.ProjScore

variable (x0 : S1x256x1024.Idx → EReal) (x1 : S1x1024.Idx → EReal) (r : Fin 256)

/-- A tile's normed rows. -/
theorem normed_apply (d : Fin 1024) : k0_pay2 (F := Ideal) x0 x1 (ix2 r d) = normed (fun k => x0 (ix3 0 r k)) (fun k => x1 (ix2 0 k)) d := by
  pointwise [k0_pay2, normed]

/-- The groups of columns, from the normed rows `n` and the group's weights `v`. -/
theorem vs_apply (n : S256x1024.Idx → EReal) (v : S1024x256.Idx → EReal) (d : Fin 256) :
    k0_pay57 (F := Ideal) n v (constant (F := Ideal) S256x256 .f32 0x00000000#32) (ix3 0 r d) = ∑ k : Fin 1024, n (ix2 r k) * v (ix2 k d) := by
  pointwise [k0_pay57]

theorem vw_apply (n : S256x1024.Idx → EReal) (v : S1024x256.Idx → EReal) (d : Fin 256) :
    k0_pay63 (F := Ideal) n v (ix3 0 r d) = ∑ k : Fin 1024, n (ix2 r k) * v (ix2 k d) := by
  pointwise [k0_pay63]

theorem kc_apply (n : S256x1024.Idx → EReal) (v : S1024x128.Idx → EReal) (d : Fin 128) :
    k0_pay64 (F := Ideal) n v (ix3 0 r d) = ∑ k : Fin 1024, n (ix2 r k) * v (ix2 k d) := by
  pointwise [k0_pay64]

theorem vc_apply (n : S256x1024.Idx → EReal) (v : S1024x128.Idx → EReal) (d : Fin 128) :
    k0_pay65 (F := Ideal) n v (ix3 0 r d) = ∑ k : Fin 1024, n (ix2 r k) * v (ix2 k d) := by
  pointwise [k0_pay65]

theorem vf_apply (n : S256x1024.Idx → EReal) (v : S1024x1024.Idx → EReal) (d : Fin 1024) :
    k0_pay1 (F := Ideal) (k0_pay113 (F := Ideal) n v) (ix3 0 r d) = ∑ k : Fin 1024, n (ix2 r k) * v (ix2 k d) := by
  pointwise [k0_pay1, k0_pay113]

end Cert.ProjIdeal.Tile
end
-- ==== Proof.ProjBlock.lean ====
/- The input projection's plain columns: what each tile stores, and the whole results. -/
module

public import proofs.«01_k».proof.Proof.Gen.ProjIdeal.Frame
public import proofs.«01_k».proof.Proof.ProjTile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjIdeal.Block

open Cert.ProjIdeal Cert.ProjIdeal.Gen Cert.ExpertsScore Cert.ProjScore

variable (m : (ℓ : Loc nD τ sig) → Buf (Elt Ideal) ℓ) (c : Dev nD)

/-- The sequence a grid point works on, and the token a tile's row is. -/
def seq (t : Fin cfg0.N) : Fin 32 := ⟨t.val / 8, by have : t.val < 256 := t.isLt; omega⟩
def row (t : Fin cfg0.N) (r : Fin 256) : Fin 2048 := ⟨t.val % 8 * 256 + r.val, by omega⟩

theorem idx : ∀ t : Fin cfg0.N, win0_0.index t = ![t.val / 8, t.val % 8, 0] ∧ win0_1.index t = ![0, 0] ∧ win0_2.index t = ![0, 0]
    ∧ win0_9.index t = ![t.val / 8, t.val % 8, 0] ∧ win0_11.index t = ![t.val / 8, t.val % 8, 0] ∧ win0_12.index t = ![t.val / 8, t.val % 8, 0]
    ∧ win0_13.index t = ![t.val / 8, t.val % 8, 0] ∧ win0_16.index t = ![t.val / 8, t.val % 8, 0] := by
  decide +kernel

/-- Where an element of a tile's block sits in its array. -/
theorem emb_0 (t : Fin cfg0.N) (r : Fin 256) (k : Fin 1024) : ((win0_0.blk t).view.emb (ix3 0 r k) : S32x2048x1024.Idx) = ix3 (seq t) (row t r) k := by
  blk_ext [idx t] <;> rfl

theorem emb_1 (t : Fin cfg0.N) (i : Fin 1) (k : Fin 1024) : ((win0_1.blk t).view.emb (ix2 i k) : S1x1024.Idx) = ix2 i k := by
  blk_ext [idx t]

theorem emb_2 (t : Fin cfg0.N) (i : Fin 1024) (k : Fin 5504) : ((win0_2.blk t).view.emb (ix2 i k) : S1024x5504.Idx) = ix2 i k := by
  blk_ext [idx t]

theorem emb_9 (t : Fin cfg0.N) (r : Fin 256) (k : Fin 256) : ((win0_9.blk t).view.emb (ix3 0 r k) : S32x2048x256.Idx) = ix3 (seq t) (row t r) k := by
  blk_ext [idx t] <;> rfl

theorem emb_11 (t : Fin cfg0.N) (r : Fin 256) (k : Fin 256) : ((win0_11.blk t).view.emb (ix3 0 r k) : S32x2048x256.Idx) = ix3 (seq t) (row t r) k := by
  blk_ext [idx t] <;> rfl

theorem emb_12 (t : Fin cfg0.N) (r : Fin 256) (k : Fin 128) : ((win0_12.blk t).view.emb (ix3 0 r k) : S32x2048x128.Idx) = ix3 (seq t) (row t r) k := by
  blk_ext [idx t] <;> rfl

theorem emb_13 (t : Fin cfg0.N) (r : Fin 256) (k : Fin 128) : ((win0_13.blk t).view.emb (ix3 0 r k) : S32x2048x128.Idx) = ix3 (seq t) (row t r) k := by
  blk_ext [idx t] <;> rfl

theorem emb_16 (t : Fin cfg0.N) (r : Fin 256) (k : Fin 1024) : ((win0_16.blk t).view.emb (ix3 0 r k) : S32x2048x1024.Idx) = ix3 (seq t) (row t r) k := by
  blk_ext [idx t] <;> rfl

/-- What a tile reads. -/
theorem read_0 (t : Fin cfg0.N) (r : Fin 256) (k : Fin 1024) : (iblk m c 0 t : S1x256x1024.Idx → EReal) (ix3 0 r k)
    = (m ((c.tc : Thread nD τ).loc main_arg0) : S32x2048x1024.Idx → EReal) (ix3 (seq t) (row t r) k) :=
  (congrArg (V m c main_arg0 : S32x2048x1024.Idx → EReal) (emb_0 t r k)).trans (congrFun (V_main_arg0 m c) _)

theorem read_1 (t : Fin cfg0.N) (k : Fin 1024) : (iblk m c 1 t : S1x1024.Idx → EReal) (ix2 0 k)
    = (m ((c.tc : Thread nD τ).loc main_arg1) : S1x1024.Idx → EReal) (ix2 0 k) :=
  (congrArg (V m c main_arg1 : S1x1024.Idx → EReal) (emb_1 t 0 k)).trans (congrFun (V_main_arg1 m c) _)

theorem read_2 (t : Fin cfg0.N) (i : Fin 1024) (k : Fin 5504) : (iblk m c 2 t : S1024x5504.Idx → EReal) (ix2 i k)
    = (m ((c.tc : Thread nD τ).loc main_arg2) : S1024x5504.Idx → EReal) (ix2 i k) :=
  (congrArg (V m c main_arg2 : S1024x5504.Idx → EReal) (emb_2 t i k)).trans (congrFun (V_main_arg2 m c) _)

/-- A group of the weights' columns, read from the whole of the weights. -/
theorem ld_vs (w : S1024x5504.Idx → EReal) (k : Fin 1024) (d : Fin 256) :
    @View.ld (Elt Ideal) S1024x5504 .bf16 w (Rect.unit (s := S1024x5504) ![0, 1280] ![1024, 256] inb_S1024x5504_S1024x256_0_1280) (ix2 k d) = w (ix2 k (column 1280 256 (by decide) d)) := by
  pointwise [column]

theorem ld_vw (w : S1024x5504.Idx → EReal) (k : Fin 1024) (d : Fin 256) :
    @View.ld (Elt Ideal) S1024x5504 .bf16 w (Rect.unit (s := S1024x5504) ![0, 1792] ![1024, 256] inb_S1024x5504_S1024x256_0_1792) (ix2 k d) = w (ix2 k (column 1792 256 (by decide) d)) := by
  pointwise [column]

theorem ld_kc (w : S1024x5504.Idx → EReal) (k : Fin 1024) (d : Fin 128) :
    @View.ld (Elt Ideal) S1024x5504 .bf16 w (Rect.unit (s := S1024x5504) ![0, 2048] ![1024, 128] inb_S1024x5504_S1024x128_0_2048) (ix2 k d) = w (ix2 k (column 2048 128 (by decide) d)) := by
  pointwise [column]

theorem ld_vc (w : S1024x5504.Idx → EReal) (k : Fin 1024) (d : Fin 128) :
    @View.ld (Elt Ideal) S1024x5504 .bf16 w (Rect.unit (s := S1024x5504) ![0, 2176] ![1024, 128] inb_S1024x5504_S1024x128_0_2176) (ix2 k d) = w (ix2 k (column 2176 128 (by decide) d)) := by
  pointwise [column]

theorem ld_vf (w : S1024x5504.Idx → EReal) (k : Fin 1024) (d : Fin 1024) :
    @View.ld (Elt Ideal) S1024x5504 .bf16 w (Rect.unit (s := S1024x5504) ![0, 4352] ![1024, 1024] inb_S1024x5504_S1024x1024_0_4352) (ix2 k d) = w (ix2 k (column 4352 1024 (by decide) d)) := by
  pointwise [column]

/-- The kernel's arguments. -/
abbrev X : S32x2048x1024.Idx → EReal := m ((c.tc : Thread nD τ).loc main_arg0)
abbrev G : S1x1024.Idx → EReal := m ((c.tc : Thread nD τ).loc main_arg1)
abbrev W : S1024x5504.Idx → EReal := m ((c.tc : Thread nD τ).loc main_arg2)

/-- A tile's normed rows are the whole's. -/
theorem normed_block (t : Fin cfg0.N) (r : Fin 256) (d : Fin 1024) : k0_pay2 (F := Ideal) (iblk m c 0 t) (iblk m c 1 t) (ix2 r d)
    = normed (fun k => X m c (ix3 (seq t) (row t r) k)) (fun k => G m c (ix2 0 k)) d := by
  refine (Tile.normed_apply _ _ r d).trans ?_
  rw [funext fun k => read_0 m c t r k, funext fun k => read_1 m c t k]

/-- A sum over the normed row against the columns a group's weights are read from. -/
theorem group_block (t : Fin cfg0.N) (r : Fin 256) {n off : Nat} (h : off + n ≤ 5504) (d : Fin n) (v : Fin 1024 → EReal)
    (hv : ∀ k, v k = (iblk m c 2 t : S1024x5504.Idx → EReal) (ix2 k (column off n h d))) :
    (∑ k : Fin 1024, (k0_pay2 (F := Ideal) (iblk m c 0 t) (iblk m c 1 t) : S256x1024.Idx → EReal) (ix2 r k) * v k)
      = group off n h (X m c) (G m c) (W m c) (ix3 (seq t) (row t r) d) := by
  have e (k : Fin 1024) : (k0_pay2 (F := Ideal) (iblk m c 0 t) (iblk m c 1 t) : S256x1024.Idx → EReal) (ix2 r k) * v k
      = normed (fun k => X m c (ix3 (seq t) (row t r) k)) (fun k => G m c (ix2 0 k)) k * W m c (ix2 k (column off n h d)) := by
    rw [normed_block, hv, read_2]
  rw [Finset.sum_congr rfl fun k _ => e k]
  rfl

/-- What a tile stores in output 9, and the whole of that output. -/
theorem vs_block (t : Fin cfg0.N) (r : Fin 256) (d : Fin 256) : ((outsAt0 (F := Ideal) m c t.val t.isLt).2.2.1 : S1x256x256.Idx → EReal) (ix3 0 r d)
    = group 1280 256 (by decide) (X m c) (G m c) (W m c) (ix3 (seq t) (row t r) d) := by
  by_cases h : t.val % 8 = 0
  · rw [outsAt0_A m c t h]
    frame_out
    exact (Tile.vs_apply r _ _ d).trans (group_block m c t r _ d _ fun k => ld_vs _ k d)
  · rw [outsAt0_B m c t h]
    frame_out
    exact (Tile.vs_apply r _ _ d).trans (group_block m c t r _ d _ fun k => ld_vs _ k d)

theorem vs_final : (dats m 0 c).arrAt 9 cfg0.N = group 1280 256 (by decide) (X m c) (G m c) (W m c) := by
  refine (dats m 0 c).arrAt_eq_of_covers 9 (group 1280 256 (by decide) (X m c) (G m c) (W m c)) (by decide +kernel) fun t _ y => ?_
  blk_simp
  rw [after0_9]
  obtain ⟨r, d, rfl⟩ : ∃ (r : Fin 256) (d : Fin 256), y = ix3 0 r d := by
    exact ⟨y 1, y 2, by idx_vars y; blk_ext⟩
  refine (vs_block m c t r d).trans ?_
  rw [show (win0_9.blk t).view.emb (ix3 0 r d) = ix3 (seq t) (row t r) d from emb_9 t r d]

/-- What a tile stores in output 11, and the whole of that output. -/
theorem vw_block (t : Fin cfg0.N) (r : Fin 256) (d : Fin 256) : ((outsAt0 (F := Ideal) m c t.val t.isLt).2.2.2.2.1 : S1x256x256.Idx → EReal) (ix3 0 r d)
    = group 1792 256 (by decide) (X m c) (G m c) (W m c) (ix3 (seq t) (row t r) d) := by
  by_cases h : t.val % 8 = 0
  · rw [outsAt0_A m c t h]
    frame_out
    exact (Tile.vw_apply r _ _ d).trans (group_block m c t r _ d _ fun k => ld_vw _ k d)
  · rw [outsAt0_B m c t h]
    frame_out
    exact (Tile.vw_apply r _ _ d).trans (group_block m c t r _ d _ fun k => ld_vw _ k d)

theorem vw_final : (dats m 0 c).arrAt 11 cfg0.N = group 1792 256 (by decide) (X m c) (G m c) (W m c) := by
  refine (dats m 0 c).arrAt_eq_of_covers 11 (group 1792 256 (by decide) (X m c) (G m c) (W m c)) (by decide +kernel) fun t _ y => ?_
  blk_simp
  rw [after0_11]
  obtain ⟨r, d, rfl⟩ : ∃ (r : Fin 256) (d : Fin 256), y = ix3 0 r d := by
    exact ⟨y 1, y 2, by idx_vars y; blk_ext⟩
  refine (vw_block m c t r d).trans ?_
  rw [show (win0_11.blk t).view.emb (ix3 0 r d) = ix3 (seq t) (row t r) d from emb_11 t r d]

/-- What a tile stores in output 12, and the whole of that output. -/
theorem kc_block (t : Fin cfg0.N) (r : Fin 256) (d : Fin 128) : ((outsAt0 (F := Ideal) m c t.val t.isLt).2.2.2.2.2.1 : S1x256x128.Idx → EReal) (ix3 0 r d)
    = group 2048 128 (by decide) (X m c) (G m c) (W m c) (ix3 (seq t) (row t r) d) := by
  by_cases h : t.val % 8 = 0
  · rw [outsAt0_A m c t h]
    frame_out
    exact (Tile.kc_apply r _ _ d).trans (group_block m c t r _ d _ fun k => ld_kc _ k d)
  · rw [outsAt0_B m c t h]
    frame_out
    exact (Tile.kc_apply r _ _ d).trans (group_block m c t r _ d _ fun k => ld_kc _ k d)

theorem kc_final : (dats m 0 c).arrAt 12 cfg0.N = group 2048 128 (by decide) (X m c) (G m c) (W m c) := by
  refine (dats m 0 c).arrAt_eq_of_covers 12 (group 2048 128 (by decide) (X m c) (G m c) (W m c)) (by decide +kernel) fun t _ y => ?_
  blk_simp
  rw [after0_12]
  obtain ⟨r, d, rfl⟩ : ∃ (r : Fin 256) (d : Fin 128), y = ix3 0 r d := by
    exact ⟨y 1, y 2, by idx_vars y; blk_ext⟩
  refine (kc_block m c t r d).trans ?_
  rw [show (win0_12.blk t).view.emb (ix3 0 r d) = ix3 (seq t) (row t r) d from emb_12 t r d]

/-- What a tile stores in output 13, and the whole of that output. -/
theorem vc_block (t : Fin cfg0.N) (r : Fin 256) (d : Fin 128) : ((outsAt0 (F := Ideal) m c t.val t.isLt).2.2.2.2.2.2.1 : S1x256x128.Idx → EReal) (ix3 0 r d)
    = group 2176 128 (by decide) (X m c) (G m c) (W m c) (ix3 (seq t) (row t r) d) := by
  by_cases h : t.val % 8 = 0
  · rw [outsAt0_A m c t h]
    frame_out
    exact (Tile.vc_apply r _ _ d).trans (group_block m c t r _ d _ fun k => ld_vc _ k d)
  · rw [outsAt0_B m c t h]
    frame_out
    exact (Tile.vc_apply r _ _ d).trans (group_block m c t r _ d _ fun k => ld_vc _ k d)

theorem vc_final : (dats m 0 c).arrAt 13 cfg0.N = group 2176 128 (by decide) (X m c) (G m c) (W m c) := by
  refine (dats m 0 c).arrAt_eq_of_covers 13 (group 2176 128 (by decide) (X m c) (G m c) (W m c)) (by decide +kernel) fun t _ y => ?_
  blk_simp
  rw [after0_13]
  obtain ⟨r, d, rfl⟩ : ∃ (r : Fin 256) (d : Fin 128), y = ix3 0 r d := by
    exact ⟨y 1, y 2, by idx_vars y; blk_ext⟩
  refine (vc_block m c t r d).trans ?_
  rw [show (win0_13.blk t).view.emb (ix3 0 r d) = ix3 (seq t) (row t r) d from emb_13 t r d]

/-- What a tile stores in output 16, and the whole of that output. -/
theorem vf_block (t : Fin cfg0.N) (r : Fin 256) (d : Fin 1024) : ((outsAt0 (F := Ideal) m c t.val t.isLt).2.2.2.2.2.2.2.2.2.1 : S1x256x1024.Idx → EReal) (ix3 0 r d)
    = group 4352 1024 (by decide) (X m c) (G m c) (W m c) (ix3 (seq t) (row t r) d) := by
  by_cases h : t.val % 8 = 0
  · rw [outsAt0_A m c t h]
    frame_out
    exact (Tile.vf_apply r _ _ d).trans (group_block m c t r _ d _ fun k => ld_vf _ k d)
  · rw [outsAt0_B m c t h]
    frame_out
    exact (Tile.vf_apply r _ _ d).trans (group_block m c t r _ d _ fun k => ld_vf _ k d)

theorem vf_final : (dats m 0 c).arrAt 16 cfg0.N = group 4352 1024 (by decide) (X m c) (G m c) (W m c) := by
  refine (dats m 0 c).arrAt_eq_of_covers 16 (group 4352 1024 (by decide) (X m c) (G m c) (W m c)) (by decide +kernel) fun t _ y => ?_
  blk_simp
  rw [after0_16]
  obtain ⟨r, d, rfl⟩ : ∃ (r : Fin 256) (d : Fin 1024), y = ix3 0 r d := by
    exact ⟨y 1, y 2, by idx_vars y; blk_ext⟩
  refine (vf_block m c t r d).trans ?_
  rw [show (win0_16.blk t).view.emb (ix3 0 r d) = ix3 (seq t) (row t r) d from emb_16 t r d]

end Cert.ProjIdeal.Block
end
-- ==== Proof.ProjHead.lean ====
/- The input projection's normed heads, position features and gates, at one place. -/
module

public import proofs.«01_k».proof.Proof.ProjScore

@[expose] public section

set_option maxRecDepth 16384

noncomputable section

open Idealize.ShloMosaic Idealize.ShloMosaic.TcCoe Idealize.SL.Sem

namespace Cert.ProjScore

open Cert.ExpertsScore

/-- A head of a row divided by its root mean square over sixty-four columns, scaled by a gain. -/
def headNorm (a g : Fin 128 → EReal) (e : Fin 128) : EReal :=
  a e * Ideal.rsqrt ((∑ k, a k * a k) * Ideal.ofBits .f32 0x3C800000#32 + Ideal.ofBits .f32 0x358637BD#32) * g e

/-- The place of a head's column among the columns of `n` heads, the head of a column and its lane. -/
def at2 (h : Fin 2) (e : Fin 128) : Fin 256 := ⟨h.val * 128 + e.val, by omega⟩
def at8 (h : Fin 8) (e : Fin 128) : Fin 1024 := ⟨h.val * 128 + e.val, by omega⟩
def head2 (d : Fin 256) : Fin 2 := ⟨d.val / 128, by omega⟩
def head8 (d : Fin 1024) : Fin 8 := ⟨d.val / 128, by omega⟩
def lane2 (d : Fin 256) : Fin 128 := ⟨d.val % 128, by omega⟩
def lane8 (d : Fin 1024) : Fin 128 := ⟨d.val % 128, by omega⟩

/-- A position's multiple of 256 and its rest, as numbers. -/
def high (p : BitVec 32) : EReal := FloatOps.sitofp (F := Ideal) .f32 (IntOp.muli 256#32 (IntOp.shrsi .vector p 8#32))
def low (p : BitVec 32) : EReal := FloatOps.sitofp (F := Ideal) .f32 (IntOp.andi p 255#32)

/-- The position features of a key. -/
def place (p : BitVec 32) (e : Fin 128) : EReal :=
  Scalar.select (IntOp.andi (IntOp.cmpi .sge (BitVec.ofNat 32 e.val) 96#32) (IntOp.cmpi .slt (BitVec.ofNat 32 e.val) 100#32))
    (Scalar.select (IntOp.cmpi .slt (BitVec.ofNat 32 e.val) 98#32) 1
      (Scalar.select (IntOp.cmpi .eq (BitVec.ofNat 32 e.val) 98#32) (high p) (low p))) 0

/-- The mark of the block of sixty-four positions a key lies in. -/
def block (p : BitVec 32) (e : Fin 128) : EReal :=
  Scalar.select (IntOp.cmpi .eq (IntOp.subi (BitVec.ofNat 32 e.val) 64#32) (IntOp.shrsi .vector p 6#32)) 1 0

/-- The position features of a query whose head falls by `n` and rises by `s`. -/
def far (n s : EReal) (p : BitVec 32) (e : Fin 128) : EReal :=
  Scalar.select (IntOp.cmpi .eq (BitVec.ofNat 32 e.val) 96#32) (n * high p)
    (Scalar.select (IntOp.cmpi .eq (BitVec.ofNat 32 e.val) 97#32) (n * low p)
      (Scalar.select (IntOp.ori (IntOp.cmpi .eq (BitVec.ofNat 32 e.val) 98#32) (IntOp.cmpi .eq (BitVec.ofNat 32 e.val) 99#32)) s 0))

/-- The slope of each head, and its negative. -/
def fall : Fin 8 → EReal := ![Ideal.ofBits .f32 0xBF000000#32, Ideal.ofBits .f32 0xBE800000#32, Ideal.ofBits .f32 0xBE000000#32, Ideal.ofBits .f32 0xBD800000#32, Ideal.ofBits .f32 0xBD000000#32, Ideal.ofBits .f32 0xBC800000#32, Ideal.ofBits .f32 0xBC000000#32, Ideal.ofBits .f32 0xBB800000#32]
def rise : Fin 8 → EReal := ![Ideal.ofBits .f32 0x3F000000#32, Ideal.ofBits .f32 0x3E800000#32, Ideal.ofBits .f32 0x3E000000#32, Ideal.ofBits .f32 0x3D800000#32, Ideal.ofBits .f32 0x3D000000#32, Ideal.ofBits .f32 0x3C800000#32, Ideal.ofBits .f32 0x3C000000#32, Ideal.ofBits .f32 0x3B800000#32]

/-- A bit read as a number. -/
theorem bit_eq (b : BitVec 1) : FloatOps.sitofp (F := Ideal) .f32 (BitVec.setWidth 32 b) = Scalar.select b (1 : EReal) 0 := by
  obtain rfl | rfl : b = 0#1 ∨ b = 1#1 := by revert b; decide
  · simp [Scalar.select, FloatOps.sitofp]
  · simp [Scalar.select, FloatOps.sitofp]

/-- A product with a bit read as a number chooses between the factor and nothing. -/
theorem mul_bit (x : EReal) (b : BitVec 1) : x * FloatOps.sitofp (F := Ideal) .f32 (BitVec.setWidth 32 b) = Scalar.select b x 0 := by
  rw [bit_eq]
  obtain rfl | rfl : b = 0#1 ∨ b = 1#1 := by revert b; decide
  · simp [Scalar.select]
  · simp [Scalar.select]

/-- The shape of the gains and of the gates' offsets. -/
abbrev SN : Shape := ⟨2, ![8, 128]⟩
abbrev SB : Shape := ⟨2, ![1, 128]⟩

/-- Column `l` of the projection of token `i` of sequence `b`. -/
def at_ (X : SX.Idx → EReal) (G : SG.Idx → EReal) (W : SW.Idx → EReal) (b : Fin 32) (i : Fin 2048) (l : Fin 5504) : EReal :=
  proj (fun k => X (ix3 b i k)) (fun k => G (ix2 0 k)) (fun k l => W (ix2 k l)) l

/-- The queries of the sparse attention. -/
def queries (X : SX.Idx → EReal) (G : SG.Idx → EReal) (W : SW.Idx → EReal) (N : SN.Idx → EReal) : (SR 1024).Idx → EReal := fun j =>
  headNorm (fun k => at_ X G W (j 0) (j 1) (column 0 1024 (by decide) (at8 (head8 (j 2)) k))) (fun k => N (ix2 0 k) * Ideal.ofBits .f32 0x3E000000#32) (lane8 (j 2))
    + far (fall (head8 (j 2))) (rise (head8 (j 2))) (BitVec.ofNat 32 (j 1).val) (lane8 (j 2))

/-- The keys of the selected branch. -/
def selected (X : SX.Idx → EReal) (G : SG.Idx → EReal) (W : SW.Idx → EReal) (N : SN.Idx → EReal) : (SR 256).Idx → EReal := fun j =>
  headNorm (fun k => at_ X G W (j 0) (j 1) (column 1024 256 (by decide) (at2 (head2 (j 2)) k))) (fun k => N (ix2 1 k)) (lane2 (j 2))
    + place (BitVec.ofNat 32 (j 1).val) (lane2 (j 2)) + block (BitVec.ofNat 32 (j 1).val) (lane2 (j 2))

/-- The keys of the windowed branch. -/
def windowed (X : SX.Idx → EReal) (G : SG.Idx → EReal) (W : SW.Idx → EReal) (N : SN.Idx → EReal) : (SR 256).Idx → EReal := fun j =>
  headNorm (fun k => at_ X G W (j 0) (j 1) (column 1536 256 (by decide) (at2 (head2 (j 2)) k))) (fun k => N (ix2 2 k)) (lane2 (j 2))
    + place (BitVec.ofNat 32 (j 1).val) (lane2 (j 2))

/-- The gates of the sparse attention. -/
def gates (X : SX.Idx → EReal) (G : SG.Idx → EReal) (W : SW.Idx → EReal) (B : SB.Idx → EReal) : (SR 128).Idx → EReal := fun j =>
  Scalar.select (IntOp.cmpi .slt (BitVec.ofNat 32 (j 2).val) 24#32)
    (Ideal.logistic (at_ X G W (j 0) (j 1) (column 5376 128 (by decide) (j 2)) + B (ix2 0 (j 2)))) 0

theorem head2_at (h : Fin 2) (e : Fin 128) : head2 (at2 h e) = h := by
  apply Fin.ext
  simp only [head2, at2]
  omega

theorem lane2_at (h : Fin 2) (e : Fin 128) : lane2 (at2 h e) = e := by
  apply Fin.ext
  simp only [lane2, at2]
  omega

theorem head8_at (h : Fin 8) (e : Fin 128) : head8 (at8 h e) = h := by
  apply Fin.ext
  simp only [head8, at8]
  omega

theorem lane8_at (h : Fin 8) (e : Fin 128) : lane8 (at8 h e) = e := by
  apply Fin.ext
  simp only [lane8, at8]
  omega

variable (X : SX.Idx → EReal) (G : SG.Idx → EReal) (W : SW.Idx → EReal) (N : SN.Idx → EReal) (b : Fin 32) (i : Fin 2048) (e : Fin 128)

/-- The heads' results at a head and a lane. -/
theorem queries_at (h : Fin 8) : queries X G W N (ix3 b i (at8 h e))
    = headNorm (fun k => at_ X G W b i (column 0 1024 (by decide) (at8 h k))) (fun k => N (ix2 0 k) * Ideal.ofBits .f32 0x3E000000#32) e
      + far (fall h) (rise h) (BitVec.ofNat 32 i.val) e := by
  show headNorm (fun k => at_ X G W b i (column 0 1024 (by decide) (at8 (head8 (at8 h e)) k))) _ (lane8 (at8 h e))
    + far (fall (head8 (at8 h e))) (rise (head8 (at8 h e))) _ (lane8 (at8 h e)) = _
  rw [head8_at, lane8_at]
  rfl

theorem selected_at (h : Fin 2) : selected X G W N (ix3 b i (at2 h e))
    = headNorm (fun k => at_ X G W b i (column 1024 256 (by decide) (at2 h k))) (fun k => N (ix2 1 k)) e
      + place (BitVec.ofNat 32 i.val) e + block (BitVec.ofNat 32 i.val) e := by
  show headNorm (fun k => at_ X G W b i (column 1024 256 (by decide) (at2 (head2 (at2 h e)) k))) _ (lane2 (at2 h e))
    + place _ (lane2 (at2 h e)) + block _ (lane2 (at2 h e)) = _
  rw [head2_at, lane2_at]
  rfl

theorem windowed_at (h : Fin 2) : windowed X G W N (ix3 b i (at2 h e))
    = headNorm (fun k => at_ X G W b i (column 1536 256 (by decide) (at2 h k))) (fun k => N (ix2 2 k)) e
      + place (BitVec.ofNat 32 i.val) e := by
  show headNorm (fun k => at_ X G W b i (column 1536 256 (by decide) (at2 (head2 (at2 h e)) k))) _ (lane2 (at2 h e))
    + place _ (lane2 (at2 h e)) = _
  rw [head2_at, lane2_at]
  rfl

end Cert.ProjScore
end
-- ==== Proof.ProjHeadTile.lean ====
/- The input projection's heads and gates: what a tile's payloads are at one place. -/
module

public import proofs.«01_k».proof.Proof.ProjTile
public import proofs.«01_k».proof.Proof.ProjHead

@[expose] public section

set_option maxRecDepth 16384

noncomputable section

open Idealize.ShloMosaic Idealize.ShloMosaic.TcCoe Idealize.SL.Sem

namespace Cert.ProjIdeal.Tile

open Cert.ProjIdeal Cert.ProjIdeal.Gen Cert.ExpertsScore Cert.ProjScore

variable (r : Fin 256) (e : Fin 128)

/-- A tile's positions. -/
theorem pos_apply (i : grid0.Coords) : k0_pay3 i (ix2 r 0) = BitVec.ofNat 32 ((i 1).val * 256 + r.val) := by
  pointwise [k0_pay3]
  simp [IntOp.addi, Scalar.muli, IntOp.muli, BitVec.ofNat_add, BitVec.ofNat_mul]

theorem high_apply (i : grid0.Coords) : k0_pay4 (F := Ideal) i (ix2 r 0) = high (BitVec.ofNat 32 ((i 1).val * 256 + r.val)) := by
  rw [← pos_apply r i]
  pointwise [k0_pay4, high]

theorem low_apply (i : grid0.Coords) : k0_pay5 (F := Ideal) i (ix2 r 0) = low (BitVec.ofNat 32 ((i 1).val * 256 + r.val)) := by
  rw [← pos_apply r i]
  pointwise [k0_pay5, low]

theorem high_apply' (i : grid0.Coords) : k0_pay6 (F := Ideal) i (ix2 r 0) = high (BitVec.ofNat 32 ((i 1).val * 256 + r.val)) := by
  rw [← pos_apply r i]
  pointwise [k0_pay6, high]

theorem low_apply' (i : grid0.Coords) : k0_pay7 (F := Ideal) i (ix2 r 0) = low (BitVec.ofNat 32 ((i 1).val * 256 + r.val)) := by
  rw [← pos_apply r i]
  pointwise [k0_pay7, low]

/-- The features of a tile's keys. -/
theorem place_apply (i : grid0.Coords) : k0_pay10 (F := Ideal) (iota Kind.tc S1x128 32 [1] iota_S1x128_d1_w32) (k0_pay6 (F := Ideal) i) (k0_pay7 (F := Ideal) i) k0_pay8 k0_pay9 (ix2 r e)
    = place (BitVec.ofNat 32 ((i 1).val * 256 + r.val)) e := by
  rw [place, ← mul_bit, ← high_apply', ← low_apply']
  generalize k0_pay6 (F := Ideal) i = a
  generalize k0_pay7 (F := Ideal) i = b
  pointwise [k0_pay10, k0_pay8, k0_pay9]

theorem block_apply (i : grid0.Coords) : k0_pay11 (F := Ideal) (k0_pay3 i) (iota Kind.tc S1x128 32 [1] iota_S1x128_d1_w32) (ix2 r e)
    = block (BitVec.ofNat 32 ((i 1).val * 256 + r.val)) e := by
  rw [block, ← bit_eq, ← pos_apply r i]
  generalize k0_pay3 i = a
  pointwise [k0_pay11]

/-- A tile's gates. -/
theorem gate_apply (a : S256x1024.Idx → EReal) (v : S1024x128.Idx → EReal) (w : S1x128.Idx → EReal) :
    k0_pay67 (F := Ideal) (iota Kind.tc S1x128 32 [1] iota_S1x128_d1_w32) (k0_pay66 (F := Ideal) a v w) 24#32 (ix3 0 r e)
      = Scalar.select (IntOp.cmpi .slt (BitVec.ofNat 32 e.val) 24#32) (Ideal.logistic ((∑ k : Fin 1024, a (ix2 r k) * v (ix2 k e)) + w (ix2 0 e))) 0 := by
  pointwise [k0_pay67, k0_pay66]

/-- A tile's heads of keys, from the normed rows `n`, the group's weights `v`, the gains `w` and the features `f` and `g`. -/
theorem ks0_apply (f g : S256x128.Idx → EReal) (n : S256x1024.Idx → EReal) (v : S1024x256.Idx → EReal) (w : S1x128.Idx → EReal) :
    k0_pay55 (F := Ideal) f g (k0_pay54 (F := Ideal) n v) w (ix3 0 r e)
      = headNorm (fun k => ∑ d : Fin 1024, n (ix2 r d) * v (ix2 d (at2 0 k))) (fun k => w (ix2 0 k)) e + f (ix2 r e) + g (ix2 r e) := by
  pointwise [k0_pay55, k0_pay54, k0_pay53, headNorm, at2]

theorem ks1_apply (f g : S256x128.Idx → EReal) (n : S256x1024.Idx → EReal) (v : S1024x256.Idx → EReal) (w : S1x128.Idx → EReal) :
    k0_pay56 (F := Ideal) f g (k0_pay53 (F := Ideal) n v) w (ix3 0 r e)
      = headNorm (fun k => ∑ d : Fin 1024, n (ix2 r d) * v (ix2 d (at2 1 k))) (fun k => w (ix2 0 k)) e + f (ix2 r e) + g (ix2 r e) := by
  pointwise [k0_pay56, k0_pay53, headNorm, at2]

theorem kw0_apply (f : S256x128.Idx → EReal) (n : S256x1024.Idx → EReal) (v : S1024x256.Idx → EReal) (w : S1x128.Idx → EReal) :
    k0_pay59 (F := Ideal) n f v w (ix3 0 r e)
      = headNorm (fun k => ∑ d : Fin 1024, n (ix2 r d) * v (ix2 d (at2 0 k))) (fun k => w (ix2 0 k)) e + f (ix2 r e) := by
  pointwise [k0_pay59, k0_pay58, headNorm, at2]

theorem kw1_apply (f : S256x128.Idx → EReal) (n : S256x1024.Idx → EReal) (v : S1024x256.Idx → EReal) (w : S1x128.Idx → EReal) :
    k0_pay62 (F := Ideal) f (k0_pay60 (F := Ideal) n v) (k0_pay61 (F := Ideal) w) (ix3 0 r e)
      = headNorm (fun k => ∑ d : Fin 1024, n (ix2 r d) * v (ix2 d (at2 1 k))) (fun k => w (ix2 0 k)) e + f (ix2 r e) := by
  pointwise [k0_pay62, k0_pay60, k0_pay61, k0_pay58, headNorm, at2]

theorem qn0_apply (hi lo : S256x1.Idx → EReal) (n : S256x1024.Idx → EReal) (v : S1024x1024.Idx → EReal) (w : S1x128.Idx → EReal) (p : BitVec 32)
    (hh : hi (ix2 r 0) = high p) (hl : lo (ix2 r 0) = low p) :
    k0_pay19 (F := Ideal) (iota Kind.tc S1x128 32 [1] iota_S1x128_d1_w32) (k0_pay12 (F := Ideal) n v) (k0_pay13 (F := Ideal) w) (k0_pay14 (iota Kind.tc S1x128 32 [1] iota_S1x128_d1_w32)) (k0_pay15 (F := Ideal) hi) (k0_pay16 (iota Kind.tc S1x128 32 [1] iota_S1x128_d1_w32)) (k0_pay17 (F := Ideal) lo) (k0_pay18 (iota Kind.tc S1x128 32 [1] iota_S1x128_d1_w32)) (ix3 0 r e)
      = headNorm (fun k => ∑ d : Fin 1024, n (ix2 r d) * v (ix2 d (at8 0 k))) (fun k => w (ix2 0 k) * Ideal.ofBits .f32 0x3E000000#32) e
        + far (fall 0) (rise 0) p e := by
  rw [far, ← hh, ← hl, show fall 0 = Ideal.ofBits .f32 0xBF000000#32 from rfl, show rise 0 = Ideal.ofBits .f32 0x3F000000#32 from rfl]
  pointwise [k0_pay19, k0_pay12, k0_pay13, k0_pay14, k0_pay15, k0_pay16, k0_pay17, k0_pay18, headNorm, at8]

theorem qn1_apply (hi lo : S256x1.Idx → EReal) (n : S256x1024.Idx → EReal) (v : S1024x1024.Idx → EReal) (w : S1x128.Idx → EReal) (p : BitVec 32)
    (hh : hi (ix2 r 0) = high p) (hl : lo (ix2 r 0) = low p) :
    k0_pay25 (F := Ideal) (iota Kind.tc S1x128 32 [1] iota_S1x128_d1_w32) (k0_pay12 (F := Ideal) n v) (k0_pay13 (F := Ideal) w) (k0_pay20 (iota Kind.tc S1x128 32 [1] iota_S1x128_d1_w32)) (k0_pay21 (F := Ideal) hi) (k0_pay22 (iota Kind.tc S1x128 32 [1] iota_S1x128_d1_w32)) (k0_pay23 (F := Ideal) lo) k0_pay24 (ix3 0 r e)
      = headNorm (fun k => ∑ d : Fin 1024, n (ix2 r d) * v (ix2 d (at8 1 k))) (fun k => w (ix2 0 k) * Ideal.ofBits .f32 0x3E000000#32) e
        + far (fall 1) (rise 1) p e := by
  rw [far, ← hh, ← hl, show fall 1 = Ideal.ofBits .f32 0xBE800000#32 from rfl, show rise 1 = Ideal.ofBits .f32 0x3E800000#32 from rfl]
  pointwise [k0_pay25, k0_pay12, k0_pay13, k0_pay20, k0_pay21, k0_pay22, k0_pay23, k0_pay24, headNorm, at8]

theorem qn2_apply (hi lo : S256x1.Idx → EReal) (n : S256x1024.Idx → EReal) (v : S1024x1024.Idx → EReal) (w : S1x128.Idx → EReal) (p : BitVec 32)
    (hh : hi (ix2 r 0) = high p) (hl : lo (ix2 r 0) = low p) :
    k0_pay30 (F := Ideal) (iota Kind.tc S1x128 32 [1] iota_S1x128_d1_w32) (k0_pay12 (F := Ideal) n v) (k0_pay13 (F := Ideal) w) (k0_pay26 (iota Kind.tc S1x128 32 [1] iota_S1x128_d1_w32)) (k0_pay27 (F := Ideal) hi) (k0_pay28 (iota Kind.tc S1x128 32 [1] iota_S1x128_d1_w32)) (k0_pay29 (F := Ideal) lo) 98#32 (ix3 0 r e)
      = headNorm (fun k => ∑ d : Fin 1024, n (ix2 r d) * v (ix2 d (at8 2 k))) (fun k => w (ix2 0 k) * Ideal.ofBits .f32 0x3E000000#32) e
        + far (fall 2) (rise 2) p e := by
  rw [far, ← hh, ← hl, show fall 2 = Ideal.ofBits .f32 0xBE000000#32 from rfl, show rise 2 = Ideal.ofBits .f32 0x3E000000#32 from rfl]
  pointwise [k0_pay30, k0_pay12, k0_pay13, k0_pay26, k0_pay27, k0_pay28, k0_pay29, headNorm, at8]

theorem qn3_apply (hi lo : S256x1.Idx → EReal) (n : S256x1024.Idx → EReal) (v : S1024x1024.Idx → EReal) (w : S1x128.Idx → EReal) (p : BitVec 32)
    (hh : hi (ix2 r 0) = high p) (hl : lo (ix2 r 0) = low p) :
    k0_pay35 (F := Ideal) (iota Kind.tc S1x128 32 [1] iota_S1x128_d1_w32) (k0_pay12 (F := Ideal) n v) (k0_pay13 (F := Ideal) w) (k0_pay31 (iota Kind.tc S1x128 32 [1] iota_S1x128_d1_w32)) (k0_pay32 (F := Ideal) hi) (k0_pay33 (iota Kind.tc S1x128 32 [1] iota_S1x128_d1_w32)) (k0_pay34 (F := Ideal) lo) (ix3 0 r e)
      = headNorm (fun k => ∑ d : Fin 1024, n (ix2 r d) * v (ix2 d (at8 3 k))) (fun k => w (ix2 0 k) * Ideal.ofBits .f32 0x3E000000#32) e
        + far (fall 3) (rise 3) p e := by
  rw [far, ← hh, ← hl, show fall 3 = Ideal.ofBits .f32 0xBD800000#32 from rfl, show rise 3 = Ideal.ofBits .f32 0x3D800000#32 from rfl]
  pointwise [k0_pay35, k0_pay12, k0_pay13, k0_pay31, k0_pay32, k0_pay33, k0_pay34, headNorm, at8]

theorem qn4_apply (hi lo : S256x1.Idx → EReal) (n : S256x1024.Idx → EReal) (v : S1024x1024.Idx → EReal) (w : S1x128.Idx → EReal) (p : BitVec 32)
    (hh : hi (ix2 r 0) = high p) (hl : lo (ix2 r 0) = low p) :
    k0_pay40 (F := Ideal) (iota Kind.tc S1x128 32 [1] iota_S1x128_d1_w32) lo (k0_pay12 (F := Ideal) n v) (k0_pay13 (F := Ideal) w) (k0_pay36 (iota Kind.tc S1x128 32 [1] iota_S1x128_d1_w32)) (k0_pay37 (F := Ideal) hi) (k0_pay38 (iota Kind.tc S1x128 32 [1] iota_S1x128_d1_w32)) (k0_pay39 (F := Ideal)) (ix3 0 r e)
      = headNorm (fun k => ∑ d : Fin 1024, n (ix2 r d) * v (ix2 d (at8 4 k))) (fun k => w (ix2 0 k) * Ideal.ofBits .f32 0x3E000000#32) e
        + far (fall 4) (rise 4) p e := by
  rw [far, ← hh, ← hl, show fall 4 = Ideal.ofBits .f32 0xBD000000#32 from rfl, show rise 4 = Ideal.ofBits .f32 0x3D000000#32 from rfl]
  pointwise [k0_pay40, k0_pay12, k0_pay13, k0_pay36, k0_pay37, k0_pay38, k0_pay39, headNorm, at8]

theorem qn5_apply (hi lo : S256x1.Idx → EReal) (n : S256x1024.Idx → EReal) (v : S1024x1024.Idx → EReal) (w : S1x128.Idx → EReal) (p : BitVec 32)
    (hh : hi (ix2 r 0) = high p) (hl : lo (ix2 r 0) = low p) :
    k0_pay44 (F := Ideal) (iota Kind.tc S1x128 32 [1] iota_S1x128_d1_w32) lo (k0_pay12 (F := Ideal) n v) (k0_pay13 (F := Ideal) w) (k0_pay41 (iota Kind.tc S1x128 32 [1] iota_S1x128_d1_w32)) (k0_pay42 (F := Ideal) hi) (k0_pay43 (iota Kind.tc S1x128 32 [1] iota_S1x128_d1_w32)) (FloatOps.ofBits (F := Ideal) FTy.f32 3162505216#32) (ix3 0 r e)
      = headNorm (fun k => ∑ d : Fin 1024, n (ix2 r d) * v (ix2 d (at8 5 k))) (fun k => w (ix2 0 k) * Ideal.ofBits .f32 0x3E000000#32) e
        + far (fall 5) (rise 5) p e := by
  rw [far, ← hh, ← hl, show fall 5 = Ideal.ofBits .f32 0xBC800000#32 from rfl, show rise 5 = Ideal.ofBits .f32 0x3C800000#32 from rfl]
  pointwise [k0_pay44, k0_pay12, k0_pay13, k0_pay41, k0_pay42, k0_pay43, headNorm, at8]

theorem qn6_apply (hi lo : S256x1.Idx → EReal) (n : S256x1024.Idx → EReal) (v : S1024x1024.Idx → EReal) (w : S1x128.Idx → EReal) (p : BitVec 32)
    (hh : hi (ix2 r 0) = high p) (hl : lo (ix2 r 0) = low p) :
    k0_pay48 (F := Ideal) (iota Kind.tc S1x128 32 [1] iota_S1x128_d1_w32) lo (k0_pay12 (F := Ideal) n v) (k0_pay13 (F := Ideal) w) (k0_pay45 (iota Kind.tc S1x128 32 [1] iota_S1x128_d1_w32)) (k0_pay46 (F := Ideal) hi) (k0_pay47 (iota Kind.tc S1x128 32 [1] iota_S1x128_d1_w32)) (ix3 0 r e)
      = headNorm (fun k => ∑ d : Fin 1024, n (ix2 r d) * v (ix2 d (at8 6 k))) (fun k => w (ix2 0 k) * Ideal.ofBits .f32 0x3E000000#32) e
        + far (fall 6) (rise 6) p e := by
  rw [far, ← hh, ← hl, show fall 6 = Ideal.ofBits .f32 0xBC000000#32 from rfl, show rise 6 = Ideal.ofBits .f32 0x3C000000#32 from rfl]
  pointwise [k0_pay48, k0_pay12, k0_pay13, k0_pay45, k0_pay46, k0_pay47, headNorm, at8]

theorem qn7_apply (hi lo : S256x1.Idx → EReal) (n : S256x1024.Idx → EReal) (v : S1024x1024.Idx → EReal) (w : S1x128.Idx → EReal) (p : BitVec 32)
    (hh : hi (ix2 r 0) = high p) (hl : lo (ix2 r 0) = low p) :
    k0_pay52 (F := Ideal) (iota Kind.tc S1x128 32 [1] iota_S1x128_d1_w32) lo (k0_pay12 (F := Ideal) n v) (k0_pay13 (F := Ideal) w) (k0_pay49 (iota Kind.tc S1x128 32 [1] iota_S1x128_d1_w32)) (k0_pay50 (F := Ideal) hi) k0_pay51 (ix3 0 r e)
      = headNorm (fun k => ∑ d : Fin 1024, n (ix2 r d) * v (ix2 d (at8 7 k))) (fun k => w (ix2 0 k) * Ideal.ofBits .f32 0x3E000000#32) e
        + far (fall 7) (rise 7) p e := by
  rw [far, ← hh, ← hl, show fall 7 = Ideal.ofBits .f32 0xBB800000#32 from rfl, show rise 7 = Ideal.ofBits .f32 0x3B800000#32 from rfl]
  pointwise [k0_pay52, k0_pay12, k0_pay13, k0_pay49, k0_pay50, k0_pay51, headNorm, at8]

end Cert.ProjIdeal.Tile
end
-- ==== Proof.ProjHeadBlock.lean ====
/- The input projection's heads and gates: what each tile stores, and the whole results. -/
module

public import proofs.«01_k».proof.Proof.ProjBlock
public import proofs.«01_k».proof.Proof.ProjHeadTile

@[expose] public section

set_option maxRecDepth 16384

noncomputable section

open Idealize.ShloMosaic Idealize.ShloMosaic.TcCoe Idealize.SL.Sem

namespace Cert.ProjIdeal.Block

open Cert.ProjIdeal Cert.ProjIdeal.Gen Cert.ExpertsScore Cert.ProjScore

variable (m : (ℓ : Loc nD τ sig) → Buf (Elt Ideal) ℓ) (c : Dev nD)

theorem idx' : ∀ t : Fin cfg0.N, win0_3.index t = ![0, 0] ∧ win0_4.index t = ![0, 0]
    ∧ win0_7.index t = ![t.val / 8, t.val % 8, 0] ∧ win0_8.index t = ![t.val / 8, t.val % 8, 0] ∧ win0_10.index t = ![t.val / 8, t.val % 8, 0]
    ∧ win0_17.index t = ![t.val / 8, t.val % 8, 0] := by
  decide +kernel

/-- The tile of a sequence a grid point works on. -/
theorem coord : ∀ t : Fin cfg0.N, (grid0.coords t 1).val = t.val % 8 := by
  decide +kernel

theorem coord_row (t : Fin cfg0.N) (r : Fin 256) : BitVec.ofNat 32 ((grid0.coords t 1).val * 256 + r.val) = BitVec.ofNat 32 (row t r).val := by
  rw [coord]
  rfl

theorem emb_7 (t : Fin cfg0.N) (r : Fin 256) (k : Fin 1024) : ((win0_7.blk t).view.emb (ix3 0 r k) : S32x2048x1024.Idx) = ix3 (seq t) (row t r) k := by
  blk_ext [idx' t] <;> rfl

theorem emb_8 (t : Fin cfg0.N) (r : Fin 256) (k : Fin 256) : ((win0_8.blk t).view.emb (ix3 0 r k) : S32x2048x256.Idx) = ix3 (seq t) (row t r) k := by
  blk_ext [idx' t] <;> rfl

theorem emb_10 (t : Fin cfg0.N) (r : Fin 256) (k : Fin 256) : ((win0_10.blk t).view.emb (ix3 0 r k) : S32x2048x256.Idx) = ix3 (seq t) (row t r) k := by
  blk_ext [idx' t] <;> rfl

theorem emb_17 (t : Fin cfg0.N) (r : Fin 256) (k : Fin 128) : ((win0_17.blk t).view.emb (ix3 0 r k) : S32x2048x128.Idx) = ix3 (seq t) (row t r) k := by
  blk_ext [idx' t] <;> rfl

theorem emb_3 (t : Fin cfg0.N) (i : Fin 8) (k : Fin 128) : ((win0_3.blk t).view.emb (ix2 i k) : S8x128.Idx) = ix2 i k := by
  blk_ext [idx' t]

theorem read_3 (t : Fin cfg0.N) (i : Fin 8) (k : Fin 128) : (iblk m c 3 t : S8x128.Idx → EReal) (ix2 i k)
    = (m ((c.tc : Thread nD τ).loc main_arg3) : S8x128.Idx → EReal) (ix2 i k) :=
  (congrArg (V m c main_arg3 : S8x128.Idx → EReal) (emb_3 t i k)).trans (congrFun (V_main_arg3 m c) _)

theorem emb_4 (t : Fin cfg0.N) (i : Fin 1) (k : Fin 128) : ((win0_4.blk t).view.emb (ix2 i k) : S1x128.Idx) = ix2 i k := by
  blk_ext [idx' t]

theorem read_4 (t : Fin cfg0.N) (i : Fin 1) (k : Fin 128) : (iblk m c 4 t : S1x128.Idx → EReal) (ix2 i k)
    = (m ((c.tc : Thread nD τ).loc main_arg4) : S1x128.Idx → EReal) (ix2 i k) :=
  (congrArg (V m c main_arg4 : S1x128.Idx → EReal) (emb_4 t i k)).trans (congrFun (V_main_arg4 m c) _)

theorem ld_qn (w : S1024x5504.Idx → EReal) (k : Fin 1024) (d : Fin 1024) :
    @View.ld (Elt Ideal) S1024x5504 .bf16 w (Rect.unit (s := S1024x5504) ![0, 0] ![1024, 1024] inb_S1024x5504_S1024x1024_0_0) (ix2 k d) = w (ix2 k (column 0 1024 (by decide) d)) := by
  pointwise [column]

theorem ld_ks (w : S1024x5504.Idx → EReal) (k : Fin 1024) (d : Fin 256) :
    @View.ld (Elt Ideal) S1024x5504 .bf16 w (Rect.unit (s := S1024x5504) ![0, 1024] ![1024, 256] inb_S1024x5504_S1024x256_0_1024) (ix2 k d) = w (ix2 k (column 1024 256 (by decide) d)) := by
  pointwise [column]

theorem ld_kw (w : S1024x5504.Idx → EReal) (k : Fin 1024) (d : Fin 256) :
    @View.ld (Elt Ideal) S1024x5504 .bf16 w (Rect.unit (s := S1024x5504) ![0, 1536] ![1024, 256] inb_S1024x5504_S1024x256_0_1536) (ix2 k d) = w (ix2 k (column 1536 256 (by decide) d)) := by
  pointwise [column]

theorem ld_misc (w : S1024x5504.Idx → EReal) (k : Fin 1024) (d : Fin 128) :
    @View.ld (Elt Ideal) S1024x5504 .bf16 w (Rect.unit (s := S1024x5504) ![0, 5376] ![1024, 128] inb_S1024x5504_S1024x128_0_5376) (ix2 k d) = w (ix2 k (column 5376 128 (by decide) d)) := by
  pointwise [column]

theorem gain_0 (t : Fin cfg0.N) (k : Fin 128) :
    @View.ld (Elt Ideal) S8x128 .f32 (iblk m c 3 t) (Rect.unit (s := S8x128) ![0, 0] ![1, 128] inb_S8x128_S1x128_0_0) (ix2 0 k)
      = (m ((c.tc : Thread nD τ).loc main_arg3) : S8x128.Idx → EReal) (ix2 0 k) := by
  rw [← read_3 m c t 0 k]
  generalize (iblk m c 3 t : S8x128.Idx → EReal) = w
  pointwise

theorem gain_1 (t : Fin cfg0.N) (k : Fin 128) :
    @View.ld (Elt Ideal) S8x128 .f32 (iblk m c 3 t) (Rect.unit (s := S8x128) ![1, 0] ![1, 128] inb_S8x128_S1x128_1_0) (ix2 0 k)
      = (m ((c.tc : Thread nD τ).loc main_arg3) : S8x128.Idx → EReal) (ix2 1 k) := by
  rw [← read_3 m c t 1 k]
  generalize (iblk m c 3 t : S8x128.Idx → EReal) = w
  pointwise

theorem gain_2 (t : Fin cfg0.N) (k : Fin 128) :
    @View.ld (Elt Ideal) S8x128 .f32 (iblk m c 3 t) (Rect.unit (s := S8x128) ![2, 0] ![1, 128] inb_S8x128_S1x128_2_0) (ix2 0 k)
      = (m ((c.tc : Thread nD τ).loc main_arg3) : S8x128.Idx → EReal) (ix2 2 k) := by
  rw [← read_3 m c t 2 k]
  generalize (iblk m c 3 t : S8x128.Idx → EReal) = w
  pointwise

abbrev N : S8x128.Idx → EReal := m ((c.tc : Thread nD τ).loc main_arg3)
abbrev B : S1x128.Idx → EReal := m ((c.tc : Thread nD τ).loc main_arg4)

/-- The normed rows and the weights a tile reads. -/
abbrev rows (t : Fin cfg0.N) : S256x1024.Idx → EReal := k0_pay2 (F := Ideal) (iblk m c 0 t) (iblk m c 1 t)

/-- A column of a tile's projection is the whole's. -/
theorem column_block (t : Fin cfg0.N) (r : Fin 256) (l : Fin 5504) (v : Fin 1024 → EReal)
    (hv : ∀ k, v k = (iblk m c 2 t : S1024x5504.Idx → EReal) (ix2 k l)) :
    (∑ k : Fin 1024, rows m c t (ix2 r k) * v k) = at_ (X m c) (G m c) (W m c) (seq t) (row t r) l := by
  have e (k : Fin 1024) : rows m c t (ix2 r k) * v k
      = normed (fun k => X m c (ix3 (seq t) (row t r) k)) (fun k => G m c (ix2 0 k)) k * W m c (ix2 k l) := by
    rw [hv, read_2]
    exact congrArg (· * _) (normed_block m c t r k)
  rw [Finset.sum_congr rfl fun k _ => e k]
  rfl

/-- A head whose columns and gains agree is the same head. -/
theorem head_congr {a a' g g' : Fin 128 → EReal} (e : Fin 128) (ha : ∀ k, a k = a' k) (hg : ∀ k, g k = g' k) : headNorm a g e = headNorm a' g' e := by
  rw [funext ha, funext hg]

/-- What a tile stores in output 17, and the whole of that output. -/
theorem gate_block (t : Fin cfg0.N) (r : Fin 256) (d : Fin 128) : ((outsAt0 (F := Ideal) m c t.val t.isLt).2.2.2.2.2.2.2.2.2.2.1 : S1x256x128.Idx → EReal) (ix3 0 r d)
    = gates (X m c) (G m c) (W m c) (B m c) (ix3 (seq t) (row t r) d) := by
  have e := column_block m c t r (column 5376 128 (by decide) d) _ fun k => ld_misc (iblk m c 2 t) k d
  by_cases h : t.val % 8 = 0
  · rw [outsAt0_A m c t h]
    frame_out
    refine (Tile.gate_apply r d _ _ _).trans ?_
    rw [e, read_4]
    rfl
  · rw [outsAt0_B m c t h]
    frame_out
    refine (Tile.gate_apply r d _ _ _).trans ?_
    rw [e, read_4]
    rfl

theorem gate_final : (dats m 0 c).arrAt 17 cfg0.N = gates (X m c) (G m c) (W m c) (B m c) := by
  refine (dats m 0 c).arrAt_eq_of_covers 17 (gates (X m c) (G m c) (W m c) (B m c)) (by decide +kernel) fun t _ y => ?_
  blk_simp
  rw [after0_17]
  obtain ⟨r, d, rfl⟩ : ∃ (r : Fin 256) (d : Fin 128), y = ix3 0 r d := by
    exact ⟨y 1, y 2, by idx_vars y; blk_ext⟩
  refine (gate_block m c t r d).trans ?_
  rw [show (win0_17.blk t).view.emb (ix3 0 r d) = ix3 (seq t) (row t r) d from emb_17 t r d]

/-- What a tile stores in output 8, and the whole of that output. -/
theorem ks_block (t : Fin cfg0.N) (r : Fin 256) (d : Fin 256) : ((outsAt0 (F := Ideal) m c t.val t.isLt).2.1 : S1x256x256.Idx → EReal) (ix3 0 r d)
    = selected (X m c) (G m c) (W m c) (N m c) (ix3 (seq t) (row t r) d) := by
  by_cases h : t.val % 8 = 0
  · rw [outsAt0_A m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at2 1 e := by
        apply Fin.ext
        simp only [at2]
        change d.val = 128 + e.val at hx2
        change d.val = 1 * 128 + e.val
        omega
      refine (Tile.ks1_apply r e _ _ _ _ _).trans ?_
      rw [selected_at, head_congr e (fun k => column_block m c t r (column 1024 256 (by decide) (at2 1 k)) _ fun d => ld_ks (iblk m c 2 t) d (at2 1 k)) (fun k => gain_1 m c t k), Tile.place_apply, Tile.block_apply, coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at2 0 e := by
        apply Fin.ext
        simp only [at2]
        change d.val = e.val at hx2
        change d.val = 0 * 128 + e.val
        omega
      refine (Tile.ks0_apply r e _ _ _ _ _).trans ?_
      rw [selected_at, head_congr e (fun k => column_block m c t r (column 1024 256 (by decide) (at2 0 k)) _ fun d => ld_ks (iblk m c 2 t) d (at2 0 k)) (fun k => gain_1 m c t k), Tile.place_apply, Tile.block_apply, coord_row]
  · rw [outsAt0_B m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at2 1 e := by
        apply Fin.ext
        simp only [at2]
        change d.val = 128 + e.val at hx2
        change d.val = 1 * 128 + e.val
        omega
      refine (Tile.ks1_apply r e _ _ _ _ _).trans ?_
      rw [selected_at, head_congr e (fun k => column_block m c t r (column 1024 256 (by decide) (at2 1 k)) _ fun d => ld_ks (iblk m c 2 t) d (at2 1 k)) (fun k => gain_1 m c t k), Tile.place_apply, Tile.block_apply, coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at2 0 e := by
        apply Fin.ext
        simp only [at2]
        change d.val = e.val at hx2
        change d.val = 0 * 128 + e.val
        omega
      refine (Tile.ks0_apply r e _ _ _ _ _).trans ?_
      rw [selected_at, head_congr e (fun k => column_block m c t r (column 1024 256 (by decide) (at2 0 k)) _ fun d => ld_ks (iblk m c 2 t) d (at2 0 k)) (fun k => gain_1 m c t k), Tile.place_apply, Tile.block_apply, coord_row]

theorem ks_final : (dats m 0 c).arrAt 8 cfg0.N = selected (X m c) (G m c) (W m c) (N m c) := by
  refine (dats m 0 c).arrAt_eq_of_covers 8 (selected (X m c) (G m c) (W m c) (N m c)) (by decide +kernel) fun t _ y => ?_
  blk_simp
  rw [after0_8]
  obtain ⟨r, d, rfl⟩ : ∃ (r : Fin 256) (d : Fin 256), y = ix3 0 r d := by
    exact ⟨y 1, y 2, by idx_vars y; blk_ext⟩
  refine (ks_block m c t r d).trans ?_
  rw [show (win0_8.blk t).view.emb (ix3 0 r d) = ix3 (seq t) (row t r) d from emb_8 t r d]

/-- What a tile stores in output 10, and the whole of that output. -/
theorem kw_block (t : Fin cfg0.N) (r : Fin 256) (d : Fin 256) : ((outsAt0 (F := Ideal) m c t.val t.isLt).2.2.2.1 : S1x256x256.Idx → EReal) (ix3 0 r d)
    = windowed (X m c) (G m c) (W m c) (N m c) (ix3 (seq t) (row t r) d) := by
  by_cases h : t.val % 8 = 0
  · rw [outsAt0_A m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at2 1 e := by
        apply Fin.ext
        simp only [at2]
        change d.val = 128 + e.val at hx2
        change d.val = 1 * 128 + e.val
        omega
      refine (Tile.kw1_apply r e _ _ _ _).trans ?_
      rw [windowed_at, head_congr e (fun k => column_block m c t r (column 1536 256 (by decide) (at2 1 k)) _ fun d => ld_kw (iblk m c 2 t) d (at2 1 k)) (fun k => gain_2 m c t k), Tile.place_apply, coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at2 0 e := by
        apply Fin.ext
        simp only [at2]
        change d.val = e.val at hx2
        change d.val = 0 * 128 + e.val
        omega
      refine (Tile.kw0_apply r e _ _ _ _).trans ?_
      rw [windowed_at, head_congr e (fun k => column_block m c t r (column 1536 256 (by decide) (at2 0 k)) _ fun d => ld_kw (iblk m c 2 t) d (at2 0 k)) (fun k => gain_2 m c t k), Tile.place_apply, coord_row]
  · rw [outsAt0_B m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at2 1 e := by
        apply Fin.ext
        simp only [at2]
        change d.val = 128 + e.val at hx2
        change d.val = 1 * 128 + e.val
        omega
      refine (Tile.kw1_apply r e _ _ _ _).trans ?_
      rw [windowed_at, head_congr e (fun k => column_block m c t r (column 1536 256 (by decide) (at2 1 k)) _ fun d => ld_kw (iblk m c 2 t) d (at2 1 k)) (fun k => gain_2 m c t k), Tile.place_apply, coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at2 0 e := by
        apply Fin.ext
        simp only [at2]
        change d.val = e.val at hx2
        change d.val = 0 * 128 + e.val
        omega
      refine (Tile.kw0_apply r e _ _ _ _).trans ?_
      rw [windowed_at, head_congr e (fun k => column_block m c t r (column 1536 256 (by decide) (at2 0 k)) _ fun d => ld_kw (iblk m c 2 t) d (at2 0 k)) (fun k => gain_2 m c t k), Tile.place_apply, coord_row]

theorem kw_final : (dats m 0 c).arrAt 10 cfg0.N = windowed (X m c) (G m c) (W m c) (N m c) := by
  refine (dats m 0 c).arrAt_eq_of_covers 10 (windowed (X m c) (G m c) (W m c) (N m c)) (by decide +kernel) fun t _ y => ?_
  blk_simp
  rw [after0_10]
  obtain ⟨r, d, rfl⟩ : ∃ (r : Fin 256) (d : Fin 256), y = ix3 0 r d := by
    exact ⟨y 1, y 2, by idx_vars y; blk_ext⟩
  refine (kw_block m c t r d).trans ?_
  rw [show (win0_10.blk t).view.emb (ix3 0 r d) = ix3 (seq t) (row t r) d from emb_10 t r d]

/-- What a tile stores in output 7, and the whole of that output. -/
theorem qn_block (t : Fin cfg0.N) (r : Fin 256) (d : Fin 1024) : ((outsAt0 (F := Ideal) m c t.val t.isLt).1 : S1x256x1024.Idx → EReal) (ix3 0 r d)
    = queries (X m c) (G m c) (W m c) (N m c) (ix3 (seq t) (row t r) d) := by
  by_cases h : t.val % 8 = 0
  · rw [outsAt0_A m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at8 7 e := by
        apply Fin.ext
        simp only [at8]
        change d.val = 896 + e.val at hx2
        change d.val = 7 * 128 + e.val
        omega
      refine (Tile.qn7_apply r e _ _ _ _ _ _ (Tile.high_apply r (grid0.coords t)) (Tile.low_apply r (grid0.coords t))).trans ?_
      rw [queries_at, head_congr e (fun k => column_block m c t r (column 0 1024 (by decide) (at8 7 k)) _ fun d => ld_qn (iblk m c 2 t) d (at8 7 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 6 e := by
        apply Fin.ext
        simp only [at8]
        change d.val = 768 + e.val at hx2
        change d.val = 6 * 128 + e.val
        omega
      refine (Tile.qn6_apply r e _ _ _ _ _ _ (Tile.high_apply r (grid0.coords t)) (Tile.low_apply r (grid0.coords t))).trans ?_
      rw [queries_at, head_congr e (fun k => column_block m c t r (column 0 1024 (by decide) (at8 6 k)) _ fun d => ld_qn (iblk m c 2 t) d (at8 6 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 5 e := by
        apply Fin.ext
        simp only [at8]
        change d.val = 640 + e.val at hx2
        change d.val = 5 * 128 + e.val
        omega
      refine (Tile.qn5_apply r e _ _ _ _ _ _ (Tile.high_apply r (grid0.coords t)) (Tile.low_apply r (grid0.coords t))).trans ?_
      rw [queries_at, head_congr e (fun k => column_block m c t r (column 0 1024 (by decide) (at8 5 k)) _ fun d => ld_qn (iblk m c 2 t) d (at8 5 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 4 e := by
        apply Fin.ext
        simp only [at8]
        change d.val = 512 + e.val at hx2
        change d.val = 4 * 128 + e.val
        omega
      refine (Tile.qn4_apply r e _ _ _ _ _ _ (Tile.high_apply r (grid0.coords t)) (Tile.low_apply r (grid0.coords t))).trans ?_
      rw [queries_at, head_congr e (fun k => column_block m c t r (column 0 1024 (by decide) (at8 4 k)) _ fun d => ld_qn (iblk m c 2 t) d (at8 4 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 3 e := by
        apply Fin.ext
        simp only [at8]
        change d.val = 384 + e.val at hx2
        change d.val = 3 * 128 + e.val
        omega
      refine (Tile.qn3_apply r e _ _ _ _ _ _ (Tile.high_apply r (grid0.coords t)) (Tile.low_apply r (grid0.coords t))).trans ?_
      rw [queries_at, head_congr e (fun k => column_block m c t r (column 0 1024 (by decide) (at8 3 k)) _ fun d => ld_qn (iblk m c 2 t) d (at8 3 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 2 e := by
        apply Fin.ext
        simp only [at8]
        change d.val = 256 + e.val at hx2
        change d.val = 2 * 128 + e.val
        omega
      refine (Tile.qn2_apply r e _ _ _ _ _ _ (Tile.high_apply r (grid0.coords t)) (Tile.low_apply r (grid0.coords t))).trans ?_
      rw [queries_at, head_congr e (fun k => column_block m c t r (column 0 1024 (by decide) (at8 2 k)) _ fun d => ld_qn (iblk m c 2 t) d (at8 2 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 1 e := by
        apply Fin.ext
        simp only [at8]
        change d.val = 128 + e.val at hx2
        change d.val = 1 * 128 + e.val
        omega
      refine (Tile.qn1_apply r e _ _ _ _ _ _ (Tile.high_apply r (grid0.coords t)) (Tile.low_apply r (grid0.coords t))).trans ?_
      rw [queries_at, head_congr e (fun k => column_block m c t r (column 0 1024 (by decide) (at8 1 k)) _ fun d => ld_qn (iblk m c 2 t) d (at8 1 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 0 e := by
        apply Fin.ext
        simp only [at8]
        change d.val = e.val at hx2
        change d.val = 0 * 128 + e.val
        omega
      refine (Tile.qn0_apply r e _ _ _ _ _ _ (Tile.high_apply r (grid0.coords t)) (Tile.low_apply r (grid0.coords t))).trans ?_
      rw [queries_at, head_congr e (fun k => column_block m c t r (column 0 1024 (by decide) (at8 0 k)) _ fun d => ld_qn (iblk m c 2 t) d (at8 0 k)) (fun k => congrArg (· * _) (gain_0 m c t k)), coord_row]
  · rw [outsAt0_B m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at8 7 e := by
        apply Fin.ext
        simp only [at8]
        change d.val = 896 + e.val at hx2
        change d.val = 7 * 128 + e.val
        omega
      refine (Tile.qn7_apply r e _ _ _ _ _ _ (Tile.high_apply r (grid0.coords t)) (Tile.low_apply r (grid0.coords t))).trans ?_
      rw [queries_at, head_congr e (fun k => column_block m c t r (column 0 1024 (by decide) (at8 7 k)) _ fun d => ld_qn (iblk m c 2 t) d (at8 7 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 6 e := by
        apply Fin.ext
        simp only [at8]
        change d.val = 768 + e.val at hx2
        change d.val = 6 * 128 + e.val
        omega
      refine (Tile.qn6_apply r e _ _ _ _ _ _ (Tile.high_apply r (grid0.coords t)) (Tile.low_apply r (grid0.coords t))).trans ?_
      rw [queries_at, head_congr e (fun k => column_block m c t r (column 0 1024 (by decide) (at8 6 k)) _ fun d => ld_qn (iblk m c 2 t) d (at8 6 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 5 e := by
        apply Fin.ext
        simp only [at8]
        change d.val = 640 + e.val at hx2
        change d.val = 5 * 128 + e.val
        omega
      refine (Tile.qn5_apply r e _ _ _ _ _ _ (Tile.high_apply r (grid0.coords t)) (Tile.low_apply r (grid0.coords t))).trans ?_
      rw [queries_at, head_congr e (fun k => column_block m c t r (column 0 1024 (by decide) (at8 5 k)) _ fun d => ld_qn (iblk m c 2 t) d (at8 5 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 4 e := by
        apply Fin.ext
        simp only [at8]
        change d.val = 512 + e.val at hx2
        change d.val = 4 * 128 + e.val
        omega
      refine (Tile.qn4_apply r e _ _ _ _ _ _ (Tile.high_apply r (grid0.coords t)) (Tile.low_apply r (grid0.coords t))).trans ?_
      rw [queries_at, head_congr e (fun k => column_block m c t r (column 0 1024 (by decide) (at8 4 k)) _ fun d => ld_qn (iblk m c 2 t) d (at8 4 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 3 e := by
        apply Fin.ext
        simp only [at8]
        change d.val = 384 + e.val at hx2
        change d.val = 3 * 128 + e.val
        omega
      refine (Tile.qn3_apply r e _ _ _ _ _ _ (Tile.high_apply r (grid0.coords t)) (Tile.low_apply r (grid0.coords t))).trans ?_
      rw [queries_at, head_congr e (fun k => column_block m c t r (column 0 1024 (by decide) (at8 3 k)) _ fun d => ld_qn (iblk m c 2 t) d (at8 3 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 2 e := by
        apply Fin.ext
        simp only [at8]
        change d.val = 256 + e.val at hx2
        change d.val = 2 * 128 + e.val
        omega
      refine (Tile.qn2_apply r e _ _ _ _ _ _ (Tile.high_apply r (grid0.coords t)) (Tile.low_apply r (grid0.coords t))).trans ?_
      rw [queries_at, head_congr e (fun k => column_block m c t r (column 0 1024 (by decide) (at8 2 k)) _ fun d => ld_qn (iblk m c 2 t) d (at8 2 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 1 e := by
        apply Fin.ext
        simp only [at8]
        change d.val = 128 + e.val at hx2
        change d.val = 1 * 128 + e.val
        omega
      refine (Tile.qn1_apply r e _ _ _ _ _ _ (Tile.high_apply r (grid0.coords t)) (Tile.low_apply r (grid0.coords t))).trans ?_
      rw [queries_at, head_congr e (fun k => column_block m c t r (column 0 1024 (by decide) (at8 1 k)) _ fun d => ld_qn (iblk m c 2 t) d (at8 1 k)) (fun k => congrArg (· * _) (gain_0 m c t k)), coord_row]
    · obtain ⟨r', e, rfl⟩ : ∃ (r' : Fin 256) (e : Fin 128), x = ix3 0 r' e := ⟨x 1, x 2, by idx_vars x; blk_ext⟩
      obtain rfl : r = r' := Fin.ext hx1
      obtain rfl : d = at8 0 e := by
        apply Fin.ext
        simp only [at8]
        change d.val = e.val at hx2
        change d.val = 0 * 128 + e.val
        omega
      refine (Tile.qn0_apply r e _ _ _ _ _ _ (Tile.high_apply r (grid0.coords t)) (Tile.low_apply r (grid0.coords t))).trans ?_
      rw [queries_at, head_congr e (fun k => column_block m c t r (column 0 1024 (by decide) (at8 0 k)) _ fun d => ld_qn (iblk m c 2 t) d (at8 0 k)) (fun k => congrArg (· * _) (gain_0 m c t k)), coord_row]

theorem qn_final : (dats m 0 c).arrAt 7 cfg0.N = queries (X m c) (G m c) (W m c) (N m c) := by
  refine (dats m 0 c).arrAt_eq_of_covers 7 (queries (X m c) (G m c) (W m c) (N m c)) (by decide +kernel) fun t _ y => ?_
  blk_simp
  rw [after0_7]
  obtain ⟨r, d, rfl⟩ : ∃ (r : Fin 256) (d : Fin 1024), y = ix3 0 r d := by
    exact ⟨y 1, y 2, by idx_vars y; blk_ext⟩
  refine (qn_block m c t r d).trans ?_
  rw [show (win0_7.blk t).view.emb (ix3 0 r d) = ix3 (seq t) (row t r) d from emb_7 t r d]

end Cert.ProjIdeal.Block
end
-- ==== Proof.ProjGated.lean ====
/- The input projection's gated heads: the forget gates' running sums and the results that carry them. -/
module

public import proofs.«01_k».proof.Proof.ProjHead

@[expose] public section

set_option maxRecDepth 16384

noncomputable section

open Idealize.ShloMosaic Idealize.ShloMosaic.TcCoe Idealize.SL.Sem

namespace Cert.ProjScore

open Cert.ExpertsScore

/-- The logarithm of a gate's sigmoid, from its logit. -/
def gateLog (m : EReal) : EReal := -(max (-m) 0 + Ideal.log1p (Ideal.exp (-(max m (-m)))))

/-- Whether a lane holds a copy of a forget gate. -/
def isForget (l : Fin 128) : BitVec 1 := IntOp.andi (IntOp.cmpi .sge (BitVec.ofNat 32 l.val) 24#32) (IntOp.cmpi .slt (BitVec.ofNat 32 l.val) 48#32)

/-- The portion of a running sum a lane holds: the sum, what its rounding leaves, and what is left after that. -/
def portion (s : EReal) (l : Fin 128) : EReal :=
  Scalar.select (isForget l)
    (Scalar.select (IntOp.cmpi .slt (BitVec.ofNat 32 l.val) 32#32) s
      (Scalar.select (IntOp.cmpi .slt (BitVec.ofNat 32 l.val) 40#32) (s - s) (s - s - (s - s)))) 0

/-- The lanes from `a` to `c` that hold one. -/
def ones (a c : BitVec 32) (e : Fin 128) : EReal :=
  Scalar.select (IntOp.andi (IntOp.cmpi .sge (BitVec.ofNat 32 e.val) a) (IntOp.cmpi .slt (BitVec.ofNat 32 e.val) c)) 1 0

/-- The shape of the placements. -/
abbrev SP : Shape := ⟨2, ![128, 1024]⟩

section
variable (X : SX.Idx → EReal) (G : SG.Idx → EReal) (W : SW.Idx → EReal) (N : SN.Idx → EReal) (B : SB.Idx → EReal) (P : SP.Idx → EReal)

/-- The logarithm of lane `l`'s forget gate at token `i` of sequence `b`, and its sum up to token `i`. -/
def forget (b : Fin 32) (i : Fin 2048) (l : Fin 128) : EReal :=
  Scalar.select (isForget l) (gateLog (at_ X G W b i (column 5376 128 (by decide) l) + B (ix2 0 l))) 0
def total (b : Fin 32) (i : Fin 2048) (l : Fin 128) : EReal := ∑ j : Fin 2048, if j.val ≤ i.val then forget X G W B b j l else 0

/-- The queries of the gated attention. -/
def gatedQueries : (SR 1024).Idx → EReal := fun j =>
  headNorm (fun k => at_ X G W (j 0) (j 1) (column 2304 1024 (by decide) (at8 (head8 (j 2)) k))) (fun k => N (ix2 3 k) * Ideal.ofBits .f32 0x3E000000#32) (lane8 (j 2))
    + (∑ l : Fin 128, portion (total X G W B (j 0) (j 1) l) l * P (ix2 l (j 2))) + ones 67#32 70#32 (lane8 (j 2))

/-- The keys of the gated attention. -/
def gatedKeys : (SR 1024).Idx → EReal := fun j =>
  headNorm (fun k => at_ X G W (j 0) (j 1) (column 3328 1024 (by decide) (at8 (head8 (j 2)) k))) (fun k => N (ix2 4 k)) (lane8 (j 2))
    + (∑ l : Fin 128, portion (total X G W B (j 0) (j 1) l) l * P (ix2 l (j 2))) + ones 64#32 67#32 (lane8 (j 2))

theorem gatedQueries_at (b : Fin 32) (i : Fin 2048) (h : Fin 8) (e : Fin 128) : gatedQueries X G W N B P (ix3 b i (at8 h e))
    = headNorm (fun k => at_ X G W b i (column 2304 1024 (by decide) (at8 h k))) (fun k => N (ix2 3 k) * Ideal.ofBits .f32 0x3E000000#32) e
      + (∑ l : Fin 128, portion (total X G W B b i l) l * P (ix2 l (at8 h e))) + ones 67#32 70#32 e := by
  show headNorm (fun k => at_ X G W b i (column 2304 1024 (by decide) (at8 (head8 (at8 h e)) k))) _ (lane8 (at8 h e)) + _ + ones _ _ (lane8 (at8 h e)) = _
  rw [head8_at, lane8_at]
  rfl

theorem gatedKeys_at (b : Fin 32) (i : Fin 2048) (h : Fin 8) (e : Fin 128) : gatedKeys X G W N B P (ix3 b i (at8 h e))
    = headNorm (fun k => at_ X G W b i (column 3328 1024 (by decide) (at8 h k))) (fun k => N (ix2 4 k)) e
      + (∑ l : Fin 128, portion (total X G W B b i l) l * P (ix2 l (at8 h e))) + ones 64#32 67#32 e := by
  show headNorm (fun k => at_ X G W b i (column 3328 1024 (by decide) (at8 (head8 (at8 h e)) k))) _ (lane8 (at8 h e)) + _ + ones _ _ (lane8 (at8 h e)) = _
  rw [head8_at, lane8_at]
  rfl

end

/-- The logarithm of a gate is never above zero. -/
theorem log1p_exp_nonneg (x : EReal) : 0 ≤ Ideal.log1p (Ideal.exp x) := by
  induction x with
  | bot =>
    show (0 : EReal) ≤ Ideal.log (1 + 0)
    rw [add_zero]
    show (0 : EReal) ≤ if (1 : ℝ) ≤ 0 then ⊥ else ((Real.log 1 : ℝ) : EReal)
    rw [if_neg (by norm_num), Real.log_one]
    rfl
  | top =>
    show (0 : EReal) ≤ Ideal.log (1 + ⊤)
    exact le_top
  | coe r =>
    have h : (1 : EReal) + (Real.exp r : EReal) = ((1 + Real.exp r : ℝ) : EReal) := by rw [EReal.coe_add]; rfl
    have p := Real.exp_pos r
    show (0 : EReal) ≤ Ideal.log (1 + (Real.exp r : EReal))
    rw [h]
    show (0 : EReal) ≤ if 1 + Real.exp r ≤ 0 then ⊥ else ((Real.log (1 + Real.exp r) : ℝ) : EReal)
    rw [if_neg (by linarith)]
    exact_mod_cast Real.log_nonneg (by linarith)

theorem gateLog_ne_top (m : EReal) : gateLog m ≠ ⊤ := by
  intro h
  have h0 : (0 : EReal) ≤ max (-m) 0 + Ideal.log1p (Ideal.exp (-(max m (-m)))) := add_nonneg (le_max_right _ _) (log1p_exp_nonneg _)
  rw [gateLog, EReal.neg_eq_top_iff] at h
  rw [h] at h0
  exact absurd h0 (by simp)

/-- Splitting each term of a sum of zeros and ones times gates into itself and remainders changes nothing. -/
theorem split_sum {n : Nat} (t f : Fin n → EReal) (ht : ∀ k, t k = 0 ∨ t k = 1) (hf : ∀ k, f k ≠ ⊤) :
    (∑ k, t k * f k) + (∑ k, t k * (f k - f k)) + (∑ k, t k * (f k - f k - (f k - f k))) = ∑ k, t k * f k := by
  rw [← Finset.sum_add_distrib, ← Finset.sum_add_distrib]
  refine Finset.sum_congr rfl fun k _ => ?_
  obtain h | h := ht k
  · simp [h]
  · rw [h]
    have := hf k
    generalize f k = x at this
    induction x with
    | bot => simp
    | top => exact absurd rfl this
    | coe r => simp

/-- A sum up to a token is its tile's part and the part of the tiles before. -/
theorem prefix_tile (f : Fin 2048 → EReal) (q : Nat) (hq : q < 8) (r : Fin 256) :
    (∑ j : Fin 2048, if j.val ≤ q * 256 + r.val then f j else 0)
      = (∑ k : Fin 256, if k.val ≤ r.val then f ⟨q * 256 + k.val, by omega⟩ else 0) + ∑ j : Fin 2048, if j.val < q * 256 then f j else 0 := by
  have e : (∑ k : Fin 256, if k.val ≤ r.val then f ⟨q * 256 + k.val, by omega⟩ else 0)
      = ∑ j : Fin 2048, if q * 256 ≤ j.val ∧ j.val ≤ q * 256 + r.val then f j else 0 := by
    refine Finset.sum_of_injOn (fun k : Fin 256 => (⟨q * 256 + k.val, by omega⟩ : Fin 2048)) ?_ ?_ ?_ ?_
    · intro a _ b _ h
      have := congrArg Fin.val h
      simp only at this
      exact Fin.ext (by omega)
    · intro a _
      simp
    · intro j _ hj
      rw [if_neg]
      rintro ⟨h1, h2⟩
      exact hj ⟨⟨j.val - q * 256, by omega⟩, by simp, Fin.ext (by show q * 256 + (j.val - q * 256) = j.val; omega)⟩
    · intro k _
      exact if_congr ⟨fun h => ⟨by simp, by simpa using h⟩, fun h => by simpa using h.2⟩ rfl rfl
  rw [e, ← Finset.sum_add_distrib]
  refine Finset.sum_congr rfl fun j _ => ?_
  by_cases h : j.val < q * 256
  · rw [if_pos (by omega), if_neg (by omega), if_pos h, zero_add]
  · rw [if_neg h, add_zero]
    exact if_congr ⟨fun h' => ⟨by omega, h'⟩, fun h' => h'.2⟩ rfl rfl

end Cert.ProjScore
end
-- ==== Proof.ProjGatedTile.lean ====
/- The input projection's gated heads: what a tile's payloads are at one place. -/
module

public import proofs.«01_k».proof.Proof.FoxWords
public import proofs.«01_k».proof.Proof.ProjTile
public import proofs.«01_k».proof.Proof.ProjGated

@[expose] public section

set_option maxRecDepth 16384

noncomputable section

open Idealize.ShloMosaic Idealize.ShloMosaic.TcCoe Idealize.SL.Sem

namespace Cert.ProjIdeal.Tile

open Cert.ProjIdeal Cert.ProjIdeal.Gen Cert.ExpertsScore Cert.ProjScore

variable (r : Fin 256) (e : Fin 128)

/-- A tile's lower triangle of ones. -/
theorem tri_apply (k : Fin 256) : k0_pay71 (F := Ideal) (ix2 r k) = if k.val ≤ r.val then 1 else 0 := by
  rw [← FoxWords.sel_ge r.val k.val (by omega) (by omega), ← bit_eq]
  pointwise [k0_pay71]

/-- A tile's gates' logarithms. -/
theorem forget_apply (a : S256x1024.Idx → EReal) (v : S1024x128.Idx → EReal) (w : S1x128.Idx → EReal) :
    k0_pay69 (F := Ideal) (iota Kind.tc S1x128 32 [1] iota_S1x128_d1_w32) (k0_pay66 (F := Ideal) a v w) (ix2 r e)
      = Scalar.select (isForget e) (gateLog ((∑ k : Fin 1024, a (ix2 r k) * v (ix2 k e)) + w (ix2 0 e))) 0 := by
  generalize hs : (∑ k : Fin 1024, a (ix2 r k) * v (ix2 k e)) + w (ix2 0 e) = s
  have hm : k0_pay66 (F := Ideal) a v w (ix2 r e) = s := by
    rw [← hs]
    pointwise [k0_pay66]
  generalize k0_pay66 (F := Ideal) a v w = q at hm
  pointwise [k0_pay69, k0_pay68, isForget, hm]
  simp only [ne_eq, not_true, if_false, zero_sub, Ideal.absf_def, gateLog, neg_neg, max_comm]

/-- The running sums of a tile whose gates are `f` and whose carry is `g`. -/
theorem run_apply (f : S256x128.Idx → EReal) (g : S1x128.Idx → EReal) (hf : ∀ k, f (ix2 k e) ≠ ⊤) :
    k0_pay72 (F := Ideal) f (k0_pay71 (F := Ideal)) g (ix2 r e) = (∑ k : Fin 256, if k.val ≤ r.val then f (ix2 k e) else 0) + g (ix2 0 e) := by
  have ht (k : Fin 256) := tri_apply r k
  generalize k0_pay71 (F := Ideal) = t at ht
  have e1 : (∑ k : Fin 256, if k.val ≤ r.val then f (ix2 k e) else 0) = ∑ k : Fin 256, t (ix2 r k) * f (ix2 k e) :=
    Finset.sum_congr rfl fun k _ => by
      rw [ht]
      split <;> simp
  rw [e1, ← split_sum (fun k => t (ix2 r k)) (fun k => f (ix2 k e)) (fun k => by
    show t (ix2 r k) = 0 ∨ t (ix2 r k) = 1
    rw [ht]
    split <;> simp) hf]
  pointwise [k0_pay72]

theorem carry_apply (f : S256x128.Idx → EReal) (t : S256x256.Idx → EReal) (g : S1x128.Idx → EReal) :
    k0_pay73 (F := Ideal) f t g (ix2 0 e) = k0_pay72 (F := Ideal) f t g (ix2 255 e) := by
  pointwise [k0_pay73]

theorem zero_apply : k0_pay70 (F := Ideal) (ix2 0 e) = 0 := by
  pointwise [k0_pay70]

/-- The pieces of a tile's running sums. -/
theorem pieces_apply (f : S256x128.Idx → EReal) (t : S256x256.Idx → EReal) (g : S1x128.Idx → EReal) (s : EReal) (hs : k0_pay72 (F := Ideal) f t g (ix2 r e) = s) :
    k0_pay74 (F := Ideal) (iota Kind.tc S1x128 32 [1] iota_S1x128_d1_w32) (k0_pay68 (iota Kind.tc S1x128 32 [1] iota_S1x128_d1_w32)) f t g (ix2 r e) = portion s e := by
  subst hs
  generalize hq : k0_pay72 (F := Ideal) f t g = q
  pointwise [k0_pay74, k0_pay68, hq, portion, isForget]

theorem ones_q_apply : k0_pay77 (F := Ideal) (iota Kind.tc S1x128 32 [1] iota_S1x128_d1_w32) (ix2 0 e) = ones 67#32 70#32 e := by
  rw [ones, ← bit_eq]
  pointwise [k0_pay77]

theorem ones_k_apply : k0_pay76 (F := Ideal) (k0_pay75 (iota Kind.tc S1x128 32 [1] iota_S1x128_d1_w32)) (ix2 0 e) = ones 64#32 67#32 e := by
  rw [ones, ← bit_eq]
  pointwise [k0_pay76, k0_pay75]

theorem qf0_apply (n : S256x1024.Idx → EReal) (p : S256x128.Idx → EReal) (v : S1024x1024.Idx → EReal) (u : S128x1024.Idx → EReal) (w : S1x128.Idx → EReal) :
    k0_pay81 (F := Ideal) n (iota Kind.tc S1x128 32 [1] iota_S1x128_d1_w32) p v u w (ix3 0 r e)
      = headNorm (fun k => ∑ d : Fin 1024, n (ix2 r d) * v (ix2 d (at8 0 k))) (fun k => w (ix2 0 k) * Ideal.ofBits .f32 0x3E000000#32) e
        + (∑ x : Fin 128, p (ix2 r x) * u (ix2 x (at8 0 e))) + ones 67#32 70#32 e := by
  rw [ones, ← bit_eq]
  pointwise [k0_pay81, k0_pay77, k0_pay78, k0_pay79, k0_pay80, headNorm, at8]

theorem qf1_apply (n : S256x1024.Idx → EReal) (p : S256x128.Idx → EReal) (v : S1024x1024.Idx → EReal) (u : S128x1024.Idx → EReal) (w : S1x128.Idx → EReal) :
    k0_pay84 (F := Ideal) (k0_pay77 (F := Ideal) (iota Kind.tc S1x128 32 [1] iota_S1x128_d1_w32)) (k0_pay79 (F := Ideal) p u) (k0_pay80 (F := Ideal) w) (k0_pay82 (F := Ideal) n v) (k0_pay83 (F := Ideal) n v) (FloatOps.ofBits (F := Ideal) FTy.f32 1015021568#32) (ix3 0 r e)
      = headNorm (fun k => ∑ d : Fin 1024, n (ix2 r d) * v (ix2 d (at8 1 k))) (fun k => w (ix2 0 k) * Ideal.ofBits .f32 0x3E000000#32) e
        + (∑ x : Fin 128, p (ix2 r x) * u (ix2 x (at8 1 e))) + ones 67#32 70#32 e := by
  rw [ones, ← bit_eq]
  pointwise [k0_pay84, k0_pay78, k0_pay79, k0_pay80, k0_pay82, k0_pay83, k0_pay77, headNorm, at8]

theorem qf2_apply (n : S256x1024.Idx → EReal) (p : S256x128.Idx → EReal) (v : S1024x1024.Idx → EReal) (u : S128x1024.Idx → EReal) (w : S1x128.Idx → EReal) :
    k0_pay85 (F := Ideal) (k0_pay77 (F := Ideal) (iota Kind.tc S1x128 32 [1] iota_S1x128_d1_w32)) (k0_pay78 (F := Ideal) n v) (k0_pay79 (F := Ideal) p u) (k0_pay80 (F := Ideal) w) (ix3 0 r e)
      = headNorm (fun k => ∑ d : Fin 1024, n (ix2 r d) * v (ix2 d (at8 2 k))) (fun k => w (ix2 0 k) * Ideal.ofBits .f32 0x3E000000#32) e
        + (∑ x : Fin 128, p (ix2 r x) * u (ix2 x (at8 2 e))) + ones 67#32 70#32 e := by
  rw [ones, ← bit_eq]
  pointwise [k0_pay85, k0_pay78, k0_pay79, k0_pay80, k0_pay77, headNorm, at8]

theorem qf3_apply (n : S256x1024.Idx → EReal) (p : S256x128.Idx → EReal) (v : S1024x1024.Idx → EReal) (u : S128x1024.Idx → EReal) (w : S1x128.Idx → EReal) :
    k0_pay89 (F := Ideal) (k0_pay77 (F := Ideal) (iota Kind.tc S1x128 32 [1] iota_S1x128_d1_w32)) (k0_pay79 (F := Ideal) p u) (k0_pay80 (F := Ideal) w) (k0_pay86 (F := Ideal) (k0_pay78 (F := Ideal) n v)) (k0_pay87 (F := Ideal) (k0_pay78 (F := Ideal) n v)) (k0_pay88 (F := Ideal)) (ix3 0 r e)
      = headNorm (fun k => ∑ d : Fin 1024, n (ix2 r d) * v (ix2 d (at8 3 k))) (fun k => w (ix2 0 k) * Ideal.ofBits .f32 0x3E000000#32) e
        + (∑ x : Fin 128, p (ix2 r x) * u (ix2 x (at8 3 e))) + ones 67#32 70#32 e := by
  rw [ones, ← bit_eq]
  pointwise [k0_pay89, k0_pay78, k0_pay79, k0_pay80, k0_pay86, k0_pay87, k0_pay88, k0_pay77, headNorm, at8]

theorem qf4_apply (n : S256x1024.Idx → EReal) (p : S256x128.Idx → EReal) (v : S1024x1024.Idx → EReal) (u : S128x1024.Idx → EReal) (w : S1x128.Idx → EReal) :
    k0_pay90 (F := Ideal) (k0_pay77 (F := Ideal) (iota Kind.tc S1x128 32 [1] iota_S1x128_d1_w32)) (k0_pay78 (F := Ideal) n v) (k0_pay79 (F := Ideal) p u) (k0_pay80 (F := Ideal) w) (ix3 0 r e)
      = headNorm (fun k => ∑ d : Fin 1024, n (ix2 r d) * v (ix2 d (at8 4 k))) (fun k => w (ix2 0 k) * Ideal.ofBits .f32 0x3E000000#32) e
        + (∑ x : Fin 128, p (ix2 r x) * u (ix2 x (at8 4 e))) + ones 67#32 70#32 e := by
  rw [ones, ← bit_eq]
  pointwise [k0_pay90, k0_pay78, k0_pay79, k0_pay80, k0_pay77, headNorm, at8]

theorem qf5_apply (n : S256x1024.Idx → EReal) (p : S256x128.Idx → EReal) (v : S1024x1024.Idx → EReal) (u : S128x1024.Idx → EReal) (w : S1x128.Idx → EReal) :
    k0_pay92 (F := Ideal) (k0_pay77 (F := Ideal) (iota Kind.tc S1x128 32 [1] iota_S1x128_d1_w32)) (k0_pay79 (F := Ideal) p u) (k0_pay80 (F := Ideal) w) (k0_pay91 (F := Ideal) (k0_pay78 (F := Ideal) n v)) (ix3 0 r e)
      = headNorm (fun k => ∑ d : Fin 1024, n (ix2 r d) * v (ix2 d (at8 5 k))) (fun k => w (ix2 0 k) * Ideal.ofBits .f32 0x3E000000#32) e
        + (∑ x : Fin 128, p (ix2 r x) * u (ix2 x (at8 5 e))) + ones 67#32 70#32 e := by
  rw [ones, ← bit_eq]
  pointwise [k0_pay92, k0_pay78, k0_pay79, k0_pay80, k0_pay91, k0_pay77, headNorm, at8]

theorem qf6_apply (n : S256x1024.Idx → EReal) (p : S256x128.Idx → EReal) (v : S1024x1024.Idx → EReal) (u : S128x1024.Idx → EReal) (w : S1x128.Idx → EReal) :
    k0_pay93 (F := Ideal) (k0_pay77 (F := Ideal) (iota Kind.tc S1x128 32 [1] iota_S1x128_d1_w32)) (k0_pay78 (F := Ideal) n v) (k0_pay79 (F := Ideal) p u) (k0_pay80 (F := Ideal) w) (ix3 0 r e)
      = headNorm (fun k => ∑ d : Fin 1024, n (ix2 r d) * v (ix2 d (at8 6 k))) (fun k => w (ix2 0 k) * Ideal.ofBits .f32 0x3E000000#32) e
        + (∑ x : Fin 128, p (ix2 r x) * u (ix2 x (at8 6 e))) + ones 67#32 70#32 e := by
  rw [ones, ← bit_eq]
  pointwise [k0_pay93, k0_pay78, k0_pay79, k0_pay80, k0_pay77, headNorm, at8]

theorem qf7_apply (n : S256x1024.Idx → EReal) (p : S256x128.Idx → EReal) (v : S1024x1024.Idx → EReal) (u : S128x1024.Idx → EReal) (w : S1x128.Idx → EReal) :
    k0_pay95 (F := Ideal) (k0_pay77 (F := Ideal) (iota Kind.tc S1x128 32 [1] iota_S1x128_d1_w32)) (k0_pay94 (F := Ideal) (k0_pay78 (F := Ideal) n v) (k0_pay79 (F := Ideal) p u) (k0_pay80 (F := Ideal) w)) (ix3 0 r e)
      = headNorm (fun k => ∑ d : Fin 1024, n (ix2 r d) * v (ix2 d (at8 7 k))) (fun k => w (ix2 0 k) * Ideal.ofBits .f32 0x3E000000#32) e
        + (∑ x : Fin 128, p (ix2 r x) * u (ix2 x (at8 7 e))) + ones 67#32 70#32 e := by
  rw [ones, ← bit_eq]
  pointwise [k0_pay95, k0_pay94, k0_pay78, k0_pay79, k0_pay80, k0_pay77, headNorm, at8]

theorem kf0_apply (n : S256x1024.Idx → EReal) (p : S256x128.Idx → EReal) (v : S1024x1024.Idx → EReal) (u : S128x1024.Idx → EReal) (w : S1x128.Idx → EReal) (o : S1x128.Idx → EReal) (ho : o (ix2 0 e) = ones 64#32 67#32 e) :
    k0_pay98 (F := Ideal) n p o v u w (ix3 0 r e)
      = headNorm (fun k => ∑ d : Fin 1024, n (ix2 r d) * v (ix2 d (at8 0 k))) (fun k => w (ix2 0 k)) e
        + (∑ x : Fin 128, p (ix2 r x) * u (ix2 x (at8 0 e))) + ones 64#32 67#32 e := by
  rw [← ho]
  pointwise [k0_pay98, k0_pay96, k0_pay97, headNorm, at8]

theorem kf1_apply (n : S256x1024.Idx → EReal) (p : S256x128.Idx → EReal) (v : S1024x1024.Idx → EReal) (u : S128x1024.Idx → EReal) (w : S1x128.Idx → EReal) (o : S1x128.Idx → EReal) (ho : o (ix2 0 e) = ones 64#32 67#32 e) :
    k0_pay101 (F := Ideal) o (k0_pay97 (F := Ideal) p u) (k0_pay99 (F := Ideal) n v) w (k0_pay100 (F := Ideal) n v) (FloatOps.ofBits (F := Ideal) FTy.f32 1015021568#32) (ix3 0 r e)
      = headNorm (fun k => ∑ d : Fin 1024, n (ix2 r d) * v (ix2 d (at8 1 k))) (fun k => w (ix2 0 k)) e
        + (∑ x : Fin 128, p (ix2 r x) * u (ix2 x (at8 1 e))) + ones 64#32 67#32 e := by
  rw [← ho]
  pointwise [k0_pay101, k0_pay96, k0_pay97, k0_pay99, k0_pay100, headNorm, at8]

theorem kf2_apply (n : S256x1024.Idx → EReal) (p : S256x128.Idx → EReal) (v : S1024x1024.Idx → EReal) (u : S128x1024.Idx → EReal) (w : S1x128.Idx → EReal) (o : S1x128.Idx → EReal) (ho : o (ix2 0 e) = ones 64#32 67#32 e) :
    k0_pay102 (F := Ideal) o (k0_pay96 (F := Ideal) n v) (k0_pay97 (F := Ideal) p u) w (ix3 0 r e)
      = headNorm (fun k => ∑ d : Fin 1024, n (ix2 r d) * v (ix2 d (at8 2 k))) (fun k => w (ix2 0 k)) e
        + (∑ x : Fin 128, p (ix2 r x) * u (ix2 x (at8 2 e))) + ones 64#32 67#32 e := by
  rw [← ho]
  pointwise [k0_pay102, k0_pay96, k0_pay97, headNorm, at8]

theorem kf3_apply (n : S256x1024.Idx → EReal) (p : S256x128.Idx → EReal) (v : S1024x1024.Idx → EReal) (u : S128x1024.Idx → EReal) (w : S1x128.Idx → EReal) (o : S1x128.Idx → EReal) (ho : o (ix2 0 e) = ones 64#32 67#32 e) :
    k0_pay105 (F := Ideal) o (k0_pay97 (F := Ideal) p u) (k0_pay103 (F := Ideal) (k0_pay96 (F := Ideal) n v)) w (k0_pay104 (F := Ideal) (k0_pay96 (F := Ideal) n v)) (ix3 0 r e)
      = headNorm (fun k => ∑ d : Fin 1024, n (ix2 r d) * v (ix2 d (at8 3 k))) (fun k => w (ix2 0 k)) e
        + (∑ x : Fin 128, p (ix2 r x) * u (ix2 x (at8 3 e))) + ones 64#32 67#32 e := by
  rw [← ho]
  pointwise [k0_pay105, k0_pay96, k0_pay97, k0_pay103, k0_pay104, headNorm, at8]

theorem kf4_apply (n : S256x1024.Idx → EReal) (p : S256x128.Idx → EReal) (v : S1024x1024.Idx → EReal) (u : S128x1024.Idx → EReal) (w : S1x128.Idx → EReal) (o : S1x128.Idx → EReal) (ho : o (ix2 0 e) = ones 64#32 67#32 e) :
    k0_pay106 (F := Ideal) o (k0_pay96 (F := Ideal) n v) (k0_pay97 (F := Ideal) p u) w (ix3 0 r e)
      = headNorm (fun k => ∑ d : Fin 1024, n (ix2 r d) * v (ix2 d (at8 4 k))) (fun k => w (ix2 0 k)) e
        + (∑ x : Fin 128, p (ix2 r x) * u (ix2 x (at8 4 e))) + ones 64#32 67#32 e := by
  rw [← ho]
  pointwise [k0_pay106, k0_pay96, k0_pay97, headNorm, at8]

theorem kf5_apply (n : S256x1024.Idx → EReal) (p : S256x128.Idx → EReal) (v : S1024x1024.Idx → EReal) (u : S128x1024.Idx → EReal) (w : S1x128.Idx → EReal) (o : S1x128.Idx → EReal) (ho : o (ix2 0 e) = ones 64#32 67#32 e) :
    k0_pay109 (F := Ideal) o (k0_pay97 (F := Ideal) p u) (k0_pay107 (F := Ideal) (k0_pay96 (F := Ideal) n v)) w (k0_pay108 (F := Ideal) (k0_pay96 (F := Ideal) n v)) (ix3 0 r e)
      = headNorm (fun k => ∑ d : Fin 1024, n (ix2 r d) * v (ix2 d (at8 5 k))) (fun k => w (ix2 0 k)) e
        + (∑ x : Fin 128, p (ix2 r x) * u (ix2 x (at8 5 e))) + ones 64#32 67#32 e := by
  rw [← ho]
  pointwise [k0_pay109, k0_pay96, k0_pay97, k0_pay107, k0_pay108, headNorm, at8]

theorem kf6_apply (n : S256x1024.Idx → EReal) (p : S256x128.Idx → EReal) (v : S1024x1024.Idx → EReal) (u : S128x1024.Idx → EReal) (w : S1x128.Idx → EReal) (o : S1x128.Idx → EReal) (ho : o (ix2 0 e) = ones 64#32 67#32 e) :
    k0_pay110 (F := Ideal) o (k0_pay96 (F := Ideal) n v) (k0_pay97 (F := Ideal) p u) w (ix3 0 r e)
      = headNorm (fun k => ∑ d : Fin 1024, n (ix2 r d) * v (ix2 d (at8 6 k))) (fun k => w (ix2 0 k)) e
        + (∑ x : Fin 128, p (ix2 r x) * u (ix2 x (at8 6 e))) + ones 64#32 67#32 e := by
  rw [← ho]
  pointwise [k0_pay110, k0_pay96, k0_pay97, headNorm, at8]

theorem kf7_apply (n : S256x1024.Idx → EReal) (p : S256x128.Idx → EReal) (v : S1024x1024.Idx → EReal) (u : S128x1024.Idx → EReal) (w : S1x128.Idx → EReal) (o : S1x128.Idx → EReal) (ho : o (ix2 0 e) = ones 64#32 67#32 e) :
    k0_pay112 (F := Ideal) o (k0_pay97 (F := Ideal) p u) (k0_pay111 (F := Ideal) (k0_pay96 (F := Ideal) n v)) w (ix3 0 r e)
      = headNorm (fun k => ∑ d : Fin 1024, n (ix2 r d) * v (ix2 d (at8 7 k))) (fun k => w (ix2 0 k)) e
        + (∑ x : Fin 128, p (ix2 r x) * u (ix2 x (at8 7 e))) + ones 64#32 67#32 e := by
  rw [← ho]
  pointwise [k0_pay112, k0_pay96, k0_pay97, k0_pay111, headNorm, at8]

end Cert.ProjIdeal.Tile
end
-- ==== Proof.ProjGatedBlock.lean ====
/- The input projection's gated heads: what each tile carries and stores, and the whole results. -/
module

public import proofs.«01_k».proof.Proof.ProjHeadBlock
public import proofs.«01_k».proof.Proof.ProjGatedTile

@[expose] public section

set_option maxRecDepth 16384

noncomputable section

open Idealize.ShloMosaic Idealize.ShloMosaic.TcCoe Idealize.SL.Sem

namespace Cert.ProjIdeal.Block

open Cert.ProjIdeal Cert.ProjIdeal.Gen Cert.ExpertsScore Cert.ProjScore

variable (m : (ℓ : Loc nD τ sig) → Buf (Elt Ideal) ℓ) (c : Dev nD)

theorem idx'' : ∀ t : Fin cfg0.N, win0_5.index t = ![0, 0] ∧ win0_6.index t = ![0, 0]
    ∧ win0_14.index t = ![t.val / 8, t.val % 8, 0] ∧ win0_15.index t = ![t.val / 8, t.val % 8, 0] := by
  decide +kernel

theorem emb_14 (t : Fin cfg0.N) (r : Fin 256) (k : Fin 1024) : ((win0_14.blk t).view.emb (ix3 0 r k) : S32x2048x1024.Idx) = ix3 (seq t) (row t r) k := by
  blk_ext [idx'' t] <;> rfl

theorem emb_15 (t : Fin cfg0.N) (r : Fin 256) (k : Fin 1024) : ((win0_15.blk t).view.emb (ix3 0 r k) : S32x2048x1024.Idx) = ix3 (seq t) (row t r) k := by
  blk_ext [idx'' t] <;> rfl

theorem emb_5 (t : Fin cfg0.N) (i : Fin 128) (k : Fin 1024) : ((win0_5.blk t).view.emb (ix2 i k) : S128x1024.Idx) = ix2 i k := by
  blk_ext [idx'' t]

theorem read_5 (t : Fin cfg0.N) (i : Fin 128) (k : Fin 1024) : (iblk m c 5 t : S128x1024.Idx → EReal) (ix2 i k)
    = (m ((c.tc : Thread nD τ).loc main_arg5) : S128x1024.Idx → EReal) (ix2 i k) :=
  (congrArg (V m c main_arg5 : S128x1024.Idx → EReal) (emb_5 t i k)).trans (congrFun (V_main_arg5 m c) _)

theorem emb_6 (t : Fin cfg0.N) (i : Fin 128) (k : Fin 1024) : ((win0_6.blk t).view.emb (ix2 i k) : S128x1024.Idx) = ix2 i k := by
  blk_ext [idx'' t]

theorem read_6 (t : Fin cfg0.N) (i : Fin 128) (k : Fin 1024) : (iblk m c 6 t : S128x1024.Idx → EReal) (ix2 i k)
    = (m ((c.tc : Thread nD τ).loc main_arg6) : S128x1024.Idx → EReal) (ix2 i k) :=
  (congrArg (V m c main_arg6 : S128x1024.Idx → EReal) (emb_6 t i k)).trans (congrFun (V_main_arg6 m c) _)

theorem ld_qf (w : S1024x5504.Idx → EReal) (k : Fin 1024) (d : Fin 1024) :
    @View.ld (Elt Ideal) S1024x5504 .bf16 w (Rect.unit (s := S1024x5504) ![0, 2304] ![1024, 1024] inb_S1024x5504_S1024x1024_0_2304) (ix2 k d) = w (ix2 k (column 2304 1024 (by decide) d)) := by
  pointwise [column]

theorem ld_kf (w : S1024x5504.Idx → EReal) (k : Fin 1024) (d : Fin 1024) :
    @View.ld (Elt Ideal) S1024x5504 .bf16 w (Rect.unit (s := S1024x5504) ![0, 3328] ![1024, 1024] inb_S1024x5504_S1024x1024_0_3328) (ix2 k d) = w (ix2 k (column 3328 1024 (by decide) d)) := by
  pointwise [column]

theorem gain_3 (t : Fin cfg0.N) (k : Fin 128) :
    @View.ld (Elt Ideal) S8x128 .f32 (iblk m c 3 t) (Rect.unit (s := S8x128) ![3, 0] ![1, 128] inb_S8x128_S1x128_3_0) (ix2 0 k)
      = (m ((c.tc : Thread nD τ).loc main_arg3) : S8x128.Idx → EReal) (ix2 3 k) := by
  rw [← read_3 m c t 3 k]
  generalize (iblk m c 3 t : S8x128.Idx → EReal) = w
  pointwise

theorem gain_4 (t : Fin cfg0.N) (k : Fin 128) :
    @View.ld (Elt Ideal) S8x128 .f32 (iblk m c 3 t) (Rect.unit (s := S8x128) ![4, 0] ![1, 128] inb_S8x128_S1x128_4_0) (ix2 0 k)
      = (m ((c.tc : Thread nD τ).loc main_arg3) : S8x128.Idx → EReal) (ix2 4 k) := by
  rw [← read_3 m c t 4 k]
  generalize (iblk m c 3 t : S8x128.Idx → EReal) = w
  pointwise

abbrev P : S128x1024.Idx → EReal := m ((c.tc : Thread nD τ).loc main_arg5)
abbrev Q : S128x1024.Idx → EReal := m ((c.tc : Thread nD τ).loc main_arg6)

/-- The logarithms of a tile's gates. -/
abbrev logs (t : Fin cfg0.N) : S256x128.Idx → EReal := k0_pay69 (F := Ideal) (iota Kind.tc S1x128 32 [1] iota_S1x128_d1_w32)
  (k0_pay66 (F := Ideal) (rows m c t) (@View.ld (Elt Ideal) S1024x5504 .bf16 (iblk m c 2 t) (Rect.unit (s := S1024x5504) ![0, 5376] ![1024, 128] inb_S1024x5504_S1024x128_0_5376)) (iblk m c 4 t))

theorem logs_block (t : Fin cfg0.N) (r : Fin 256) (l : Fin 128) : logs m c t (ix2 r l) = forget (X m c) (G m c) (W m c) (B m c) (seq t) (row t r) l := by
  refine (Tile.forget_apply r l _ _ _).trans ?_
  rw [column_block m c t r (column 5376 128 (by decide) l) _ fun k => ld_misc (iblk m c 2 t) k l, read_4]
  rfl

theorem forget_ne_top (b : Fin 32) (i : Fin 2048) (l : Fin 128) : forget (X m c) (G m c) (W m c) (B m c) b i l ≠ ⊤ := by
  unfold forget Scalar.select
  split
  · exact gateLog_ne_top _
  · exact EReal.zero_ne_top

/-- The sum of the gates before token `n`. -/
def before (b : Fin 32) (n : Nat) (l : Fin 128) : EReal := ∑ j : Fin 2048, if j.val < n then forget (X m c) (G m c) (W m c) (B m c) b j l else 0

/-- A tile's running sums, given the sum before it as carry. -/
theorem run_block (t : Fin cfg0.N) (g : S1x128.Idx → EReal) (r : Fin 256) (l : Fin 128) (hg : g (ix2 0 l) = before m c (seq t) (t.val % 8 * 256) l) :
    k0_pay72 (F := Ideal) (logs m c t) (k0_pay71 (F := Ideal)) g (ix2 r l) = total (X m c) (G m c) (W m c) (B m c) (seq t) (row t r) l := by
  rw [Tile.run_apply r l _ _ (fun k => by rw [logs_block]; exact forget_ne_top m c _ _ _), hg, before,
    Finset.sum_congr rfl fun k _ => by rw [logs_block m c t k l]]
  exact (prefix_tile (fun j => forget (X m c) (G m c) (W m c) (B m c) (seq t) j l) (t.val % 8) (Nat.mod_lt _ (by decide)) r).symm

theorem total_last (t : Fin cfg0.N) (l : Fin 128) : total (X m c) (G m c) (W m c) (B m c) (seq t) (row t 255) l = before m c (seq t) ((t.val % 8 + 1) * 256) l := by
  refine Finset.sum_congr rfl fun j _ => if_congr ?_ rfl rfl
  show j.val ≤ t.val % 8 * 256 + 255 ↔ _
  omega

/-- What a tile's carry holds after it. -/
abbrev carry (t : Fin cfg0.N) : S1x128.Idx → EReal := (outsAt0 (F := Ideal) m c t.val t.isLt).2.2.2.2.2.2.2.2.2.2.2

theorem before_zero (b : Fin 32) (l : Fin 128) : before m c b 0 l = 0 := by
  simp [before]

theorem carry_block (l : Fin 128) : ∀ (n : Nat) (hn : n < cfg0.N), carry m c ⟨n, hn⟩ (ix2 0 l) = before m c (seq ⟨n, hn⟩) ((n % 8 + 1) * 256) l := by
  intro n
  induction n with
  | zero =>
    intro hn
    rw [carry, outsAt0_A m c ⟨0, hn⟩ rfl]
    frame_out
    refine (Tile.carry_apply l _ _ _).trans ((run_block m c ⟨0, hn⟩ _ 255 l ?_).trans (total_last m c ⟨0, hn⟩ l))
    rw [Tile.zero_apply]
    exact (before_zero m c _ l).symm
  | succ k ih =>
    intro hn
    by_cases h : (k + 1) % 8 = 0
    · rw [carry, outsAt0_A m c ⟨k + 1, hn⟩ h]
      frame_out
      refine (Tile.carry_apply l _ _ _).trans ((run_block m c ⟨k + 1, hn⟩ _ 255 l ?_).trans (total_last m c ⟨k + 1, hn⟩ l))
      rw [Tile.zero_apply]
      show 0 = before m c _ ((k + 1) % 8 * 256) l
      rw [h, Nat.zero_mul, before_zero]
    · rw [carry, outsAt0_B m c ⟨k + 1, hn⟩ h]
      frame_out
      refine (Tile.carry_apply l _ _ _).trans ((run_block m c ⟨k + 1, hn⟩ _ 255 l ?_).trans (total_last m c ⟨k + 1, hn⟩ l))
      refine (congrFun (Memref.IsWhole.read_unread _ _) _).trans ?_
      refine (ih (by omega)).trans ?_
      have e : seq ⟨k, by omega⟩ = seq ⟨k + 1, hn⟩ := Fin.ext (by show k / 8 = (k + 1) / 8; omega)
      rw [e]
      congr 1
      show (k % 8 + 1) * 256 = (k + 1) % 8 * 256
      omega

/-- What a later tile starts from. -/
theorem carry_in (t : Fin cfg0.N) (h : ¬t.val % 8 = 0) (l : Fin 128) (hn : t.val - 1 < cfg0.N) :
    carry m c ⟨t.val - 1, hn⟩ (ix2 0 l) = before m c (seq t) (t.val % 8 * 256) l := by
  rw [carry_block m c l (t.val - 1) hn]
  have e : seq ⟨t.val - 1, hn⟩ = seq t := Fin.ext (by show (t.val - 1) / 8 = t.val / 8; omega)
  rw [e]
  congr 1
  omega

theorem zero_in (t : Fin cfg0.N) (h : t.val % 8 = 0) (l : Fin 128) : k0_pay70 (F := Ideal) (ix2 0 l) = before m c (seq t) (t.val % 8 * 256) l := by
  rw [Tile.zero_apply, h, Nat.zero_mul, before_zero]

/-- The pieces of a tile's running sums, given the sum before it as carry. -/
theorem portion_block (t : Fin cfg0.N) (g : S1x128.Idx → EReal) (r : Fin 256) (l : Fin 128) (hg : g (ix2 0 l) = before m c (seq t) (t.val % 8 * 256) l) :
    k0_pay74 (F := Ideal) (iota Kind.tc S1x128 32 [1] iota_S1x128_d1_w32) (k0_pay68 (iota Kind.tc S1x128 32 [1] iota_S1x128_d1_w32)) (logs m c t) (k0_pay71 (F := Ideal)) g (ix2 r l)
      = portion (total (X m c) (G m c) (W m c) (B m c) (seq t) (row t r) l) l :=
  Tile.pieces_apply r l _ _ _ _ (run_block m c t g r l hg)

/-- The product of a tile's pieces with a placement. -/
theorem place_block (t : Fin cfg0.N) (g : S1x128.Idx → EReal) (r : Fin 256) (u : Fin 128 → EReal) (u' : Fin 128 → EReal)
    (hg : ∀ l, g (ix2 0 l) = before m c (seq t) (t.val % 8 * 256) l) (hu : ∀ l, u l = u' l) :
    (∑ l : Fin 128, k0_pay74 (F := Ideal) (iota Kind.tc S1x128 32 [1] iota_S1x128_d1_w32) (k0_pay68 (iota Kind.tc S1x128 32 [1] iota_S1x128_d1_w32)) (logs m c t) (k0_pay71 (F := Ideal)) g (ix2 r l) * u l)
      = ∑ l : Fin 128, portion (total (X m c) (G m c) (W m c) (B m c) (seq t) (row t r) l) l * u' l :=
  Finset.sum_congr rfl fun l _ => by rw [portion_block m c t g r l (hg l), hu]

theorem sum3_congr {a b d a' b' d' : EReal} (h1 : a = a') (h2 : b = b') (h3 : d = d') : a + b + d = a' + b' + d' := by
  rw [h1, h2, h3]

/-- What a tile stores in output 14, and the whole of that output. -/
theorem qf_block (t : Fin cfg0.N) (r : Fin 256) (d : Fin 1024) : ((outsAt0 (F := Ideal) m c t.val t.isLt).2.2.2.2.2.2.2.1 : S1x256x1024.Idx → EReal) (ix3 0 r d)
    = gatedQueries (X m c) (G m c) (W m c) (N m c) (B m c) (P m c) (ix3 (seq t) (row t r) d) := by
  by_cases h : t.val % 8 = 0
  · rw [outsAt0_A m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at8 7 e := by
        apply Fin.ext
        simp only [at8]
        change d.val = 896 + e.val at hx2
        change d.val = 7 * 128 + e.val
        omega
      refine (Tile.qf7_apply r e _ _ _ _ _).trans ?_
      rw [gatedQueries_at]
      exact sum3_congr (head_congr e (fun k => column_block m c t r (column 2304 1024 (by decide) (at8 7 k)) _ fun d => ld_qf (iblk m c 2 t) d (at8 7 k)) (fun k => congrArg (· * _) (gain_3 m c t k)))
        (place_block m c t _ r _ _ (zero_in m c t h) fun l => read_5 m c t l (at8 7 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 6 e := by
        apply Fin.ext
        simp only [at8]
        change d.val = 768 + e.val at hx2
        change d.val = 6 * 128 + e.val
        omega
      refine (Tile.qf6_apply r e _ _ _ _ _).trans ?_
      rw [gatedQueries_at]
      exact sum3_congr (head_congr e (fun k => column_block m c t r (column 2304 1024 (by decide) (at8 6 k)) _ fun d => ld_qf (iblk m c 2 t) d (at8 6 k)) (fun k => congrArg (· * _) (gain_3 m c t k)))
        (place_block m c t _ r _ _ (zero_in m c t h) fun l => read_5 m c t l (at8 6 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 5 e := by
        apply Fin.ext
        simp only [at8]
        change d.val = 640 + e.val at hx2
        change d.val = 5 * 128 + e.val
        omega
      refine (Tile.qf5_apply r e _ _ _ _ _).trans ?_
      rw [gatedQueries_at]
      exact sum3_congr (head_congr e (fun k => column_block m c t r (column 2304 1024 (by decide) (at8 5 k)) _ fun d => ld_qf (iblk m c 2 t) d (at8 5 k)) (fun k => congrArg (· * _) (gain_3 m c t k)))
        (place_block m c t _ r _ _ (zero_in m c t h) fun l => read_5 m c t l (at8 5 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 4 e := by
        apply Fin.ext
        simp only [at8]
        change d.val = 512 + e.val at hx2
        change d.val = 4 * 128 + e.val
        omega
      refine (Tile.qf4_apply r e _ _ _ _ _).trans ?_
      rw [gatedQueries_at]
      exact sum3_congr (head_congr e (fun k => column_block m c t r (column 2304 1024 (by decide) (at8 4 k)) _ fun d => ld_qf (iblk m c 2 t) d (at8 4 k)) (fun k => congrArg (· * _) (gain_3 m c t k)))
        (place_block m c t _ r _ _ (zero_in m c t h) fun l => read_5 m c t l (at8 4 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 3 e := by
        apply Fin.ext
        simp only [at8]
        change d.val = 384 + e.val at hx2
        change d.val = 3 * 128 + e.val
        omega
      refine (Tile.qf3_apply r e _ _ _ _ _).trans ?_
      rw [gatedQueries_at]
      exact sum3_congr (head_congr e (fun k => column_block m c t r (column 2304 1024 (by decide) (at8 3 k)) _ fun d => ld_qf (iblk m c 2 t) d (at8 3 k)) (fun k => congrArg (· * _) (gain_3 m c t k)))
        (place_block m c t _ r _ _ (zero_in m c t h) fun l => read_5 m c t l (at8 3 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 2 e := by
        apply Fin.ext
        simp only [at8]
        change d.val = 256 + e.val at hx2
        change d.val = 2 * 128 + e.val
        omega
      refine (Tile.qf2_apply r e _ _ _ _ _).trans ?_
      rw [gatedQueries_at]
      exact sum3_congr (head_congr e (fun k => column_block m c t r (column 2304 1024 (by decide) (at8 2 k)) _ fun d => ld_qf (iblk m c 2 t) d (at8 2 k)) (fun k => congrArg (· * _) (gain_3 m c t k)))
        (place_block m c t _ r _ _ (zero_in m c t h) fun l => read_5 m c t l (at8 2 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 1 e := by
        apply Fin.ext
        simp only [at8]
        change d.val = 128 + e.val at hx2
        change d.val = 1 * 128 + e.val
        omega
      refine (Tile.qf1_apply r e _ _ _ _ _).trans ?_
      rw [gatedQueries_at]
      exact sum3_congr (head_congr e (fun k => column_block m c t r (column 2304 1024 (by decide) (at8 1 k)) _ fun d => ld_qf (iblk m c 2 t) d (at8 1 k)) (fun k => congrArg (· * _) (gain_3 m c t k)))
        (place_block m c t _ r _ _ (zero_in m c t h) fun l => read_5 m c t l (at8 1 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 0 e := by
        apply Fin.ext
        simp only [at8]
        change d.val = e.val at hx2
        change d.val = 0 * 128 + e.val
        omega
      refine (Tile.qf0_apply r e _ _ _ _ _).trans ?_
      rw [gatedQueries_at]
      exact sum3_congr (head_congr e (fun k => column_block m c t r (column 2304 1024 (by decide) (at8 0 k)) _ fun d => ld_qf (iblk m c 2 t) d (at8 0 k)) (fun k => congrArg (· * _) (gain_3 m c t k)))
        (place_block m c t _ r _ _ (zero_in m c t h) fun l => read_5 m c t l (at8 0 e)) rfl
  · rw [outsAt0_B m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at8 7 e := by
        apply Fin.ext
        simp only [at8]
        change d.val = 896 + e.val at hx2
        change d.val = 7 * 128 + e.val
        omega
      refine (Tile.qf7_apply r e _ _ _ _ _).trans ?_
      rw [gatedQueries_at]
      exact sum3_congr (head_congr e (fun k => column_block m c t r (column 2304 1024 (by decide) (at8 7 k)) _ fun d => ld_qf (iblk m c 2 t) d (at8 7 k)) (fun k => congrArg (· * _) (gain_3 m c t k)))
        (place_block m c t _ r _ _ (fun l => (congrFun (Memref.IsWhole.read_unread _ _) _).trans (carry_in m c t h l (by have := t.isLt; omega))) fun l => read_5 m c t l (at8 7 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 6 e := by
        apply Fin.ext
        simp only [at8]
        change d.val = 768 + e.val at hx2
        change d.val = 6 * 128 + e.val
        omega
      refine (Tile.qf6_apply r e _ _ _ _ _).trans ?_
      rw [gatedQueries_at]
      exact sum3_congr (head_congr e (fun k => column_block m c t r (column 2304 1024 (by decide) (at8 6 k)) _ fun d => ld_qf (iblk m c 2 t) d (at8 6 k)) (fun k => congrArg (· * _) (gain_3 m c t k)))
        (place_block m c t _ r _ _ (fun l => (congrFun (Memref.IsWhole.read_unread _ _) _).trans (carry_in m c t h l (by have := t.isLt; omega))) fun l => read_5 m c t l (at8 6 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 5 e := by
        apply Fin.ext
        simp only [at8]
        change d.val = 640 + e.val at hx2
        change d.val = 5 * 128 + e.val
        omega
      refine (Tile.qf5_apply r e _ _ _ _ _).trans ?_
      rw [gatedQueries_at]
      exact sum3_congr (head_congr e (fun k => column_block m c t r (column 2304 1024 (by decide) (at8 5 k)) _ fun d => ld_qf (iblk m c 2 t) d (at8 5 k)) (fun k => congrArg (· * _) (gain_3 m c t k)))
        (place_block m c t _ r _ _ (fun l => (congrFun (Memref.IsWhole.read_unread _ _) _).trans (carry_in m c t h l (by have := t.isLt; omega))) fun l => read_5 m c t l (at8 5 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 4 e := by
        apply Fin.ext
        simp only [at8]
        change d.val = 512 + e.val at hx2
        change d.val = 4 * 128 + e.val
        omega
      refine (Tile.qf4_apply r e _ _ _ _ _).trans ?_
      rw [gatedQueries_at]
      exact sum3_congr (head_congr e (fun k => column_block m c t r (column 2304 1024 (by decide) (at8 4 k)) _ fun d => ld_qf (iblk m c 2 t) d (at8 4 k)) (fun k => congrArg (· * _) (gain_3 m c t k)))
        (place_block m c t _ r _ _ (fun l => (congrFun (Memref.IsWhole.read_unread _ _) _).trans (carry_in m c t h l (by have := t.isLt; omega))) fun l => read_5 m c t l (at8 4 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 3 e := by
        apply Fin.ext
        simp only [at8]
        change d.val = 384 + e.val at hx2
        change d.val = 3 * 128 + e.val
        omega
      refine (Tile.qf3_apply r e _ _ _ _ _).trans ?_
      rw [gatedQueries_at]
      exact sum3_congr (head_congr e (fun k => column_block m c t r (column 2304 1024 (by decide) (at8 3 k)) _ fun d => ld_qf (iblk m c 2 t) d (at8 3 k)) (fun k => congrArg (· * _) (gain_3 m c t k)))
        (place_block m c t _ r _ _ (fun l => (congrFun (Memref.IsWhole.read_unread _ _) _).trans (carry_in m c t h l (by have := t.isLt; omega))) fun l => read_5 m c t l (at8 3 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 2 e := by
        apply Fin.ext
        simp only [at8]
        change d.val = 256 + e.val at hx2
        change d.val = 2 * 128 + e.val
        omega
      refine (Tile.qf2_apply r e _ _ _ _ _).trans ?_
      rw [gatedQueries_at]
      exact sum3_congr (head_congr e (fun k => column_block m c t r (column 2304 1024 (by decide) (at8 2 k)) _ fun d => ld_qf (iblk m c 2 t) d (at8 2 k)) (fun k => congrArg (· * _) (gain_3 m c t k)))
        (place_block m c t _ r _ _ (fun l => (congrFun (Memref.IsWhole.read_unread _ _) _).trans (carry_in m c t h l (by have := t.isLt; omega))) fun l => read_5 m c t l (at8 2 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 1 e := by
        apply Fin.ext
        simp only [at8]
        change d.val = 128 + e.val at hx2
        change d.val = 1 * 128 + e.val
        omega
      refine (Tile.qf1_apply r e _ _ _ _ _).trans ?_
      rw [gatedQueries_at]
      exact sum3_congr (head_congr e (fun k => column_block m c t r (column 2304 1024 (by decide) (at8 1 k)) _ fun d => ld_qf (iblk m c 2 t) d (at8 1 k)) (fun k => congrArg (· * _) (gain_3 m c t k)))
        (place_block m c t _ r _ _ (fun l => (congrFun (Memref.IsWhole.read_unread _ _) _).trans (carry_in m c t h l (by have := t.isLt; omega))) fun l => read_5 m c t l (at8 1 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 0 e := by
        apply Fin.ext
        simp only [at8]
        change d.val = e.val at hx2
        change d.val = 0 * 128 + e.val
        omega
      refine (Tile.qf0_apply r e _ _ _ _ _).trans ?_
      rw [gatedQueries_at]
      exact sum3_congr (head_congr e (fun k => column_block m c t r (column 2304 1024 (by decide) (at8 0 k)) _ fun d => ld_qf (iblk m c 2 t) d (at8 0 k)) (fun k => congrArg (· * _) (gain_3 m c t k)))
        (place_block m c t _ r _ _ (fun l => (congrFun (Memref.IsWhole.read_unread _ _) _).trans (carry_in m c t h l (by have := t.isLt; omega))) fun l => read_5 m c t l (at8 0 e)) rfl

theorem qf_final : (dats m 0 c).arrAt 14 cfg0.N = gatedQueries (X m c) (G m c) (W m c) (N m c) (B m c) (P m c) := by
  refine (dats m 0 c).arrAt_eq_of_covers 14 (gatedQueries (X m c) (G m c) (W m c) (N m c) (B m c) (P m c)) (by decide +kernel) fun t _ y => ?_
  blk_simp
  rw [after0_14]
  obtain ⟨r, d, rfl⟩ : ∃ (r : Fin 256) (d : Fin 1024), y = ix3 0 r d := by
    exact ⟨y 1, y 2, by idx_vars y; blk_ext⟩
  refine (qf_block m c t r d).trans ?_
  rw [show (win0_14.blk t).view.emb (ix3 0 r d) = ix3 (seq t) (row t r) d from emb_14 t r d]

/-- What a tile stores in output 15, and the whole of that output. -/
theorem kf_block (t : Fin cfg0.N) (r : Fin 256) (d : Fin 1024) : ((outsAt0 (F := Ideal) m c t.val t.isLt).2.2.2.2.2.2.2.2.1 : S1x256x1024.Idx → EReal) (ix3 0 r d)
    = gatedKeys (X m c) (G m c) (W m c) (N m c) (B m c) (Q m c) (ix3 (seq t) (row t r) d) := by
  by_cases h : t.val % 8 = 0
  · rw [outsAt0_A m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at8 7 e := by
        apply Fin.ext
        simp only [at8]
        change d.val = 896 + e.val at hx2
        change d.val = 7 * 128 + e.val
        omega
      refine (Tile.kf7_apply r e _ _ _ _ _ _ (Tile.ones_k_apply _)).trans ?_
      rw [gatedKeys_at]
      exact sum3_congr (head_congr e (fun k => column_block m c t r (column 3328 1024 (by decide) (at8 7 k)) _ fun d => ld_kf (iblk m c 2 t) d (at8 7 k)) (fun k => gain_4 m c t k))
        (place_block m c t _ r _ _ (zero_in m c t h) fun l => read_6 m c t l (at8 7 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 6 e := by
        apply Fin.ext
        simp only [at8]
        change d.val = 768 + e.val at hx2
        change d.val = 6 * 128 + e.val
        omega
      refine (Tile.kf6_apply r e _ _ _ _ _ _ (Tile.ones_k_apply _)).trans ?_
      rw [gatedKeys_at]
      exact sum3_congr (head_congr e (fun k => column_block m c t r (column 3328 1024 (by decide) (at8 6 k)) _ fun d => ld_kf (iblk m c 2 t) d (at8 6 k)) (fun k => gain_4 m c t k))
        (place_block m c t _ r _ _ (zero_in m c t h) fun l => read_6 m c t l (at8 6 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 5 e := by
        apply Fin.ext
        simp only [at8]
        change d.val = 640 + e.val at hx2
        change d.val = 5 * 128 + e.val
        omega
      refine (Tile.kf5_apply r e _ _ _ _ _ _ (Tile.ones_k_apply _)).trans ?_
      rw [gatedKeys_at]
      exact sum3_congr (head_congr e (fun k => column_block m c t r (column 3328 1024 (by decide) (at8 5 k)) _ fun d => ld_kf (iblk m c 2 t) d (at8 5 k)) (fun k => gain_4 m c t k))
        (place_block m c t _ r _ _ (zero_in m c t h) fun l => read_6 m c t l (at8 5 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 4 e := by
        apply Fin.ext
        simp only [at8]
        change d.val = 512 + e.val at hx2
        change d.val = 4 * 128 + e.val
        omega
      refine (Tile.kf4_apply r e _ _ _ _ _ _ (Tile.ones_k_apply _)).trans ?_
      rw [gatedKeys_at]
      exact sum3_congr (head_congr e (fun k => column_block m c t r (column 3328 1024 (by decide) (at8 4 k)) _ fun d => ld_kf (iblk m c 2 t) d (at8 4 k)) (fun k => gain_4 m c t k))
        (place_block m c t _ r _ _ (zero_in m c t h) fun l => read_6 m c t l (at8 4 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 3 e := by
        apply Fin.ext
        simp only [at8]
        change d.val = 384 + e.val at hx2
        change d.val = 3 * 128 + e.val
        omega
      refine (Tile.kf3_apply r e _ _ _ _ _ _ (Tile.ones_k_apply _)).trans ?_
      rw [gatedKeys_at]
      exact sum3_congr (head_congr e (fun k => column_block m c t r (column 3328 1024 (by decide) (at8 3 k)) _ fun d => ld_kf (iblk m c 2 t) d (at8 3 k)) (fun k => gain_4 m c t k))
        (place_block m c t _ r _ _ (zero_in m c t h) fun l => read_6 m c t l (at8 3 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 2 e := by
        apply Fin.ext
        simp only [at8]
        change d.val = 256 + e.val at hx2
        change d.val = 2 * 128 + e.val
        omega
      refine (Tile.kf2_apply r e _ _ _ _ _ _ (Tile.ones_k_apply _)).trans ?_
      rw [gatedKeys_at]
      exact sum3_congr (head_congr e (fun k => column_block m c t r (column 3328 1024 (by decide) (at8 2 k)) _ fun d => ld_kf (iblk m c 2 t) d (at8 2 k)) (fun k => gain_4 m c t k))
        (place_block m c t _ r _ _ (zero_in m c t h) fun l => read_6 m c t l (at8 2 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 1 e := by
        apply Fin.ext
        simp only [at8]
        change d.val = 128 + e.val at hx2
        change d.val = 1 * 128 + e.val
        omega
      refine (Tile.kf1_apply r e _ _ _ _ _ _ (Tile.ones_k_apply _)).trans ?_
      rw [gatedKeys_at]
      exact sum3_congr (head_congr e (fun k => column_block m c t r (column 3328 1024 (by decide) (at8 1 k)) _ fun d => ld_kf (iblk m c 2 t) d (at8 1 k)) (fun k => gain_4 m c t k))
        (place_block m c t _ r _ _ (zero_in m c t h) fun l => read_6 m c t l (at8 1 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 0 e := by
        apply Fin.ext
        simp only [at8]
        change d.val = e.val at hx2
        change d.val = 0 * 128 + e.val
        omega
      refine (Tile.kf0_apply r e _ _ _ _ _ _ (Tile.ones_k_apply _)).trans ?_
      rw [gatedKeys_at]
      exact sum3_congr (head_congr e (fun k => column_block m c t r (column 3328 1024 (by decide) (at8 0 k)) _ fun d => ld_kf (iblk m c 2 t) d (at8 0 k)) (fun k => gain_4 m c t k))
        (place_block m c t _ r _ _ (zero_in m c t h) fun l => read_6 m c t l (at8 0 e)) rfl
  · rw [outsAt0_B m c t h]
    frame_out
    canon_tiles x hx
    · obtain ⟨r', e, rfl⟩ : ∃ (r' : Fin 256) (e : Fin 128), x = ix3 0 r' e := ⟨x 1, x 2, by idx_vars x; blk_ext⟩
      obtain rfl : r = r' := Fin.ext hx1
      obtain rfl : d = at8 7 e := by
        apply Fin.ext
        simp only [at8]
        change d.val = 896 + e.val at hx2
        change d.val = 7 * 128 + e.val
        omega
      refine (Tile.kf7_apply r e _ _ _ _ _ _ (Tile.ones_k_apply _)).trans ?_
      rw [gatedKeys_at]
      exact sum3_congr (head_congr e (fun k => column_block m c t r (column 3328 1024 (by decide) (at8 7 k)) _ fun d => ld_kf (iblk m c 2 t) d (at8 7 k)) (fun k => gain_4 m c t k))
        (place_block m c t _ r _ _ (fun l => (congrFun (Memref.IsWhole.read_unread _ _) _).trans (carry_in m c t h l (by have := t.isLt; omega))) fun l => read_6 m c t l (at8 7 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 6 e := by
        apply Fin.ext
        simp only [at8]
        change d.val = 768 + e.val at hx2
        change d.val = 6 * 128 + e.val
        omega
      refine (Tile.kf6_apply r e _ _ _ _ _ _ (Tile.ones_k_apply _)).trans ?_
      rw [gatedKeys_at]
      exact sum3_congr (head_congr e (fun k => column_block m c t r (column 3328 1024 (by decide) (at8 6 k)) _ fun d => ld_kf (iblk m c 2 t) d (at8 6 k)) (fun k => gain_4 m c t k))
        (place_block m c t _ r _ _ (fun l => (congrFun (Memref.IsWhole.read_unread _ _) _).trans (carry_in m c t h l (by have := t.isLt; omega))) fun l => read_6 m c t l (at8 6 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 5 e := by
        apply Fin.ext
        simp only [at8]
        change d.val = 640 + e.val at hx2
        change d.val = 5 * 128 + e.val
        omega
      refine (Tile.kf5_apply r e _ _ _ _ _ _ (Tile.ones_k_apply _)).trans ?_
      rw [gatedKeys_at]
      exact sum3_congr (head_congr e (fun k => column_block m c t r (column 3328 1024 (by decide) (at8 5 k)) _ fun d => ld_kf (iblk m c 2 t) d (at8 5 k)) (fun k => gain_4 m c t k))
        (place_block m c t _ r _ _ (fun l => (congrFun (Memref.IsWhole.read_unread _ _) _).trans (carry_in m c t h l (by have := t.isLt; omega))) fun l => read_6 m c t l (at8 5 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 4 e := by
        apply Fin.ext
        simp only [at8]
        change d.val = 512 + e.val at hx2
        change d.val = 4 * 128 + e.val
        omega
      refine (Tile.kf4_apply r e _ _ _ _ _ _ (Tile.ones_k_apply _)).trans ?_
      rw [gatedKeys_at]
      exact sum3_congr (head_congr e (fun k => column_block m c t r (column 3328 1024 (by decide) (at8 4 k)) _ fun d => ld_kf (iblk m c 2 t) d (at8 4 k)) (fun k => gain_4 m c t k))
        (place_block m c t _ r _ _ (fun l => (congrFun (Memref.IsWhole.read_unread _ _) _).trans (carry_in m c t h l (by have := t.isLt; omega))) fun l => read_6 m c t l (at8 4 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 3 e := by
        apply Fin.ext
        simp only [at8]
        change d.val = 384 + e.val at hx2
        change d.val = 3 * 128 + e.val
        omega
      refine (Tile.kf3_apply r e _ _ _ _ _ _ (Tile.ones_k_apply _)).trans ?_
      rw [gatedKeys_at]
      exact sum3_congr (head_congr e (fun k => column_block m c t r (column 3328 1024 (by decide) (at8 3 k)) _ fun d => ld_kf (iblk m c 2 t) d (at8 3 k)) (fun k => gain_4 m c t k))
        (place_block m c t _ r _ _ (fun l => (congrFun (Memref.IsWhole.read_unread _ _) _).trans (carry_in m c t h l (by have := t.isLt; omega))) fun l => read_6 m c t l (at8 3 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 2 e := by
        apply Fin.ext
        simp only [at8]
        change d.val = 256 + e.val at hx2
        change d.val = 2 * 128 + e.val
        omega
      refine (Tile.kf2_apply r e _ _ _ _ _ _ (Tile.ones_k_apply _)).trans ?_
      rw [gatedKeys_at]
      exact sum3_congr (head_congr e (fun k => column_block m c t r (column 3328 1024 (by decide) (at8 2 k)) _ fun d => ld_kf (iblk m c 2 t) d (at8 2 k)) (fun k => gain_4 m c t k))
        (place_block m c t _ r _ _ (fun l => (congrFun (Memref.IsWhole.read_unread _ _) _).trans (carry_in m c t h l (by have := t.isLt; omega))) fun l => read_6 m c t l (at8 2 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 1 e := by
        apply Fin.ext
        simp only [at8]
        change d.val = 128 + e.val at hx2
        change d.val = 1 * 128 + e.val
        omega
      refine (Tile.kf1_apply r e _ _ _ _ _ _ (Tile.ones_k_apply _)).trans ?_
      rw [gatedKeys_at]
      exact sum3_congr (head_congr e (fun k => column_block m c t r (column 3328 1024 (by decide) (at8 1 k)) _ fun d => ld_kf (iblk m c 2 t) d (at8 1 k)) (fun k => gain_4 m c t k))
        (place_block m c t _ r _ _ (fun l => (congrFun (Memref.IsWhole.read_unread _ _) _).trans (carry_in m c t h l (by have := t.isLt; omega))) fun l => read_6 m c t l (at8 1 e)) rfl
    · obtain ⟨r', e, rfl⟩ : ∃ (r' : Fin 256) (e : Fin 128), x = ix3 0 r' e := ⟨x 1, x 2, by idx_vars x; blk_ext⟩
      obtain rfl : r = r' := Fin.ext hx1
      obtain rfl : d = at8 0 e := by
        apply Fin.ext
        simp only [at8]
        change d.val = e.val at hx2
        change d.val = 0 * 128 + e.val
        omega
      refine (Tile.kf0_apply r e _ _ _ _ _ _ (Tile.ones_k_apply _)).trans ?_
      rw [gatedKeys_at]
      exact sum3_congr (head_congr e (fun k => column_block m c t r (column 3328 1024 (by decide) (at8 0 k)) _ fun d => ld_kf (iblk m c 2 t) d (at8 0 k)) (fun k => gain_4 m c t k))
        (place_block m c t _ r _ _ (fun l => (congrFun (Memref.IsWhole.read_unread _ _) _).trans (carry_in m c t h l (by have := t.isLt; omega))) fun l => read_6 m c t l (at8 0 e)) rfl

theorem kf_final : (dats m 0 c).arrAt 15 cfg0.N = gatedKeys (X m c) (G m c) (W m c) (N m c) (B m c) (Q m c) := by
  refine (dats m 0 c).arrAt_eq_of_covers 15 (gatedKeys (X m c) (G m c) (W m c) (N m c) (B m c) (Q m c)) (by decide +kernel) fun t _ y => ?_
  blk_simp
  rw [after0_15]
  obtain ⟨r, d, rfl⟩ : ∃ (r : Fin 256) (d : Fin 1024), y = ix3 0 r d := by
    exact ⟨y 1, y 2, by idx_vars y; blk_ext⟩
  refine (kf_block m c t r d).trans ?_
  rw [show (win0_15.blk t).view.emb (ix3 0 r d) = ix3 (seq t) (row t r) d from emb_15 t r d]

end Cert.ProjIdeal.Block
end
-- ==== Proof.ProjRefValue.lean ====
/- The reference of the input projection, read at one place of each result. -/
module

public import proofs.«01_k».proof.Proof.Gen.ProjRefIdeal.Read
public import proofs.«01_k».proof.Proof.ProjGated
public import proofs.«01_k».proof.Proof.FoxWords
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjRefIdeal.Sum

open Cert.ProjRefIdeal Cert.ProjRefIdeal.Read Cert.ExpertsScore Cert.ProjScore

variable (X : S32x2048x1024.Idx → EReal) (G : S1x1024.Idx → EReal) (W : S1024x5504.Idx → EReal) (b : Fin 32) (n : Fin 2048) (d : Fin 1024) (l : Fin 5504)

/-- The normed row. -/
theorem normed_apply : val_main_v12 (F := Ideal) X G (ix3 b n d) = normed (fun k => X (ix3 b n k)) (fun k => G (ix2 0 k)) d := by
  have e1 (k : Fin 1024) : idx_main_v1 (idx_main_v2 (idx_main_v8 (ix3 b n d))) k = ix3 b n k := by blk_ext
  have e2 : idx_main_v10 (idx_main_v11 (ix3 b n d)) = ix2 0 d := by blk_ext
  have e3 (i : S_.Idx) : val_main_cst (F := Ideal) i = 0 := Ideal.ofBits_zero .f32
  rw [val_main_v12_apply, val_main_v9_apply, val_main_v8_apply, val_main_v7_apply, val_main_v6_apply, val_main_v4_apply, val_main_v2_apply,
    val_main_v1_apply, val_main_v3_apply, val_main_v5_apply, val_main_cst_0_apply, val_main_cst_1_apply, val_main_v11_apply, val_main_v10_apply, e2,
    e3, zero_add]
  simp only [e1, val_main_v0_apply]
  rfl

/-- A column of the projection. -/
theorem wide_apply : val_main_v14 (F := Ideal) X G W (ix3 b n l) = at_ X G W b n l := by
  have h (k : Fin 1024) : val_main_v12 (F := Ideal) X G (lidx_main_v14 (ix3 b n l) k) * val_main_v13 (F := Ideal) W (ridx_main_v14 (ix3 b n l) k)
      = normed (fun k => X (ix3 b n k)) (fun k => G (ix2 0 k)) k * W (ix2 k l) := by
    rw [show lidx_main_v14 (ix3 b n l) k = ix3 b n k by blk_ext, show ridx_main_v14 (ix3 b n l) k = ix2 k l by blk_ext, normed_apply]
    rfl
  rw [val_main_v14_apply]
  simp only [h]
  rfl

theorem proj_apply : val_main_v229 (F := Ideal) X G W (ix3 b n l) = at_ X G W b n l := by
  rw [val_main_v229_apply, wide_apply]
  rfl

/-- The five plain results: the selected and the windowed values, the compressed branch's keys and values, and the gated attention's values. -/
theorem vs_eq : val_main_v281 (F := Ideal) X G W = group 1280 256 (by decide) X G W := by
  funext j
  obtain ⟨b, n, d, rfl⟩ : ∃ (b : Fin 32) (n : Fin 2048) (d : Fin 256), j = ix3 b n d := by
    exact ⟨j 0, j 1, j 2, by idx_vars j; blk_ext⟩
  rw [val_main_v281_apply, show idx_main_v281 (ix3 b n d) = ix3 b n (column 1280 256 (by decide) d) by blk_ext <;> (simp only [column]), proj_apply]
  rfl

theorem vw_eq : val_main_v305 (F := Ideal) X G W = group 1792 256 (by decide) X G W := by
  funext j
  obtain ⟨b, n, d, rfl⟩ : ∃ (b : Fin 32) (n : Fin 2048) (d : Fin 256), j = ix3 b n d := by
    exact ⟨j 0, j 1, j 2, by idx_vars j; blk_ext⟩
  rw [val_main_v305_apply, show idx_main_v305 (ix3 b n d) = ix3 b n (column 1792 256 (by decide) d) by blk_ext <;> (simp only [column]), proj_apply]
  rfl

theorem kc_eq : val_main_v306 (F := Ideal) X G W = group 2048 128 (by decide) X G W := by
  funext j
  obtain ⟨b, n, d, rfl⟩ : ∃ (b : Fin 32) (n : Fin 2048) (d : Fin 128), j = ix3 b n d := by
    exact ⟨j 0, j 1, j 2, by idx_vars j; blk_ext⟩
  rw [val_main_v306_apply, show idx_main_v306 (ix3 b n d) = ix3 b n (column 2048 128 (by decide) d) by blk_ext <;> (simp only [column]), proj_apply]
  rfl

theorem vc_eq : val_main_v307 (F := Ideal) X G W = group 2176 128 (by decide) X G W := by
  funext j
  obtain ⟨b, n, d, rfl⟩ : ∃ (b : Fin 32) (n : Fin 2048) (d : Fin 128), j = ix3 b n d := by
    exact ⟨j 0, j 1, j 2, by idx_vars j; blk_ext⟩
  rw [val_main_v307_apply, show idx_main_v307 (ix3 b n d) = ix3 b n (column 2176 128 (by decide) d) by blk_ext <;> (simp only [column]), proj_apply]
  rfl

theorem vf_eq : val_main_v356 (F := Ideal) X G W = group 4352 1024 (by decide) X G W := by
  funext j
  obtain ⟨b, n, d, rfl⟩ : ∃ (b : Fin 32) (n : Fin 2048) (d : Fin 1024), j = ix3 b n d := by
    exact ⟨j 0, j 1, j 2, by idx_vars j; blk_ext⟩
  rw [val_main_v356_apply, show idx_main_v356 (ix3 b n d) = ix3 b n (column 4352 1024 (by decide) d) by blk_ext <;> (simp only [column]), proj_apply]
  rfl

/-- A word shifted by the host is the word shifted by the kernel. -/
theorem shift_8 (x : BitVec 32) : IntOp.shrsi .host x 8#32 = IntOp.shrsi .vector x 8#32 := by
  simp [IntOp.shrsi]

theorem shift_6 (x : BitVec 32) : IntOp.shrsi .host x 6#32 = IntOp.shrsi .vector x 6#32 := by
  simp [IntOp.shrsi]

/-- The position features. -/
theorem place_eq (p : Fin 2048) (e : Fin 128) : val_main_v44 (F := Ideal) (ix2 p e) = place (BitVec.ofNat 32 p.val) e := by
  pointwise [place, high, low, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v16, val_main_v15, val_main_c, val_main_c_2, val_main_c_3, val_main_c_4, val_main_c_5, val_main_c_7, val_main_c_8, val_main_cst_6, val_main_cst_9]
  rw [shift_8]

theorem block_eq (p : Fin 2048) (e : Fin 128) : val_main_v54 (F := Ideal) (ix2 p e) = block (BitVec.ofNat 32 p.val) e := by
  pointwise [block, val_main_v54, val_main_v53, val_main_v52, val_main_v51, val_main_v50, val_main_v49, val_main_v48, val_main_v47, val_main_v46, val_main_v45, val_main_v15, val_main_v16, val_main_c_10, val_main_c_11, val_main_cst_12, val_main_cst_13]
  rw [shift_6]

theorem rise_eq (h : Fin 8) : val_main_v108 (F := Ideal) (ix2 h 0) = rise h := by
  fin_cases h <;> rfl

theorem fall_eq (h : Fin 8) : val_main_v112 (F := Ideal) (ix2 h 0) = fall h := by
  fin_cases h <;> rfl

theorem far_eq (p : Fin 2048) (h : Fin 8) (e : Fin 128) : val_main_v143 (F := Ideal) (ix3 p h e) = far (fall h) (rise h) (BitVec.ofNat 32 p.val) e := by
  rw [← rise_eq, ← fall_eq]
  generalize hr : val_main_v108 (F := Ideal) = r
  generalize hf : val_main_v112 (F := Ideal) = f
  pointwise [far, high, low, hr, hf, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v25, val_main_v24, val_main_v23, val_main_v22, val_main_v21, val_main_v20, val_main_v19, val_main_v18, val_main_v16, val_main_v15, val_main_c, val_main_c_2, val_main_c_3, val_main_c_44, val_main_c_45, val_main_c_46, val_main_c_47, val_main_cst_48]
  rw [shift_8]

section
variable (N : S8x128.Idx → EReal) (B : S1x128.Idx → EReal) (P : S128x1024.Idx → EReal) (i : Fin 2048) (h : Fin 8) (h2 : Fin 2) (e : Fin 128)

/-- The gates' logits. -/
theorem misc_eq : val_main_v147 (F := Ideal) X G W B (ix3 b i e) = at_ X G W b i (column 5376 128 (by decide) e) + B (ix2 0 e) := by
  rw [val_main_v147_apply, val_main_v144_apply, show idx_main_v144 (ix3 b i e) = ix3 b i (column 5376 128 (by decide) e) by blk_ext <;> (simp only [column]),
    wide_apply, val_main_v146_apply, val_main_v145_apply, show idx_main_v145 (idx_main_v146 (ix3 b i e)) = ix2 0 e by blk_ext]
  rfl

theorem gate_eq : val_main_v158 (F := Ideal) X G W B = gates X G W B := by
  funext j
  obtain ⟨b, i, e, rfl⟩ : ∃ (b : Fin 32) (i : Fin 2048) (e : Fin 128), j = ix3 b i e := by
    exact ⟨j 0, j 1, j 2, by idx_vars j; blk_ext⟩
  show _ = Scalar.select _ (Ideal.logistic (at_ X G W b i (column 5376 128 (by decide) e) + B (ix2 0 e))) 0
  rw [← misc_eq X G W b B i e]
  unfold val_main_v158 val_main_v157 val_main_v156 val_main_v155 val_main_v154 val_main_v153 val_main_v152 val_main_v151 val_main_v150
  generalize val_main_v147 (F := Ideal) X G W B = q
  pointwise [Ideal.logistic, val_main_v149, val_main_v148, val_main_c_49, val_main_v16, val_main_cst_50, val_main_cst_51, val_main_cst_52]

/-- The logarithms of the gates, and their running sums. -/
theorem forget_eq : val_main_v175 (F := Ideal) X G W B (ix3 b i e) = forget X G W B b i e := by
  rw [forget, ← misc_eq X G W b B i e]
  unfold val_main_v175 val_main_v174 val_main_v173 val_main_v172 val_main_v171 val_main_v170 val_main_v169 val_main_v168 val_main_v167 val_main_v166 val_main_v165 val_main_v164
  generalize val_main_v147 (F := Ideal) X G W B = q
  pointwise [gateLog, isForget, val_main_v163, val_main_v162, val_main_v161, val_main_v160, val_main_v159, val_main_c_53, val_main_c_54, val_main_v16, val_main_cst_55, val_main_cst_56]
  rw [Ideal.absf_def]

theorem tri_eq (k : Fin 2048) : val_main_v181 (F := Ideal) (ix2 i k) = if k.val ≤ i.val then 1 else 0 := by
  rw [← FoxWords.sel_ge i.val k.val (by omega) (by omega)]
  pointwise [val_main_v181, val_main_v180, val_main_v179, val_main_v178, val_main_v177, val_main_v176, val_main_cst_57, val_main_cst_58]

theorem total_eq : val_main_v183 (F := Ideal) X G W B (ix3 b i e) = total X G W B b i e := by
  rw [val_main_v183_apply, val_main_v182_apply]
  refine Finset.sum_congr rfl fun k _ => ?_
  rw [show lidx_main_v182 (idx_main_v183 (ix3 b i e)) k = ix3 b k e by blk_ext, show ridx_main_v182 (idx_main_v183 (ix3 b i e)) k = ix2 i k by blk_ext, forget_eq, tri_eq]
  split <;> simp

theorem portion_eq : val_main_v206 (F := Ideal) X G W B (ix3 b i e) = portion (total X G W B b i e) e := by
  rw [← total_eq]
  unfold val_main_v206 val_main_v205 val_main_v204 val_main_v203 val_main_v202 val_main_v201 val_main_v200 val_main_v199 val_main_v198 val_main_v195 val_main_v192 val_main_v191 val_main_v190 val_main_v189 val_main_v188 val_main_v187 val_main_v186 val_main_v185 val_main_v184
  generalize val_main_v183 (F := Ideal) X G W B = q
  pointwise [portion, isForget, val_main_v197, val_main_v196, val_main_v194, val_main_v193, val_main_v163, val_main_v162, val_main_v161, val_main_v160, val_main_v159, val_main_c_53, val_main_c_54, val_main_c_59, val_main_c_60, val_main_v16, val_main_cst_61]

theorem fq_eq : val_main_v209 (F := Ideal) X G W B P (ix4 b i h e) = ∑ x : Fin 128, portion (total X G W B b i x) x * P (ix2 x (at8 h e)) := by
  rw [val_main_v209_apply, show idx_main_v209 (ix4 b i h e) = ix3 b i (at8 h e) by blk_ext <;> (simp only [at8]; omega), val_main_v208_apply]
  refine Finset.sum_congr rfl fun k _ => ?_
  rw [show lidx_main_v208 (ix3 b i (at8 h e)) k = ix3 b i k by blk_ext, show ridx_main_v208 (ix3 b i (at8 h e)) k = ix2 k (at8 h e) by blk_ext, portion_eq]
  rfl

theorem fk_eq : val_main_v212 (F := Ideal) X G W B P (ix4 b i h e) = ∑ x : Fin 128, portion (total X G W B b i x) x * P (ix2 x (at8 h e)) := by
  rw [val_main_v212_apply, show idx_main_v212 (ix4 b i h e) = ix3 b i (at8 h e) by blk_ext <;> (simp only [at8]; omega), val_main_v211_apply]
  refine Finset.sum_congr rfl fun k _ => ?_
  rw [show lidx_main_v211 (ix3 b i (at8 h e)) k = ix3 b i k by blk_ext, show ridx_main_v211 (ix3 b i (at8 h e)) k = ix2 k (at8 h e) by blk_ext, portion_eq]
  rfl

theorem ones_q_eq : val_main_v220 (F := Ideal) (ix2 0 e) = ones 67#32 70#32 e := by
  pointwise [ones, val_main_v220, val_main_v219, val_main_v218, val_main_v217, val_main_v216, val_main_v215, val_main_v214, val_main_v213, val_main_v16, val_main_c_62, val_main_c_63, val_main_cst_64, val_main_cst_65]

theorem ones_k_eq : val_main_v228 (F := Ideal) (ix2 0 e) = ones 64#32 67#32 e := by
  pointwise [ones, val_main_v228, val_main_v227, val_main_v226, val_main_v225, val_main_v224, val_main_v223, val_main_v222, val_main_v221, val_main_v16, val_main_c_66, val_main_c_67, val_main_cst_68, val_main_cst_69]

/-- The heads of qn. -/
theorem qn_col : val_main_v235 (F := Ideal) X G W (ix4 b i h e) = at_ X G W b i (column 0 1024 (by decide) (at8 h e)) := by
  rw [val_main_v235_apply, show idx_main_v235 (ix4 b i h e) = ix3 b i (at8 h e) by blk_ext <;> (simp only [at8]; omega), val_main_v234_apply,
    show idx_main_v234 (ix3 b i (at8 h e)) = ix3 b i (column 0 1024 (by decide) (at8 h e)) by blk_ext <;> (simp only [column]; omega), wide_apply]

theorem qn_gain : val_main_v233 (F := Ideal) N (ix1 e) = (fun k => N (ix2 0 k) * Ideal.ofBits .f32 0x3E000000#32) e := by
  pointwise [val_main_v233, val_main_v232, val_main_cst_70, val_main_v231, val_main_v230]

theorem qn_head : val_main_v248 (F := Ideal) X G W N (ix4 b i h e)
    = headNorm (fun k => at_ X G W b i (column 0 1024 (by decide) (at8 h k))) (fun k => N (ix2 0 k) * Ideal.ofBits .f32 0x3E000000#32) e := by
  have e3 (j : S_.Idx) : val_main_cst_71 (F := Ideal) j = 0 := Ideal.ofBits_zero .f32
  have e1 (k : Fin 128) : idx_main_v237 (idx_main_v238 (idx_main_v244 (ix4 b i h e))) k = ix4 b i h k := by blk_ext
  rw [val_main_v248_apply, val_main_v245_apply, val_main_v247_apply, val_main_v246_apply, val_main_v244_apply, val_main_v243_apply, val_main_v242_apply, val_main_v240_apply, val_main_v238_apply, val_main_v237_apply, val_main_v239_apply, val_main_v241_apply, val_main_cst_72_apply, val_main_cst_73_apply,
    show idx_main_v246 (idx_main_v247 (ix4 b i h e)) = ix1 e by blk_ext, qn_gain, qn_col, e3, zero_add]
  simp only [e1, val_main_v236_apply, qn_col]
  rfl

/-- The heads of ks. -/
theorem ks_col : val_main_v257 (F := Ideal) X G W (ix4 b i h2 e) = at_ X G W b i (column 1024 256 (by decide) (at2 h2 e)) := by
  rw [val_main_v257_apply, show idx_main_v257 (ix4 b i h2 e) = ix3 b i (at2 h2 e) by blk_ext <;> (simp only [at2]; omega), val_main_v256_apply,
    show idx_main_v256 (ix3 b i (at2 h2 e)) = ix3 b i (column 1024 256 (by decide) (at2 h2 e)) by blk_ext <;> (simp only [column]), wide_apply]

theorem ks_gain : val_main_v255 (F := Ideal) N (ix1 e) = (fun k => N (ix2 1 k)) e := by
  pointwise [val_main_v255, val_main_v254]

theorem ks_head : val_main_v270 (F := Ideal) X G W N (ix4 b i h2 e)
    = headNorm (fun k => at_ X G W b i (column 1024 256 (by decide) (at2 h2 k))) (fun k => N (ix2 1 k)) e := by
  have e3 (j : S_.Idx) : val_main_cst_74 (F := Ideal) j = 0 := Ideal.ofBits_zero .f32
  have e1 (k : Fin 128) : idx_main_v259 (idx_main_v260 (idx_main_v266 (ix4 b i h2 e))) k = ix4 b i h2 k := by blk_ext
  rw [val_main_v270_apply, val_main_v267_apply, val_main_v269_apply, val_main_v268_apply, val_main_v266_apply, val_main_v265_apply, val_main_v264_apply, val_main_v262_apply, val_main_v260_apply, val_main_v259_apply, val_main_v261_apply, val_main_v263_apply, val_main_cst_75_apply, val_main_cst_76_apply,
    show idx_main_v268 (idx_main_v269 (ix4 b i h2 e)) = ix1 e by blk_ext, ks_gain, ks_col, e3, zero_add]
  simp only [e1, val_main_v258_apply, ks_col]
  rfl

/-- The heads of kw. -/
theorem kw_col : val_main_v285 (F := Ideal) X G W (ix4 b i h2 e) = at_ X G W b i (column 1536 256 (by decide) (at2 h2 e)) := by
  rw [val_main_v285_apply, show idx_main_v285 (ix4 b i h2 e) = ix3 b i (at2 h2 e) by blk_ext <;> (simp only [at2]; omega), val_main_v284_apply,
    show idx_main_v284 (ix3 b i (at2 h2 e)) = ix3 b i (column 1536 256 (by decide) (at2 h2 e)) by blk_ext <;> (simp only [column]), wide_apply]

theorem kw_gain : val_main_v283 (F := Ideal) N (ix1 e) = (fun k => N (ix2 2 k)) e := by
  pointwise [val_main_v283, val_main_v282]

theorem kw_head : val_main_v298 (F := Ideal) X G W N (ix4 b i h2 e)
    = headNorm (fun k => at_ X G W b i (column 1536 256 (by decide) (at2 h2 k))) (fun k => N (ix2 2 k)) e := by
  have e3 (j : S_.Idx) : val_main_cst_77 (F := Ideal) j = 0 := Ideal.ofBits_zero .f32
  have e1 (k : Fin 128) : idx_main_v287 (idx_main_v288 (idx_main_v294 (ix4 b i h2 e))) k = ix4 b i h2 k := by blk_ext
  rw [val_main_v298_apply, val_main_v295_apply, val_main_v297_apply, val_main_v296_apply, val_main_v294_apply, val_main_v293_apply, val_main_v292_apply, val_main_v290_apply, val_main_v288_apply, val_main_v287_apply, val_main_v289_apply, val_main_v291_apply, val_main_cst_78_apply, val_main_cst_79_apply,
    show idx_main_v296 (idx_main_v297 (ix4 b i h2 e)) = ix1 e by blk_ext, kw_gain, kw_col, e3, zero_add]
  simp only [e1, val_main_v286_apply, kw_col]
  rfl

/-- The heads of qf. -/
theorem qf_col : val_main_v313 (F := Ideal) X G W (ix4 b i h e) = at_ X G W b i (column 2304 1024 (by decide) (at8 h e)) := by
  rw [val_main_v313_apply, show idx_main_v313 (ix4 b i h e) = ix3 b i (at8 h e) by blk_ext <;> (simp only [at8]; omega), val_main_v312_apply,
    show idx_main_v312 (ix3 b i (at8 h e)) = ix3 b i (column 2304 1024 (by decide) (at8 h e)) by blk_ext <;> (simp only [column]), wide_apply]

theorem qf_gain : val_main_v311 (F := Ideal) N (ix1 e) = (fun k => N (ix2 3 k) * Ideal.ofBits .f32 0x3E000000#32) e := by
  pointwise [val_main_v311, val_main_v310, val_main_cst_80, val_main_v309, val_main_v308]

theorem qf_head : val_main_v326 (F := Ideal) X G W N (ix4 b i h e)
    = headNorm (fun k => at_ X G W b i (column 2304 1024 (by decide) (at8 h k))) (fun k => N (ix2 3 k) * Ideal.ofBits .f32 0x3E000000#32) e := by
  have e3 (j : S_.Idx) : val_main_cst_81 (F := Ideal) j = 0 := Ideal.ofBits_zero .f32
  have e1 (k : Fin 128) : idx_main_v315 (idx_main_v316 (idx_main_v322 (ix4 b i h e))) k = ix4 b i h k := by blk_ext
  rw [val_main_v326_apply, val_main_v323_apply, val_main_v325_apply, val_main_v324_apply, val_main_v322_apply, val_main_v321_apply, val_main_v320_apply, val_main_v318_apply, val_main_v316_apply, val_main_v315_apply, val_main_v317_apply, val_main_v319_apply, val_main_cst_82_apply, val_main_cst_83_apply,
    show idx_main_v324 (idx_main_v325 (ix4 b i h e)) = ix1 e by blk_ext, qf_gain, qf_col, e3, zero_add]
  simp only [e1, val_main_v314_apply, qf_col]
  rfl

/-- The heads of kf. -/
theorem kf_col : val_main_v336 (F := Ideal) X G W (ix4 b i h e) = at_ X G W b i (column 3328 1024 (by decide) (at8 h e)) := by
  rw [val_main_v336_apply, show idx_main_v336 (ix4 b i h e) = ix3 b i (at8 h e) by blk_ext <;> (simp only [at8]; omega), val_main_v335_apply,
    show idx_main_v335 (ix3 b i (at8 h e)) = ix3 b i (column 3328 1024 (by decide) (at8 h e)) by blk_ext <;> (simp only [column]), wide_apply]

theorem kf_gain : val_main_v334 (F := Ideal) N (ix1 e) = (fun k => N (ix2 4 k)) e := by
  pointwise [val_main_v334, val_main_v333]

theorem kf_head : val_main_v349 (F := Ideal) X G W N (ix4 b i h e)
    = headNorm (fun k => at_ X G W b i (column 3328 1024 (by decide) (at8 h k))) (fun k => N (ix2 4 k)) e := by
  have e3 (j : S_.Idx) : val_main_cst_84 (F := Ideal) j = 0 := Ideal.ofBits_zero .f32
  have e1 (k : Fin 128) : idx_main_v338 (idx_main_v339 (idx_main_v345 (ix4 b i h e))) k = ix4 b i h k := by blk_ext
  rw [val_main_v349_apply, val_main_v346_apply, val_main_v348_apply, val_main_v347_apply, val_main_v345_apply, val_main_v344_apply, val_main_v343_apply, val_main_v341_apply, val_main_v339_apply, val_main_v338_apply, val_main_v340_apply, val_main_v342_apply, val_main_cst_85_apply, val_main_cst_86_apply,
    show idx_main_v347 (idx_main_v348 (ix4 b i h e)) = ix1 e by blk_ext, kf_gain, kf_col, e3, zero_add]
  simp only [e1, val_main_v337_apply, kf_col]
  rfl

theorem qn_eq : val_main_v253 (F := Ideal) X G W N = queries X G W N := by
  funext j
  obtain ⟨b, i, h, e, rfl⟩ : ∃ (b : Fin 32) (i : Fin 2048) (h : Fin 8) (e : Fin 128), j = ix3 b i (at8 h e) := by
    exact ⟨j 0, j 1, head8 (j 2), lane8 (j 2), by idx_vars j; blk_ext <;> (simp only [at8, head8, lane8]; omega)⟩
  rw [queries_at, val_main_v253_apply, val_main_v252_apply, show idx_main_v252 (ix3 b i (at8 h e)) = ix4 b i h e by blk_ext <;> (simp only [at8]; omega), val_main_v251_apply, qn_head, val_main_v250_apply, val_main_v249_apply, show idx_main_v249 (idx_main_v250 (ix4 b i h e)) = ix3 i h e by blk_ext, far_eq]
  rfl

theorem ks_eq : val_main_v280 (F := Ideal) X G W N = selected X G W N := by
  funext j
  obtain ⟨b, i, h, e, rfl⟩ : ∃ (b : Fin 32) (i : Fin 2048) (h : Fin 2) (e : Fin 128), j = ix3 b i (at2 h e) := by
    exact ⟨j 0, j 1, head2 (j 2), lane2 (j 2), by idx_vars j; blk_ext <;> (simp only [at2, head2, lane2]; omega)⟩
  rw [selected_at, val_main_v280_apply, val_main_v279_apply, show idx_main_v279 (ix3 b i (at2 h e)) = ix4 b i h e by blk_ext <;> (simp only [at2]; omega), val_main_v278_apply, val_main_v274_apply, ks_head, val_main_v273_apply, val_main_v272_apply, val_main_v271_apply, show idx_main_v271 (idx_main_v272 (idx_main_v273 (ix4 b i h e))) = ix2 i e by blk_ext, place_eq, val_main_v277_apply, val_main_v276_apply, val_main_v275_apply, show idx_main_v275 (idx_main_v276 (idx_main_v277 (ix4 b i h e))) = ix2 i e by blk_ext, block_eq]
  rfl

theorem kw_eq : val_main_v304 (F := Ideal) X G W N = windowed X G W N := by
  funext j
  obtain ⟨b, i, h, e, rfl⟩ : ∃ (b : Fin 32) (i : Fin 2048) (h : Fin 2) (e : Fin 128), j = ix3 b i (at2 h e) := by
    exact ⟨j 0, j 1, head2 (j 2), lane2 (j 2), by idx_vars j; blk_ext <;> (simp only [at2, head2, lane2]; omega)⟩
  rw [windowed_at, val_main_v304_apply, val_main_v303_apply, show idx_main_v303 (ix3 b i (at2 h e)) = ix4 b i h e by blk_ext <;> (simp only [at2]; omega), val_main_v302_apply, kw_head, val_main_v301_apply, val_main_v300_apply, val_main_v299_apply, show idx_main_v299 (idx_main_v300 (idx_main_v301 (ix4 b i h e))) = ix2 i e by blk_ext, place_eq]
  rfl

theorem qf_eq : val_main_v332 (F := Ideal) X G W N B P = gatedQueries X G W N B P := by
  funext j
  obtain ⟨b, i, h, e, rfl⟩ : ∃ (b : Fin 32) (i : Fin 2048) (h : Fin 8) (e : Fin 128), j = ix3 b i (at8 h e) := by
    exact ⟨j 0, j 1, head8 (j 2), lane8 (j 2), by idx_vars j; blk_ext <;> (simp only [at8, head8, lane8]; omega)⟩
  rw [gatedQueries_at, val_main_v332_apply, val_main_v331_apply, show idx_main_v331 (ix3 b i (at8 h e)) = ix4 b i h e by blk_ext <;> (simp only [at8]; omega), val_main_v330_apply, val_main_v327_apply, qf_head, fq_eq, val_main_v329_apply, val_main_v328_apply, show idx_main_v328 (idx_main_v329 (ix4 b i h e)) = ix2 0 e by blk_ext, ones_q_eq]
  rfl

theorem kf_eq : val_main_v355 (F := Ideal) X G W N B P = gatedKeys X G W N B P := by
  funext j
  obtain ⟨b, i, h, e, rfl⟩ : ∃ (b : Fin 32) (i : Fin 2048) (h : Fin 8) (e : Fin 128), j = ix3 b i (at8 h e) := by
    exact ⟨j 0, j 1, head8 (j 2), lane8 (j 2), by idx_vars j; blk_ext <;> (simp only [at8, head8, lane8]; omega)⟩
  rw [gatedKeys_at, val_main_v355_apply, val_main_v354_apply, show idx_main_v354 (ix3 b i (at8 h e)) = ix4 b i h e by blk_ext <;> (simp only [at8]; omega), val_main_v353_apply, val_main_v350_apply, kf_head, fk_eq, val_main_v352_apply, val_main_v351_apply, show idx_main_v351 (idx_main_v352 (ix4 b i h e)) = ix2 0 e by blk_ext, ones_k_eq]
  rfl

end

end Cert.ProjRefIdeal.Sum
end
-- ==== Proof.CompressScore.lean ====
/- The compression of two chunks of sixteen positions into one key or value. -/
module

public import proofs.«01_k».proof.Proof.ProjHead
public import Idealize.ShloMosaic.Lib.Pointwise

@[expose] public section

set_option maxRecDepth 16384

noncomputable section

open Idealize.ShloMosaic Idealize.ShloMosaic.TcCoe Idealize.SL.Sem

namespace Cert.CompressScore

open Cert.ProjScore

/-- The chunk after a chunk, the first after the last. -/
def next (r : Fin 128) : Fin 128 := ⟨(r.val + 1) % 128, by omega⟩

/-- The chunk after a chunk, as a turn of all chunks but one brings it. -/
theorem next_eq (r : Fin 128) : next r = ⟨(r.val + 128 - 127) % 128, by omega⟩ := by
  apply Fin.ext
  simp only [next]
  omega

/-- The upper and the lower half of the rows of the first matrix. -/
def upper (k : Fin 1024) : Fin 2048 := ⟨k.val, by omega⟩
def lower (k : Fin 1024) : Fin 2048 := ⟨1024 + k.val, by omega⟩

/-- The smooth gate of a hidden unit. -/
def gelu (x : EReal) : EReal :=
  Ideal.ofBits .f32 0x3F000000#32 * x * (1 + Ideal.tanh (Ideal.ofBits .f32 0x3F4C422A#32 * (x + Ideal.ofBits .f32 0x3D372713#32 * (x * x * x))))

/-- A hidden unit of a chunk and the chunk after it, each shifted by its own offsets. -/
def unitOf (a a' p p' : Fin 1024 → EReal) (w w' : Fin 1024 → Fin 256 → EReal) (b : Fin 256 → EReal) (h : Fin 256) : EReal :=
  (∑ k, (a k + p k) * w k h) + (∑ k, (a' k + p' k) * w' k h) + b h

/-- A column of the two chunks compressed. -/
def token (a a' p p' : Fin 1024 → EReal) (w w' : Fin 1024 → Fin 256 → EReal) (b : Fin 256 → EReal) (v : Fin 256 → Fin 128 → EReal) (q : Fin 128 → EReal)
    (e : Fin 128) : EReal :=
  (∑ h, gelu (unitOf a a' p p' w w' b h) * v h e) + q e

/-- Two chunks, offsets and matrices that agree are compressed alike. -/
theorem token_congr {a a' p p' c c' o o' : Fin 1024 → EReal} {w w' u u' : Fin 1024 → Fin 256 → EReal} (b : Fin 256 → EReal) (v : Fin 256 → Fin 128 → EReal)
    (q : Fin 128 → EReal) (e : Fin 128) (ha : ∀ k, a k = c k) (ha' : ∀ k, a' k = c' k) (hp : ∀ k, p k = o k) (hp' : ∀ k, p' k = o' k)
    (hw : ∀ k h, w k h = u k h) (hw' : ∀ k h, w' k h = u' k h) : token a a' p p' w w' b v q e = token c c' o o' u u' b v q e := by
  rw [funext ha, funext ha', funext hp, funext hp', funext fun k => funext (hw k), funext fun k => funext (hw' k)]

/-- The last position of the block that starts at chunk `r`. -/
def stop (r : Fin 128) : BitVec 32 := BitVec.ofNat 32 (16 * r.val + 31)

/-- The shapes of the arguments and the results. -/
abbrev SA : Shape := ⟨4, ![32, 2, 128, 1024]⟩
abbrev SO : Shape := ⟨2, ![2, 1024]⟩
abbrev SW1 : Shape := ⟨2, ![2048, 256]⟩
abbrev SB1 : Shape := ⟨2, ![1, 256]⟩
abbrev SW2 : Shape := ⟨2, ![256, 128]⟩
abbrev SB2 : Shape := ⟨2, ![1, 128]⟩
abbrev SC : Shape := ⟨4, ![32, 2, 128, 128]⟩

/-- A column of the block that starts at chunk `r` of a sequence's group. -/
def at_ (A : SA.Idx → EReal) (P : SO.Idx → EReal) (W : SW1.Idx → EReal) (B : SB1.Idx → EReal) (V : SW2.Idx → EReal) (Q : SB2.Idx → EReal)
    (b : Fin 32) (g : Fin 2) (r : Fin 128) (e : Fin 128) : EReal :=
  token (fun k => A (ix4 b g r k)) (fun k => A (ix4 b g (next r) k)) (fun k => P (ix2 0 k)) (fun k => P (ix2 1 k))
    (fun k h => W (ix2 (upper k) h)) (fun k h => W (ix2 (lower k) h)) (fun h => B (ix2 0 h)) (fun h e => V (ix2 h e)) (fun e => Q (ix2 0 e)) e

/-- The compressed values. -/
def values (A : SA.Idx → EReal) (P : SO.Idx → EReal) (W : SW1.Idx → EReal) (B : SB1.Idx → EReal) (V : SW2.Idx → EReal) (Q : SB2.Idx → EReal) : SC.Idx → EReal := fun j =>
  at_ A P W B V Q (j 0) (j 1) (j 2) (j 3)

/-- The compressed keys, normed, scaled and marked with the position they end at. -/
def keys (A : SA.Idx → EReal) (P : SO.Idx → EReal) (W : SW1.Idx → EReal) (B : SB1.Idx → EReal) (V : SW2.Idx → EReal) (Q G : SB2.Idx → EReal) : SC.Idx → EReal := fun j =>
  headNorm (fun e => at_ A P W B V Q (j 0) (j 1) (j 2) e) (fun e => G (ix2 0 e)) (j 3) + place (stop (j 2)) (j 3)

end Cert.CompressScore
end
-- ==== Proof.CompressTile.lean ====
/- The compression: what each step of a tile computes. -/
module

public import proofs.«01_k».proof.Proof.Gen.CompressIdeal.Value
public import proofs.«01_k».proof.Proof.CompressScore
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.CompressIdeal.Tile

open Cert.CompressIdeal Cert.CompressIdeal.Gen Cert.ProjScore Cert.CompressScore

/-- The position a block ends at, counted from its start. -/
theorem stop_eq : ∀ r : Fin 128, IntOp.subi (IntOp.addi (IntOp.muli 16#32 (BitVec.ofNat 32 r.val)) 32#32) 1#32 = stop r := by
  decide +kernel

variable (x : S1x1x128x1024.Idx → EReal) (p p' : S1x1024.Idx → EReal) (w w' : S1024x256.Idx → EReal) (b : S1x256.Idx → EReal)
  (v : S256x128.Idx → EReal) (q g : S1x128.Idx → EReal) (r : Fin 128) (e : Fin 128) (h : Fin 256)

/-- The position features of a row. -/
theorem place_apply : k0_pay2 (F := Ideal) (ix2 r e) = place (stop r) e := by
  rw [place, ← mul_bit, high, low, ← stop_eq]
  pointwise [k0_pay2]

/-- A hidden unit of a row and of the row after it. -/
abbrev unit (r : Fin 128) (h : Fin 256) : EReal :=
  unitOf (fun k => x (ix4 0 0 r k)) (fun k => x (ix4 0 0 (next r) k)) (fun k => p (ix2 0 k)) (fun k => p' (ix2 0 k)) (fun k h => w (ix2 k h)) (fun k h => w' (ix2 k h))
    (fun h => b (ix2 0 h)) h

/-- A column of a row and of the row after it, compressed. -/
abbrev made (r : Fin 128) (e : Fin 128) : EReal :=
  token (fun k => x (ix4 0 0 r k)) (fun k => x (ix4 0 0 (next r) k)) (fun k => p (ix2 0 k)) (fun k => p' (ix2 0 k)) (fun k h => w (ix2 k h)) (fun k h => w' (ix2 k h))
    (fun h => b (ix2 0 h)) (fun h e => v (ix2 h e)) (fun e => q (ix2 0 e)) e

/-- A hidden unit of the second group's values. -/
theorem unit_apply : k0_pay13 (F := Ideal) x p p' w w' b (ix2 r h) = unit x p p' w w' b r h := by
  simp only [unit, next_eq]
  pointwise [k0_pay13, unitOf]

/-- The first group's keys before their norm. -/
theorem made_apply : k0_pay4 (F := Ideal) (k0_pay3 (F := Ideal) x) p p' w w' b v q (ix2 r e) = made x p p' w w' b v q r e := by
  simp only [made, next_eq]
  pointwise [k0_pay3, k0_pay4, token, gelu, unitOf]

/-- The first group's keys. -/
theorem normed_apply (f y : S128x128.Idx → EReal) (i j : Fin 1) :
    k0_pay5 (F := Ideal) f y g (ix4 i j r e) = headNorm (fun e => y (ix2 r e)) (fun e => g (ix2 0 e)) e + f (ix2 r e) := by
  pointwise [k0_pay5, headNorm]

/-- The second group's keys. -/
theorem other_apply (f : S128x128.Idx → EReal) (i j : Fin 1) :
    k0_pay12 (F := Ideal) f g (k0_pay11 (F := Ideal) (k0_pay9 (F := Ideal) x p) (k0_pay10 (F := Ideal) x p') w w' b v q) (ix4 i j r e)
      = headNorm (fun e => made x p p' w w' b v q r e) (fun e => g (ix2 0 e)) e + f (ix2 r e) := by
  simp only [made, next_eq]
  pointwise [k0_pay8, k0_pay9, k0_pay10, k0_pay11, k0_pay12, headNorm, token, gelu, unitOf]

/-- The first group's values. -/
theorem value_apply (i j : Fin 1) : k0_pay7 (F := Ideal) (k0_pay6 (F := Ideal) x p p' w w') b v q (ix4 i j r e) = made x p p' w w' b v q r e := by
  simp only [made, next_eq]
  pointwise [k0_pay6, k0_pay7, token, gelu, unitOf]

/-- The second group's values. -/
theorem other_value_apply (i j : Fin 1) :
    k0_pay1 (F := Ideal) (k0_pay14 (F := Ideal) x p p' w w' b) (k0_pay15 (F := Ideal) x p p' w w' b) (k0_pay16 (F := Ideal)) v q (ix4 i j r e)
      = made x p p' w w' b v q r e := by
  have hm : made x p p' w w' b v q r e = (∑ h, gelu (k0_pay13 (F := Ideal) x p p' w w' b (ix2 r h)) * v (ix2 h e)) + q (ix2 0 e) := by
    simp only [unit_apply]
    rfl
  rw [hm]
  pointwise [k0_pay1, k0_pay14, k0_pay15, k0_pay16, gelu]

end Cert.CompressIdeal.Tile
end
-- ==== Proof.CompressBlock.lean ====
/- The compression: what each tile stores, and the whole results. -/
module

public import proofs.«01_k».proof.Proof.CompressTile

@[expose] public section

set_option maxRecDepth 16384

noncomputable section

open Idealize.ShloMosaic Idealize.ShloMosaic.TcCoe Idealize.SL.Sem

namespace Cert.CompressIdeal.Block

open Cert.CompressIdeal Cert.CompressIdeal.Gen Cert.ProjScore Cert.CompressScore

section Loads
variable (x : S1x2x128x1024.Idx → EReal) (p : S2x1024.Idx → EReal) (w : S2048x256.Idx → EReal) (r : Fin 128) (k : Fin 1024) (h : Fin 256)

/-- What each load of a tile reads of its block. -/
theorem ld_first : @View.ld (Elt Ideal) S1x2x128x1024 .bf16 x r0_0 (ix4 0 0 r k) = x (ix4 0 0 r k) := by
  pointwise

theorem ld_second : @View.ld (Elt Ideal) S1x2x128x1024 .bf16 x r0_9 (ix4 0 0 r k) = x (ix4 0 1 r k) := by
  pointwise

theorem ld_offset : @View.ld (Elt Ideal) S2x1024 .f32 p r0_1 (ix2 0 k) = p (ix2 0 k) := by
  pointwise

theorem ld_offset' : @View.ld (Elt Ideal) S2x1024 .f32 p r0_2 (ix2 0 k) = p (ix2 1 k) := by
  pointwise

theorem ld_upper : @View.ld (Elt Ideal) S2048x256 .bf16 w r0_3 (ix2 k h) = w (ix2 (upper k) h) := by
  pointwise [upper]

theorem ld_lower : @View.ld (Elt Ideal) S2048x256 .bf16 w r0_4 (ix2 k h) = w (ix2 (lower k) h) := by
  pointwise [lower]

end Loads

section Stores
variable (x0 x1 : S1x2x128x1024.Idx → EReal) (x2 x3 : S2x1024.Idx → EReal) (x4 : S2048x256.Idx → EReal) (x5 : S1x256.Idx → EReal) (x6 : S256x128.Idx → EReal)
  (x7 : S1x128.Idx → EReal) (x8 : S2048x256.Idx → EReal) (x9 : S1x256.Idx → EReal) (x10 : S256x128.Idx → EReal) (x11 x12 : S1x128.Idx → EReal)

/-- A column of a block's tile, compressed. -/
abbrev small (x : S1x2x128x1024.Idx → EReal) (p : S2x1024.Idx → EReal) (w : S2048x256.Idx → EReal) (b : S1x256.Idx → EReal) (v : S256x128.Idx → EReal)
    (q : S1x128.Idx → EReal) (g : Fin 2) (r e : Fin 128) : EReal :=
  token (fun k => x (ix4 0 g r k)) (fun k => x (ix4 0 g (next r) k)) (fun k => p (ix2 0 k)) (fun k => p (ix2 1 k))
    (fun k h => w (ix2 (upper k) h)) (fun k h => w (ix2 (lower k) h)) (fun h => b (ix2 0 h)) (fun h e => v (ix2 h e)) (fun e => q (ix2 0 e)) e

theorem made_first (x : S1x2x128x1024.Idx → EReal) (p : S2x1024.Idx → EReal) (w : S2048x256.Idx → EReal) (b : S1x256.Idx → EReal) (v : S256x128.Idx → EReal)
    (q : S1x128.Idx → EReal) (r e : Fin 128) :
    Tile.made (@View.ld (Elt Ideal) S1x2x128x1024 .bf16 x r0_0) (@View.ld (Elt Ideal) S2x1024 .f32 p r0_1) (@View.ld (Elt Ideal) S2x1024 .f32 p r0_2)
      (@View.ld (Elt Ideal) S2048x256 .bf16 w r0_3) (@View.ld (Elt Ideal) S2048x256 .bf16 w r0_4) b v q r e = small x p w b v q 0 r e :=
  token_congr _ _ _ e (fun k => ld_first x r k) (fun k => ld_first x (next r) k) (fun k => ld_offset p k) (fun k => ld_offset' p k)
    (fun k h => ld_upper w k h) (fun k h => ld_lower w k h)

theorem made_second (x : S1x2x128x1024.Idx → EReal) (p : S2x1024.Idx → EReal) (w : S2048x256.Idx → EReal) (b : S1x256.Idx → EReal) (v : S256x128.Idx → EReal)
    (q : S1x128.Idx → EReal) (r e : Fin 128) :
    Tile.made (@View.ld (Elt Ideal) S1x2x128x1024 .bf16 x r0_9) (@View.ld (Elt Ideal) S2x1024 .f32 p r0_1) (@View.ld (Elt Ideal) S2x1024 .f32 p r0_2)
      (@View.ld (Elt Ideal) S2048x256 .bf16 w r0_3) (@View.ld (Elt Ideal) S2048x256 .bf16 w r0_4) b v q r e = small x p w b v q 1 r e :=
  token_congr _ _ _ e (fun k => ld_second x r k) (fun k => ld_second x (next r) k) (fun k => ld_offset p k) (fun k => ld_offset' p k)
    (fun k h => ld_upper w k h) (fun k h => ld_lower w k h)

/-- The keys a tile stores. -/
theorem keys_apply (g : Fin 2) (r e : Fin 128) : (out0_13 (F := Ideal) x0 x1 x2 x3 x4 x5 x6 x7 x8 x9 x10 x11 x12 : S1x2x128x128.Idx → EReal) (ix4 0 g r e)
    = headNorm (fun e => small x0 x2 x4 x5 x6 x7 g r e) (fun e => x12 (ix2 0 e)) e + place (stop r) e := by
  unfold out0_13 k0_pay17
  frame_out
  canon_tiles x hx
  · obtain ⟨r', e', rfl⟩ : ∃ r' e' : Fin 128, x = ix4 0 0 r' e' := ⟨x 2, x 3, by idx_vars x; blk_ext⟩
    obtain rfl : g = 1 := Fin.ext hx1
    obtain rfl : r = r' := Fin.ext hx2
    obtain rfl : e = e' := Fin.ext hx3
    refine (Tile.other_apply _ _ _ _ _ _ _ _ _ r e _ 0 0).trans ?_
    rw [Tile.place_apply, funext fun e => made_second x0 x2 x4 x5 x6 x7 r e]
  · obtain ⟨r', e', rfl⟩ : ∃ r' e' : Fin 128, x = ix4 0 0 r' e' := ⟨x 2, x 3, by idx_vars x; blk_ext⟩
    obtain rfl : g = 0 := Fin.ext hx1
    obtain rfl : r = r' := Fin.ext hx2
    obtain rfl : e = e' := Fin.ext hx3
    refine (Tile.normed_apply _ r e _ _ 0 0).trans ?_
    rw [Tile.place_apply, funext fun e => Tile.made_apply _ _ _ _ _ _ _ _ r e, funext fun e => made_first x0 x2 x4 x5 x6 x7 r e]

/-- The values a tile stores. -/
theorem values_apply (g : Fin 2) (r e : Fin 128) : (out0_14 (F := Ideal) x0 x1 x2 x3 x4 x5 x6 x7 x8 x9 x10 x11 x12 : S1x2x128x128.Idx → EReal) (ix4 0 g r e)
    = small x1 x3 x8 x9 x10 x11 g r e := by
  unfold out0_14
  frame_out
  canon_tiles x hx
  · obtain ⟨r', e', rfl⟩ : ∃ r' e' : Fin 128, x = ix4 0 0 r' e' := ⟨x 2, x 3, by idx_vars x; blk_ext⟩
    obtain rfl : g = 1 := Fin.ext hx1
    obtain rfl : r = r' := Fin.ext hx2
    obtain rfl : e = e' := Fin.ext hx3
    refine (Tile.other_value_apply _ _ _ _ _ _ _ _ r e 0 0).trans ?_
    exact made_second x1 x3 x8 x9 x10 x11 r e
  · obtain ⟨r', e', rfl⟩ : ∃ r' e' : Fin 128, x = ix4 0 0 r' e' := ⟨x 2, x 3, by idx_vars x; blk_ext⟩
    obtain rfl : g = 0 := Fin.ext hx1
    obtain rfl : r = r' := Fin.ext hx2
    obtain rfl : e = e' := Fin.ext hx3
    refine (Tile.value_apply _ _ _ _ _ _ _ _ r e 0 0).trans ?_
    exact made_first x1 x3 x8 x9 x10 x11 r e

end Stores

variable (m : (ℓ : Loc nD τ sig) → Buf (Elt Ideal) ℓ) (c : Dev nD)

/-- The sequence a grid point works on. -/
def seq (t : Fin cfg0.N) : Fin 32 := ⟨t.val, by have : t.val < 32 := t.isLt; omega⟩
theorem idx : ∀ t : Fin cfg0.N, win0_0.index t = ![t.val, 0, 0, 0] ∧ win0_1.index t = ![t.val, 0, 0, 0] ∧ win0_13.index t = ![t.val, 0, 0, 0] ∧ win0_14.index t = ![t.val, 0, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] := by
  decide +kernel

/-- Where an element of a tile's block sits in its array, and what a tile reads. -/
theorem emb_0 (t : Fin cfg0.N) (g : Fin 2) (r : Fin 128) (k : Fin 1024) : ((win0_0.blk t).view.emb (ix4 0 g r k) : S32x2x128x1024.Idx) = ix4 (seq t) g r k := by
  blk_ext [idx t] <;> rfl

theorem read_0 (t : Fin cfg0.N) (g : Fin 2) (r : Fin 128) (k : Fin 1024) : (iblk m c 0 t : S1x2x128x1024.Idx → EReal) (ix4 0 g r k)
    = (m ((c.tc : Thread nD τ).loc main_arg0) : S32x2x128x1024.Idx → EReal) (ix4 (seq t) g r k) :=
  (congrArg (V m c main_arg0 : S32x2x128x1024.Idx → EReal) (emb_0 t g r k)).trans (congrFun (V_main_arg0 m c) _)

theorem emb_1 (t : Fin cfg0.N) (g : Fin 2) (r : Fin 128) (k : Fin 1024) : ((win0_1.blk t).view.emb (ix4 0 g r k) : S32x2x128x1024.Idx) = ix4 (seq t) g r k := by
  blk_ext [idx t] <;> rfl

theorem read_1 (t : Fin cfg0.N) (g : Fin 2) (r : Fin 128) (k : Fin 1024) : (iblk m c 1 t : S1x2x128x1024.Idx → EReal) (ix4 0 g r k)
    = (m ((c.tc : Thread nD τ).loc main_arg1) : S32x2x128x1024.Idx → EReal) (ix4 (seq t) g r k) :=
  (congrArg (V m c main_arg1 : S32x2x128x1024.Idx → EReal) (emb_1 t g r k)).trans (congrFun (V_main_arg1 m c) _)

theorem emb_13 (t : Fin cfg0.N) (g : Fin 2) (r : Fin 128) (k : Fin 128) : ((win0_13.blk t).view.emb (ix4 0 g r k) : S32x2x128x128.Idx) = ix4 (seq t) g r k := by
  blk_ext [idx t] <;> rfl

theorem emb_14 (t : Fin cfg0.N) (g : Fin 2) (r : Fin 128) (k : Fin 128) : ((win0_14.blk t).view.emb (ix4 0 g r k) : S32x2x128x128.Idx) = ix4 (seq t) g r k := by
  blk_ext [idx t] <;> rfl

theorem emb_2 (t : Fin cfg0.N) (i : Fin 2) (k : Fin 1024) : ((win0_2.blk t).view.emb (ix2 i k) : S2x1024.Idx) = ix2 i k := by
  blk_ext [idx t]

theorem read_2 (t : Fin cfg0.N) (i : Fin 2) (k : Fin 1024) : (iblk m c 2 t : S2x1024.Idx → EReal) (ix2 i k)
    = (m ((c.tc : Thread nD τ).loc main_arg2) : S2x1024.Idx → EReal) (ix2 i k) :=
  (congrArg (V m c main_arg2 : S2x1024.Idx → EReal) (emb_2 t i k)).trans (congrFun (V_main_arg2 m c) _)

theorem emb_3 (t : Fin cfg0.N) (i : Fin 2) (k : Fin 1024) : ((win0_3.blk t).view.emb (ix2 i k) : S2x1024.Idx) = ix2 i k := by
  blk_ext [idx t]

theorem read_3 (t : Fin cfg0.N) (i : Fin 2) (k : Fin 1024) : (iblk m c 3 t : S2x1024.Idx → EReal) (ix2 i k)
    = (m ((c.tc : Thread nD τ).loc main_arg3) : S2x1024.Idx → EReal) (ix2 i k) :=
  (congrArg (V m c main_arg3 : S2x1024.Idx → EReal) (emb_3 t i k)).trans (congrFun (V_main_arg3 m c) _)

theorem emb_4 (t : Fin cfg0.N) (i : Fin 2048) (k : Fin 256) : ((win0_4.blk t).view.emb (ix2 i k) : S2048x256.Idx) = ix2 i k := by
  blk_ext [idx t]

theorem read_4 (t : Fin cfg0.N) (i : Fin 2048) (k : Fin 256) : (iblk m c 4 t : S2048x256.Idx → EReal) (ix2 i k)
    = (m ((c.tc : Thread nD τ).loc main_arg4) : S2048x256.Idx → EReal) (ix2 i k) :=
  (congrArg (V m c main_arg4 : S2048x256.Idx → EReal) (emb_4 t i k)).trans (congrFun (V_main_arg4 m c) _)

theorem emb_5 (t : Fin cfg0.N) (i : Fin 1) (k : Fin 256) : ((win0_5.blk t).view.emb (ix2 i k) : S1x256.Idx) = ix2 i k := by
  blk_ext [idx t]

theorem read_5 (t : Fin cfg0.N) (i : Fin 1) (k : Fin 256) : (iblk m c 5 t : S1x256.Idx → EReal) (ix2 i k)
    = (m ((c.tc : Thread nD τ).loc main_arg5) : S1x256.Idx → EReal) (ix2 i k) :=
  (congrArg (V m c main_arg5 : S1x256.Idx → EReal) (emb_5 t i k)).trans (congrFun (V_main_arg5 m c) _)

theorem emb_6 (t : Fin cfg0.N) (i : Fin 256) (k : Fin 128) : ((win0_6.blk t).view.emb (ix2 i k) : S256x128.Idx) = ix2 i k := by
  blk_ext [idx t]

theorem read_6 (t : Fin cfg0.N) (i : Fin 256) (k : Fin 128) : (iblk m c 6 t : S256x128.Idx → EReal) (ix2 i k)
    = (m ((c.tc : Thread nD τ).loc main_arg6) : S256x128.Idx → EReal) (ix2 i k) :=
  (congrArg (V m c main_arg6 : S256x128.Idx → EReal) (emb_6 t i k)).trans (congrFun (V_main_arg6 m c) _)

theorem emb_7 (t : Fin cfg0.N) (i : Fin 1) (k : Fin 128) : ((win0_7.blk t).view.emb (ix2 i k) : S1x128.Idx) = ix2 i k := by
  blk_ext [idx t]

theorem read_7 (t : Fin cfg0.N) (i : Fin 1) (k : Fin 128) : (iblk m c 7 t : S1x128.Idx → EReal) (ix2 i k)
    = (m ((c.tc : Thread nD τ).loc main_arg7) : S1x128.Idx → EReal) (ix2 i k) :=
  (congrArg (V m c main_arg7 : S1x128.Idx → EReal) (emb_7 t i k)).trans (congrFun (V_main_arg7 m c) _)

theorem emb_8 (t : Fin cfg0.N) (i : Fin 2048) (k : Fin 256) : ((win0_8.blk t).view.emb (ix2 i k) : S2048x256.Idx) = ix2 i k := by
  blk_ext [idx t]

theorem read_8 (t : Fin cfg0.N) (i : Fin 2048) (k : Fin 256) : (iblk m c 8 t : S2048x256.Idx → EReal) (ix2 i k)
    = (m ((c.tc : Thread nD τ).loc main_arg8) : S2048x256.Idx → EReal) (ix2 i k) :=
  (congrArg (V m c main_arg8 : S2048x256.Idx → EReal) (emb_8 t i k)).trans (congrFun (V_main_arg8 m c) _)

theorem emb_9 (t : Fin cfg0.N) (i : Fin 1) (k : Fin 256) : ((win0_9.blk t).view.emb (ix2 i k) : S1x256.Idx) = ix2 i k := by
  blk_ext [idx t]

theorem read_9 (t : Fin cfg0.N) (i : Fin 1) (k : Fin 256) : (iblk m c 9 t : S1x256.Idx → EReal) (ix2 i k)
    = (m ((c.tc : Thread nD τ).loc main_arg9) : S1x256.Idx → EReal) (ix2 i k) :=
  (congrArg (V m c main_arg9 : S1x256.Idx → EReal) (emb_9 t i k)).trans (congrFun (V_main_arg9 m c) _)

theorem emb_10 (t : Fin cfg0.N) (i : Fin 256) (k : Fin 128) : ((win0_10.blk t).view.emb (ix2 i k) : S256x128.Idx) = ix2 i k := by
  blk_ext [idx t]

theorem read_10 (t : Fin cfg0.N) (i : Fin 256) (k : Fin 128) : (iblk m c 10 t : S256x128.Idx → EReal) (ix2 i k)
    = (m ((c.tc : Thread nD τ).loc main_arg10) : S256x128.Idx → EReal) (ix2 i k) :=
  (congrArg (V m c main_arg10 : S256x128.Idx → EReal) (emb_10 t i k)).trans (congrFun (V_main_arg10 m c) _)

theorem emb_11 (t : Fin cfg0.N) (i : Fin 1) (k : Fin 128) : ((win0_11.blk t).view.emb (ix2 i k) : S1x128.Idx) = ix2 i k := by
  blk_ext [idx t]

theorem read_11 (t : Fin cfg0.N) (i : Fin 1) (k : Fin 128) : (iblk m c 11 t : S1x128.Idx → EReal) (ix2 i k)
    = (m ((c.tc : Thread nD τ).loc main_arg11) : S1x128.Idx → EReal) (ix2 i k) :=
  (congrArg (V m c main_arg11 : S1x128.Idx → EReal) (emb_11 t i k)).trans (congrFun (V_main_arg11 m c) _)

theorem emb_12 (t : Fin cfg0.N) (i : Fin 1) (k : Fin 128) : ((win0_12.blk t).view.emb (ix2 i k) : S1x128.Idx) = ix2 i k := by
  blk_ext [idx t]

theorem read_12 (t : Fin cfg0.N) (i : Fin 1) (k : Fin 128) : (iblk m c 12 t : S1x128.Idx → EReal) (ix2 i k)
    = (m ((c.tc : Thread nD τ).loc main_arg12) : S1x128.Idx → EReal) (ix2 i k) :=
  (congrArg (V m c main_arg12 : S1x128.Idx → EReal) (emb_12 t i k)).trans (congrFun (V_main_arg12 m c) _)

/-- The whole keys and values of the kernel's arguments. -/
abbrev allKeys : SC.Idx → EReal :=
  keys (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12))
abbrev allValues : SC.Idx → EReal :=
  values (m ((c.tc : Thread nD τ).loc main_arg1)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))

theorem keys_block (t : Fin cfg0.N) (g : Fin 2) (r e : Fin 128) :
    (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : S1x2x128x128.Idx → EReal) (ix4 0 g r e)
      = allKeys m c (ix4 (seq t) g r e) := by
  refine (keys_apply _ _ _ _ _ _ _ _ _ _ _ _ _ g r e).trans ?_
  simp only [small, read_0 m c t, read_2 m c t, read_4 m c t, read_5 m c t, read_6 m c t, read_7 m c t, read_12 m c t]
  rfl

theorem values_block (t : Fin cfg0.N) (g : Fin 2) (r e : Fin 128) :
    (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : S1x2x128x128.Idx → EReal) (ix4 0 g r e)
      = allValues m c (ix4 (seq t) g r e) := by
  refine (values_apply _ _ _ _ _ _ _ _ _ _ _ _ _ g r e).trans ?_
  simp only [small, read_1 m c t, read_3 m c t, read_8 m c t, read_9 m c t, read_10 m c t, read_11 m c t]
  rfl

/-- The kernel's keys end as the whole keys. -/
theorem keys_final : (dats m 0 c).arrAt 13 cfg0.N = allKeys m c := by
  refine (dats m 0 c).arrAt_eq_of_covers 13 (allKeys m c) (by decide +kernel) fun t _ y => ?_
  blk_simp
  rw [after0_13]
  obtain ⟨g, r, e, rfl⟩ : ∃ (g : Fin 2) (r e : Fin 128), y = ix4 0 g r e := by
    exact ⟨y 1, y 2, y 3, by idx_vars y; blk_ext⟩
  refine (keys_block m c t g r e).trans ?_
  rw [show (win0_13.blk t).view.emb (ix4 0 g r e) = ix4 (seq t) g r e from emb_13 t g r e]

/-- The kernel's values end as the whole values. -/
theorem values_final : (dats m 0 c).arrAt 14 cfg0.N = allValues m c := by
  refine (dats m 0 c).arrAt_eq_of_covers 14 (allValues m c) (by decide +kernel) fun t _ y => ?_
  blk_simp
  rw [after0_14]
  obtain ⟨g, r, e, rfl⟩ : ∃ (g : Fin 2) (r e : Fin 128), y = ix4 0 g r e := by
    exact ⟨y 1, y 2, y 3, by idx_vars y; blk_ext⟩
  refine (values_block m c t g r e).trans ?_
  rw [show (win0_14.blk t).view.emb (ix4 0 g r e) = ix4 (seq t) g r e from emb_14 t g r e]

end Cert.CompressIdeal.Block
end
-- ==== Proof.CompressRefValue.lean ====
/- The reference of the compression, read at one place of each result. -/
module

public import proofs.«01_k».proof.Proof.Gen.CompressRefIdeal.Read
public import proofs.«01_k».proof.Proof.CompressScore
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.CompressRefIdeal.Sum

open Cert.CompressRefIdeal Cert.CompressRefIdeal.Read Cert.ProjScore Cert.CompressScore

variable (A : S32x2x128x1024.Idx → EReal) (P : S2x1024.Idx → EReal) (W : S2048x256.Idx → EReal) (B : S1x256.Idx → EReal) (V : S256x128.Idx → EReal)
  (Q G : S1x128.Idx → EReal) (b : Fin 32) (g : Fin 2) (r : Fin 128) (k : Fin 1024) (h : Fin 256) (e : Fin 128)

/-- A sum over the joined columns of two chunks, cut where they join. -/
theorem sum_cut (f : Fin 2048 → EReal) : (∑ k, f k) = (∑ k, f (upper k)) + ∑ k, f (lower k) :=
  Fin.sum_univ_add (a := 1024) (b := 1024) f

theorem shift_8 (x : BitVec 32) : IntOp.shrsi .host x 8#32 = IntOp.shrsi .vector x 8#32 := by
  simp [IntOp.shrsi]

/-- The position a block ends at. -/
theorem stop_eq : ∀ r : Fin 128, IntOp.addi (IntOp.muli 16#32 (BitVec.ofNat 32 r.val)) 31#32 = stop r := by
  decide +kernel

/-- The chunk after each chunk, for the keys. -/
theorem key_after : val_main_v3 (F := Ideal) A (ix4 b g r k) = A (ix4 b g (next r) k) := by
  pointwise [val_main_v3, val_main_v2, val_main_v1, val_main_v0]
  split
  · exact congrArg (fun i => A (ix4 b g i k)) (Fin.ext (by simp only [next]; omega))
  · exact congrArg (fun i => A (ix4 b g i k)) (Fin.ext (by simp only [next]; omega))

/-- The two chunks shifted, for the keys. -/
theorem key_own : val_main_v8 (F := Ideal) A P (ix4 b g r k) = A (ix4 b g r k) + P (ix2 0 k) := by
  pointwise [val_main_v8, val_main_v7, val_main_v6, val_main_v5, val_main_v4, val_main_v0]

theorem key_other : val_main_v13 (F := Ideal) A P (ix4 b g r k) = A (ix4 b g (next r) k) + P (ix2 1 k) := by
  rw [← key_after A]
  unfold val_main_v13
  generalize val_main_v3 (F := Ideal) A = q
  pointwise [val_main_v12, val_main_v11, val_main_v10, val_main_v9]

theorem key_upper : val_main_v14 (F := Ideal) A P (ix4 b g r (upper k)) = A (ix4 b g r k) + P (ix2 0 k) := by
  rw [← key_own]
  unfold val_main_v14
  generalize val_main_v8 (F := Ideal) A P = y
  generalize val_main_v13 (F := Ideal) A P = z
  pointwise [upper]

theorem key_lower : val_main_v14 (F := Ideal) A P (ix4 b g r (lower k)) = A (ix4 b g (next r) k) + P (ix2 1 k) := by
  rw [← key_other]
  unfold val_main_v14
  generalize val_main_v8 (F := Ideal) A P = y
  generalize val_main_v13 (F := Ideal) A P = z
  pointwise [lower]

/-- A hidden unit of the keys. -/
theorem key_unit : val_main_v20 (F := Ideal) A P W B (ix4 b g r h)
    = unitOf (fun k => A (ix4 b g r k)) (fun k => A (ix4 b g (next r) k)) (fun k => P (ix2 0 k)) (fun k => P (ix2 1 k))
      (fun k h => W (ix2 (upper k) h)) (fun k h => W (ix2 (lower k) h)) (fun h => B (ix2 0 h)) h := by
  have el (k : Fin 2048) : lidx_main_v16 (ix4 b g r h) k = ix4 b g r k := by blk_ext
  have er (k : Fin 2048) : ridx_main_v16 (ix4 b g r h) k = ix2 k h := by blk_ext
  rw [val_main_v20_apply, val_main_v16_apply, val_main_v19_apply, val_main_v18_apply, val_main_v17_apply, show idx_main_v17 (idx_main_v18 (idx_main_v19 (ix4 b g r h))) = ix2 0 h by blk_ext, sum_cut]
  simp only [el, er, key_upper, key_lower, val_main_v15_apply]
  rfl

/-- A gated hidden unit of the keys. -/
theorem key_gelu : val_main_v33 (F := Ideal) A P W B (ix4 b g r h) = gelu (val_main_v20 (F := Ideal) A P W B (ix4 b g r h)) := by
  unfold val_main_v33 val_main_v32 val_main_v30 val_main_v29 val_main_v27 val_main_v26 val_main_v24 val_main_v23 val_main_v22
  generalize val_main_v20 (F := Ideal) A P W B = y
  pointwise [gelu, val_main_v31, val_main_v28, val_main_v25, val_main_v21, val_main_cst, val_main_cst_0, val_main_cst_1, val_main_cst_2]

/-- A column of the keys. -/
theorem key_made : val_main_v39 (F := Ideal) A P W B V Q (ix4 b g r e) = at_ A P W B V Q b g r e := by
  have el (h : Fin 256) : lidx_main_v35 (ix4 b g r e) h = ix4 b g r h := by blk_ext
  have er (h : Fin 256) : ridx_main_v35 (ix4 b g r e) h = ix2 h e := by blk_ext
  rw [val_main_v39_apply, val_main_v35_apply, val_main_v38_apply, val_main_v37_apply, val_main_v36_apply, show idx_main_v36 (idx_main_v37 (idx_main_v38 (ix4 b g r e))) = ix2 0 e by blk_ext]
  simp only [el, er, key_gelu, key_unit, val_main_v34_apply]
  rfl

/-- The chunk after each chunk, for the values. -/
theorem value_after : val_main_v94 (F := Ideal) A (ix4 b g r k) = A (ix4 b g (next r) k) := by
  pointwise [val_main_v94, val_main_v93, val_main_v92, val_main_v91]
  split
  · exact congrArg (fun i => A (ix4 b g i k)) (Fin.ext (by simp only [next]; omega))
  · exact congrArg (fun i => A (ix4 b g i k)) (Fin.ext (by simp only [next]; omega))

/-- The two chunks shifted, for the values. -/
theorem value_own : val_main_v99 (F := Ideal) A P (ix4 b g r k) = A (ix4 b g r k) + P (ix2 0 k) := by
  pointwise [val_main_v99, val_main_v98, val_main_v97, val_main_v96, val_main_v95, val_main_v91]

theorem value_other : val_main_v104 (F := Ideal) A P (ix4 b g r k) = A (ix4 b g (next r) k) + P (ix2 1 k) := by
  rw [← value_after A]
  unfold val_main_v104
  generalize val_main_v94 (F := Ideal) A = q
  pointwise [val_main_v103, val_main_v102, val_main_v101, val_main_v100]

theorem value_upper : val_main_v105 (F := Ideal) A P (ix4 b g r (upper k)) = A (ix4 b g r k) + P (ix2 0 k) := by
  rw [← value_own]
  unfold val_main_v105
  generalize val_main_v99 (F := Ideal) A P = y
  generalize val_main_v104 (F := Ideal) A P = z
  pointwise [upper]

theorem value_lower : val_main_v105 (F := Ideal) A P (ix4 b g r (lower k)) = A (ix4 b g (next r) k) + P (ix2 1 k) := by
  rw [← value_other]
  unfold val_main_v105
  generalize val_main_v99 (F := Ideal) A P = y
  generalize val_main_v104 (F := Ideal) A P = z
  pointwise [lower]

/-- A hidden unit of the values. -/
theorem value_unit : val_main_v111 (F := Ideal) A P W B (ix4 b g r h)
    = unitOf (fun k => A (ix4 b g r k)) (fun k => A (ix4 b g (next r) k)) (fun k => P (ix2 0 k)) (fun k => P (ix2 1 k))
      (fun k h => W (ix2 (upper k) h)) (fun k h => W (ix2 (lower k) h)) (fun h => B (ix2 0 h)) h := by
  have el (k : Fin 2048) : lidx_main_v107 (ix4 b g r h) k = ix4 b g r k := by blk_ext
  have er (k : Fin 2048) : ridx_main_v107 (ix4 b g r h) k = ix2 k h := by blk_ext
  rw [val_main_v111_apply, val_main_v107_apply, val_main_v110_apply, val_main_v109_apply, val_main_v108_apply, show idx_main_v108 (idx_main_v109 (idx_main_v110 (ix4 b g r h))) = ix2 0 h by blk_ext, sum_cut]
  simp only [el, er, value_upper, value_lower, val_main_v106_apply]
  rfl

/-- A gated hidden unit of the values. -/
theorem value_gelu : val_main_v124 (F := Ideal) A P W B (ix4 b g r h) = gelu (val_main_v111 (F := Ideal) A P W B (ix4 b g r h)) := by
  unfold val_main_v124 val_main_v123 val_main_v121 val_main_v120 val_main_v118 val_main_v117 val_main_v115 val_main_v114 val_main_v113
  generalize val_main_v111 (F := Ideal) A P W B = y
  pointwise [gelu, val_main_v122, val_main_v119, val_main_v116, val_main_v112, val_main_cst_16, val_main_cst_17, val_main_cst_18, val_main_cst_19]

/-- A column of the values. -/
theorem value_made : val_main_v130 (F := Ideal) A P W B V Q (ix4 b g r e) = at_ A P W B V Q b g r e := by
  have el (h : Fin 256) : lidx_main_v126 (ix4 b g r e) h = ix4 b g r h := by blk_ext
  have er (h : Fin 256) : ridx_main_v126 (ix4 b g r e) h = ix2 h e := by blk_ext
  rw [val_main_v130_apply, val_main_v126_apply, val_main_v129_apply, val_main_v128_apply, val_main_v127_apply, show idx_main_v127 (idx_main_v128 (idx_main_v129 (ix4 b g r e))) = ix2 0 e by blk_ext]
  simp only [el, er, value_gelu, value_unit, val_main_v125_apply]
  rfl

/-- The position features of the keys. -/
theorem key_stop (i : Fin 1) : val_main_v58 (F := Ideal) (ix2 r i) = stop r := by
  rw [← stop_eq]
  pointwise [val_main_v58, val_main_v57, val_main_v56, val_main_v55, val_main_v54, val_main_c, val_main_c_6]

theorem key_place : val_main_v88 (F := Ideal) (ix4 b g r e) = place (stop r) e := by
  rw [← key_stop r 0]
  unfold val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59
  generalize val_main_v58 (F := Ideal) = y
  pointwise [place, high, low, val_main_c_7, val_main_c_8, val_main_c_9, val_main_c_10, val_main_c_11, val_main_c_13, val_main_c_14, val_main_cst_12, val_main_cst_15]
  rw [shift_8]

/-- The normed keys. -/
theorem key_head : val_main_v53 (F := Ideal) A P W B V Q G (ix4 b g r e) = headNorm (fun e => at_ A P W B V Q b g r e) (fun e => G (ix2 0 e)) e := by
  have e3 (j : S_.Idx) : val_main_cst_3 (F := Ideal) j = 0 := Ideal.ofBits_zero .f32
  have e1 (k : Fin 128) : idx_main_v41 (idx_main_v42 (idx_main_v48 (ix4 b g r e))) k = ix4 b g r k := by blk_ext
  rw [val_main_v53_apply, val_main_v49_apply, val_main_v52_apply, val_main_v51_apply, val_main_v50_apply, val_main_v48_apply, val_main_v47_apply, val_main_v46_apply, val_main_v44_apply, val_main_v42_apply, val_main_v41_apply, val_main_v43_apply, val_main_v45_apply, val_main_cst_4_apply, val_main_cst_5_apply,
    show idx_main_v50 (idx_main_v51 (idx_main_v52 (ix4 b g r e))) = ix2 0 e by blk_ext, key_made, e3, zero_add]
  simp only [e1, val_main_v40_apply, key_made]
  rfl

/-- The reference's keys and values. -/
theorem keys_eq : val_main_v90 (F := Ideal) A P W B V Q G = keys A P W B V Q G := by
  funext j
  obtain ⟨b, g, r, e, rfl⟩ : ∃ (b : Fin 32) (g : Fin 2) (r e : Fin 128), j = ix4 b g r e := by
    exact ⟨j 0, j 1, j 2, j 3, by idx_vars j; blk_ext⟩
  rw [val_main_v90_apply, val_main_v89_apply, key_head, key_place]
  rfl

theorem values_eq : val_main_v131 (F := Ideal) A P W B V Q = values A P W B V Q := by
  funext j
  obtain ⟨b, g, r, e, rfl⟩ : ∃ (b : Fin 32) (g : Fin 2) (r e : Fin 128), j = ix4 b g r e := by
    exact ⟨j 0, j 1, j 2, j 3, by idx_vars j; blk_ext⟩
  rw [val_main_v131_apply, value_made]
  rfl

end Cert.CompressRefIdeal.Sum
end
-- ==== Proof.lean ====
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxIdeal.Value
public import proofs.«01_k».proof.Proof.Gen.FoxRefIdeal.Run
public import proofs.«01_k».proof.Proof.Gen.FoxRefIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal.Run
public import proofs.«01_k».proof.Proof.Gen.ExpertsRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressIdeal.Value
public import proofs.«01_k».proof.Proof.Gen.CompressRefIdeal.Run
public import proofs.«01_k».proof.Proof.Gen.CompressRefIdeal.Read
public import proofs.«01_k».proof.Proof.Gen.Nsa
public import proofs.«01_k».proof.Proof.Gen.Nsa.Skeleton
public import proofs.«01_k».proof.Proof.Gen.Nsa.Launch
public import proofs.«01_k».proof.Proof.Gen.Nsa.Points
public import proofs.«01_k».proof.Proof.Gen.Nsa.Frame
public import proofs.«01_k».proof.Proof.Gen.NsaIdeal
public import proofs.«01_k».proof.Proof.Gen.NsaIdeal.Skeleton
public import proofs.«01_k».proof.Proof.Gen.NsaIdeal.Launch
public import proofs.«01_k».proof.Proof.Gen.NsaIdeal.Points
public import proofs.«01_k».proof.Proof.Gen.NsaIdeal.Frame
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.FoxBlock
public import proofs.«01_k».proof.Proof.FoxRefValue
public import proofs.«01_k».proof.Proof.FoxPre
public import proofs.«01_k».proof.Proof.ExpertsFrame
public import proofs.«01_k».proof.Proof.ExpertsOk
public import proofs.«01_k».proof.Proof.ExpertsBlock
public import proofs.«01_k».proof.Proof.ExpertsRefValue
public import proofs.«01_k».proof.Proof.ExpertsPre
public import proofs.«01_k».proof.Proof.MergeBlock
public import proofs.«01_k».proof.Proof.MergeRefValue
public import proofs.«01_k».proof.Proof.ProjGatedBlock
public import proofs.«01_k».proof.Proof.ProjRefValue
public import proofs.«01_k».proof.Proof.CompressBlock
public import proofs.«01_k».proof.Proof.CompressRefValue
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem
open Cert.FoxScore

/-- The attention kernel and its reference compute the same function of finite queries and keys and of any values. -/
theorem fox : Cert.algebraic_FoxIdeal_FoxRefIdeal_pre_finite_scores := by
  intro m g m' g' hpre hagree
  have hfin (c : Dev Cert.FoxIdeal.nD) := Cert.FoxPre.finite _ _ _ (hpre c)
  refine ⟨fun c => whole (Cert.FoxIdeal.Block.Qm m c) (Cert.FoxIdeal.Block.Km m c) (Cert.FoxIdeal.Block.Vm m c), ?_, ?_⟩
  · run_from Cert.FoxIdeal.Value.run_blocks m g
    exact Cert.FoxIdeal.Block.final m c (hfin c).1 (hfin c).2
  · run_from Cert.FoxRefIdeal.Value.run m' g'
    obtain ⟨hq, hk, hv⟩ := hagree c
    rw [Cert.FoxRefIdeal.Read.val_main_v27_eq, hq, hk, hv]
    exact Cert.FoxRefIdeal.Attn.whole_eq _ (hfin c).1 (hfin c).2

/-- The reference runs, keeps its arguments and leaves every semaphore at zero. -/
theorem frame_ref (m : (ℓ : Loc Cert.FoxRefIdeal.nD Cert.FoxRefIdeal.τ Cert.FoxRefIdeal.sig) → Buf (Elt Ideal) ℓ) (ρ : Dev Cert.FoxRefIdeal.nD → PrngReg) :
    θ_run (Cert.FoxRefIdeal.defs (F := Ideal)) (onTc (τ := Cert.FoxRefIdeal.τ) (Cert.FoxRefIdeal.main (F := Ideal))) ⟨m, fun _ => 0, ρ⟩ fun r =>
      (∀ c : Dev Cert.FoxRefIdeal.nD, r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
        ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
        ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0 :=
  (θ_run Cert.FoxRefIdeal.defs _ _).mono (fun r h => ⟨fun c => (h c).2, Idealize.ShloMosaic.sem_eq_zero_of_no_sems (by decide) r.2⟩)
    (Cert.FoxRefIdeal.Value.run (F := Ideal) m ρ)

/-- The experts' pass and its reference compute the same function of the rows, the tables, the gain, the weights and the biases, when
    every word of the first table names an expert. -/
theorem experts : Cert.algebraic_ExpertsIdeal_ExpertsRefIdeal := by
  intro m g m' g' hpre hagree
  have hn (c : Dev Cert.ExpertsIdeal.nD) := Cert.ExpertsPre.named _ _ _ _ _ _ _ _ _ _ (hpre c)
  refine ⟨fun c => Cert.ExpertsIdeal.Block.result m c, Cert.ExpertsIdeal.Block.run m g hn, ?_⟩
  refine (θ_run Cert.ExpertsRefIdeal.defs _ _).mono (fun r h c => ⟨(h c).1.trans ?_, (h c).2⟩) (Cert.ExpertsRefIdeal.Value.run (F := Ideal) m' g')
  obtain ⟨h0, h1, h2, h3, h4, h5, h6, h7, h8, h9⟩ := hagree c
  refine (Cert.ExpertsRefIdeal.Read.val_main_v63_eq m' c).trans ?_
  rw [h0, h1, h2, h3, h4, h5, h6, h7, h8, h9]
  exact Cert.ExpertsRefIdeal.Sum.whole_eq _ _ _ _ _ _ _ _ _ _ (hn c)

/-- The experts' reference runs, keeps its arguments and leaves every semaphore at zero. -/
theorem frame_ref_experts (m : (ℓ : Loc Cert.ExpertsRefIdeal.nD Cert.ExpertsRefIdeal.τ Cert.ExpertsRefIdeal.sig) → Buf (Elt Ideal) ℓ) (ρ : Dev Cert.ExpertsRefIdeal.nD → PrngReg) :
    θ_run (Cert.ExpertsRefIdeal.defs (F := Ideal)) (onTc (τ := Cert.ExpertsRefIdeal.τ) (Cert.ExpertsRefIdeal.main (F := Ideal))) ⟨m, fun _ => 0, ρ⟩ fun r =>
      (∀ c : Dev Cert.ExpertsRefIdeal.nD,
        r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
          ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9))
      ∧ r.2.sem = fun _ => 0 :=
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

/-- The merge and its reference compute the same function of any arguments. -/
theorem merge : Cert.algebraic_MergeIdeal_MergeRefIdeal := by
  intro m g m' g' hpre hagree
  refine ⟨fun c => Cert.MergeIdeal.Block.target m c, ?_, ?_⟩
  · refine (θ_run Cert.MergeIdeal.defs _ _).mono (fun r h c => ⟨(h c).1.trans (Cert.MergeIdeal.Block.final m c), (h c).2⟩) (Cert.MergeIdeal.Value.run_blocks m g)
  · refine (θ_run Cert.MergeRefIdeal.defs _ _).mono (fun r h c => ⟨(h c).1.trans ?_, (h c).2⟩) (Cert.MergeRefIdeal.Value.run (F := Ideal) m' g')
    obtain ⟨h0, h1, h2, h3, h4, h5, h6, h7, h8⟩ := hagree c
    refine (Cert.MergeRefIdeal.Read.val_main_v39_eq _ _ _ _ _ _ _ _ _).trans ?_
    rw [h0, h1, h2, h3, h4, h5, h6, h7, h8]
    exact Cert.MergeRefIdeal.Sum.whole_eq _ _ _ _ _ _ _ _ _

/-- The merge's reference runs, keeps its arguments and leaves every semaphore at zero. -/
theorem frame_ref_merge (m : (ℓ : Loc Cert.MergeRefIdeal.nD Cert.MergeRefIdeal.τ Cert.MergeRefIdeal.sig) → Buf (Elt Ideal) ℓ) (ρ : Dev Cert.MergeRefIdeal.nD → PrngReg) :
    θ_run (Cert.MergeRefIdeal.defs (F := Ideal)) (onTc (τ := Cert.MergeRefIdeal.τ) (Cert.MergeRefIdeal.main (F := Ideal))) ⟨m, fun _ => 0, ρ⟩ fun r =>
      (∀ c : Dev Cert.MergeRefIdeal.nD,
        r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0 :=
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The input projection and its reference: the same functions of any arguments. -/
theorem proj : Cert.algebraic_ProjIdeal_ProjRefIdeal := by
  intro m g m' g' hpre hagree
  refine ⟨fun c => Cert.ProjScore.queries (Cert.ProjIdeal.Block.X m c) (Cert.ProjIdeal.Block.G m c) (Cert.ProjIdeal.Block.W m c) (Cert.ProjIdeal.Block.N m c),
    fun c => Cert.ProjScore.selected (Cert.ProjIdeal.Block.X m c) (Cert.ProjIdeal.Block.G m c) (Cert.ProjIdeal.Block.W m c) (Cert.ProjIdeal.Block.N m c),
    fun c => Cert.ProjScore.group 1280 256 (by decide) (Cert.ProjIdeal.Block.X m c) (Cert.ProjIdeal.Block.G m c) (Cert.ProjIdeal.Block.W m c),
    fun c => Cert.ProjScore.windowed (Cert.ProjIdeal.Block.X m c) (Cert.ProjIdeal.Block.G m c) (Cert.ProjIdeal.Block.W m c) (Cert.ProjIdeal.Block.N m c),
    fun c => Cert.ProjScore.group 1792 256 (by decide) (Cert.ProjIdeal.Block.X m c) (Cert.ProjIdeal.Block.G m c) (Cert.ProjIdeal.Block.W m c),
    fun c => Cert.ProjScore.group 2048 128 (by decide) (Cert.ProjIdeal.Block.X m c) (Cert.ProjIdeal.Block.G m c) (Cert.ProjIdeal.Block.W m c),
    fun c => Cert.ProjScore.group 2176 128 (by decide) (Cert.ProjIdeal.Block.X m c) (Cert.ProjIdeal.Block.G m c) (Cert.ProjIdeal.Block.W m c),
    fun c => Cert.ProjScore.gatedQueries (Cert.ProjIdeal.Block.X m c) (Cert.ProjIdeal.Block.G m c) (Cert.ProjIdeal.Block.W m c) (Cert.ProjIdeal.Block.N m c) (Cert.ProjIdeal.Block.B m c) (Cert.ProjIdeal.Block.P m c),
    fun c => Cert.ProjScore.gatedKeys (Cert.ProjIdeal.Block.X m c) (Cert.ProjIdeal.Block.G m c) (Cert.ProjIdeal.Block.W m c) (Cert.ProjIdeal.Block.N m c) (Cert.ProjIdeal.Block.B m c) (Cert.ProjIdeal.Block.Q m c),
    fun c => Cert.ProjScore.group 4352 1024 (by decide) (Cert.ProjIdeal.Block.X m c) (Cert.ProjIdeal.Block.G m c) (Cert.ProjIdeal.Block.W m c),
    fun c => Cert.ProjScore.gates (Cert.ProjIdeal.Block.X m c) (Cert.ProjIdeal.Block.G m c) (Cert.ProjIdeal.Block.W m c) (Cert.ProjIdeal.Block.B m c), ?_, ?_⟩
  · refine (θ_run Cert.ProjIdeal.defs _ _).mono (fun r h c => ?_) (Cert.ProjIdeal.Value.run_blocks m g)
    obtain ⟨a0, a1, a2, a3, a4, a5, a6, a7, a8, a9, a10, hk⟩ := h c
    exact ⟨a0.trans (Cert.ProjIdeal.Block.qn_final m c),
      a1.trans (Cert.ProjIdeal.Block.ks_final m c),
      a2.trans (Cert.ProjIdeal.Block.vs_final m c),
      a3.trans (Cert.ProjIdeal.Block.kw_final m c),
      a4.trans (Cert.ProjIdeal.Block.vw_final m c),
      a5.trans (Cert.ProjIdeal.Block.kc_final m c),
      a6.trans (Cert.ProjIdeal.Block.vc_final m c),
      a7.trans (Cert.ProjIdeal.Block.qf_final m c),
      a8.trans (Cert.ProjIdeal.Block.kf_final m c),
      a9.trans (Cert.ProjIdeal.Block.vf_final m c),
      a10.trans (Cert.ProjIdeal.Block.gate_final m c), hk⟩
  · refine (θ_run Cert.ProjRefIdeal.defs _ _).mono (fun r h c => ?_) (Cert.ProjRefIdeal.Value.run (F := Ideal) m' g')
    obtain ⟨h0, h1, h2, h3, h4, h5, h6⟩ := hagree c
    obtain ⟨a0, a1, a2, a3, a4, a5, a6, a7, a8, a9, a10, hk⟩ := h c
    refine ⟨a0.trans ?_, a1.trans ?_, a2.trans ?_, a3.trans ?_, a4.trans ?_, a5.trans ?_, a6.trans ?_, a7.trans ?_, a8.trans ?_, a9.trans ?_, a10.trans ?_, hk⟩
    · refine (Cert.ProjRefIdeal.Read.val_main_v253_eq _).trans ?_
      change Cert.ProjRefIdeal.Read.val_main_v253 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) = _
      rw [h0, h1, h2, h3]
      exact Cert.ProjRefIdeal.Sum.qn_eq _ _ _ _
    · refine (Cert.ProjRefIdeal.Read.val_main_v280_eq _).trans ?_
      change Cert.ProjRefIdeal.Read.val_main_v280 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) = _
      rw [h0, h1, h2, h3]
      exact Cert.ProjRefIdeal.Sum.ks_eq _ _ _ _
    · refine (Cert.ProjRefIdeal.Read.val_main_v281_eq _).trans ?_
      change Cert.ProjRefIdeal.Read.val_main_v281 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) = _
      rw [h0, h1, h2]
      exact Cert.ProjRefIdeal.Sum.vs_eq _ _ _
    · refine (Cert.ProjRefIdeal.Read.val_main_v304_eq _).trans ?_
      change Cert.ProjRefIdeal.Read.val_main_v304 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) = _
      rw [h0, h1, h2, h3]
      exact Cert.ProjRefIdeal.Sum.kw_eq _ _ _ _
    · refine (Cert.ProjRefIdeal.Read.val_main_v305_eq _).trans ?_
      change Cert.ProjRefIdeal.Read.val_main_v305 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) = _
      rw [h0, h1, h2]
      exact Cert.ProjRefIdeal.Sum.vw_eq _ _ _
    · refine (Cert.ProjRefIdeal.Read.val_main_v306_eq _).trans ?_
      change Cert.ProjRefIdeal.Read.val_main_v306 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) = _
      rw [h0, h1, h2]
      exact Cert.ProjRefIdeal.Sum.kc_eq _ _ _
    · refine (Cert.ProjRefIdeal.Read.val_main_v307_eq _).trans ?_
      change Cert.ProjRefIdeal.Read.val_main_v307 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) = _
      rw [h0, h1, h2]
      exact Cert.ProjRefIdeal.Sum.vc_eq _ _ _
    · refine (Cert.ProjRefIdeal.Read.val_main_v332_eq _).trans ?_
      change Cert.ProjRefIdeal.Read.val_main_v332 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4)) (m' ((c.tc : Thread Cert.ProjRefIdeal.nD Cert.ProjRefIdeal.τ).loc Cert.ProjRefIdeal.main_arg5)) = _
      rw [h0, h1, h2, h3, h4, h5]
      exact Cert.ProjRefIdeal.Sum.qf_eq _ _ _ _ _ _
    · refine (Cert.ProjRefIdeal.Read.val_main_v355_eq _).trans ?_
      change Cert.ProjRefIdeal.Read.val_main_v355 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4)) (m' ((c.tc : Thread Cert.ProjRefIdeal.nD Cert.ProjRefIdeal.τ).loc Cert.ProjRefIdeal.main_arg6)) = _
      rw [h0, h1, h2, h3, h4, h6]
      exact Cert.ProjRefIdeal.Sum.kf_eq _ _ _ _ _ _
    · refine (Cert.ProjRefIdeal.Read.val_main_v356_eq _).trans ?_
      change Cert.ProjRefIdeal.Read.val_main_v356 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) = _
      rw [h0, h1, h2]
      exact Cert.ProjRefIdeal.Sum.vf_eq _ _ _
    · refine (Cert.ProjRefIdeal.Read.val_main_v158_eq _).trans ?_
      change Cert.ProjRefIdeal.Read.val_main_v158 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg4)) = _
      rw [h0, h1, h2, h4]
      exact Cert.ProjRefIdeal.Sum.gate_eq _ _ _ _

/-- The projection's reference runs, keeps its arguments and leaves every semaphore at zero. -/
theorem frame_ref_proj (m : (ℓ : Loc Cert.ProjRefIdeal.nD Cert.ProjRefIdeal.τ Cert.ProjRefIdeal.sig) → Buf (Elt Ideal) ℓ) (ρ : Dev Cert.ProjRefIdeal.nD → PrngReg) :
    θ_run (Cert.ProjRefIdeal.defs (F := Ideal)) (onTc (τ := Cert.ProjRefIdeal.τ) (Cert.ProjRefIdeal.main (F := Ideal))) ⟨m, fun _ => 0, ρ⟩ fun r =>
      (∀ c : Dev Cert.ProjRefIdeal.nD,
        r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0 :=
  (θ_run Cert.ProjRefIdeal.defs _ _).mono (fun r h => ⟨fun c => (h c).2.2.2.2.2.2.2.2.2.2.2, Idealize.ShloMosaic.sem_eq_zero_of_no_sems (by decide) r.2⟩)
    (Cert.ProjRefIdeal.Value.run (F := Ideal) m ρ)

/-- The compression and its reference: the same functions of any arguments. -/
theorem compress : Cert.algebraic_CompressIdeal_CompressRefIdeal := by
  intro m g m' g' hpre hagree
  refine ⟨fun c => Cert.CompressIdeal.Block.allKeys m c, fun c => Cert.CompressIdeal.Block.allValues m c, ?_, ?_⟩
  · refine (θ_run Cert.CompressIdeal.defs _ _).mono (fun r h c => ?_) (Cert.CompressIdeal.Value.run_blocks m g)
    obtain ⟨a0, a1, hk⟩ := h c
    exact ⟨a0.trans (Cert.CompressIdeal.Block.keys_final m c), a1.trans (Cert.CompressIdeal.Block.values_final m c), hk⟩
  · refine (θ_run Cert.CompressRefIdeal.defs _ _).mono (fun r h c => ?_) (Cert.CompressRefIdeal.Value.run (F := Ideal) m' g')
    obtain ⟨h0, h1, h2, h3, h4, h5, h6, h7, h8, h9, h10, h11, h12⟩ := hagree c
    obtain ⟨a0, a1, hk⟩ := h c
    refine ⟨a0.trans ?_, a1.trans ?_, hk⟩
    · refine (Cert.CompressRefIdeal.Read.val_main_v90_eq _ _).trans ?_
      change Cert.CompressRefIdeal.Read.val_main_v90 (F := Ideal) (m' ((c.tc : Thread Cert.CompressRefIdeal.nD Cert.CompressRefIdeal.τ).loc Cert.CompressRefIdeal.main_arg0)) (m' ((c.tc : Thread Cert.CompressRefIdeal.nD Cert.CompressRefIdeal.τ).loc Cert.CompressRefIdeal.main_arg2)) (m' ((c.tc : Thread Cert.CompressRefIdeal.nD Cert.CompressRefIdeal.τ).loc Cert.CompressRefIdeal.main_arg4)) (m' ((c.tc : Thread Cert.CompressRefIdeal.nD Cert.CompressRefIdeal.τ).loc Cert.CompressRefIdeal.main_arg5)) (m' ((c.tc : Thread Cert.CompressRefIdeal.nD Cert.CompressRefIdeal.τ).loc Cert.CompressRefIdeal.main_arg6)) (m' ((c.tc : Thread Cert.CompressRefIdeal.nD Cert.CompressRefIdeal.τ).loc Cert.CompressRefIdeal.main_arg7)) (m' ((c.tc : Thread Cert.CompressRefIdeal.nD Cert.CompressRefIdeal.τ).loc Cert.CompressRefIdeal.main_arg12)) = _
      rw [h0, h2, h4, h5, h6, h7, h12]
      exact Cert.CompressRefIdeal.Sum.keys_eq _ _ _ _ _ _ _
    · refine (Cert.CompressRefIdeal.Read.val_main_v131_eq _ _).trans ?_
      change Cert.CompressRefIdeal.Read.val_main_v131 (F := Ideal) (m' ((c.tc : Thread Cert.CompressRefIdeal.nD Cert.CompressRefIdeal.τ).loc Cert.CompressRefIdeal.main_arg1)) (m' ((c.tc : Thread Cert.CompressRefIdeal.nD Cert.CompressRefIdeal.τ).loc Cert.CompressRefIdeal.main_arg3)) (m' ((c.tc : Thread Cert.CompressRefIdeal.nD Cert.CompressRefIdeal.τ).loc Cert.CompressRefIdeal.main_arg8)) (m' ((c.tc : Thread Cert.CompressRefIdeal.nD Cert.CompressRefIdeal.τ).loc Cert.CompressRefIdeal.main_arg9)) (m' ((c.tc : Thread Cert.CompressRefIdeal.nD Cert.CompressRefIdeal.τ).loc Cert.CompressRefIdeal.main_arg10)) (m' ((c.tc : Thread Cert.CompressRefIdeal.nD Cert.CompressRefIdeal.τ).loc Cert.CompressRefIdeal.main_arg11)) = _
      rw [h1, h3, h8, h9, h10, h11]
      exact Cert.CompressRefIdeal.Sum.values_eq _ _ _ _ _ _

/-- The compression's reference runs, keeps its arguments and leaves every semaphore at zero. -/
theorem frame_ref_compress (m : (ℓ : Loc Cert.CompressRefIdeal.nD Cert.CompressRefIdeal.τ Cert.CompressRefIdeal.sig) → Buf (Elt Ideal) ℓ) (ρ : Dev Cert.CompressRefIdeal.nD → PrngReg) :
    θ_run (Cert.CompressRefIdeal.defs (F := Ideal)) (onTc (τ := Cert.CompressRefIdeal.τ) (Cert.CompressRefIdeal.main (F := Ideal))) ⟨m, fun _ => 0, ρ⟩ fun r =>
      (∀ c : Dev Cert.CompressRefIdeal.nD,
        r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6)
          ∧ r.2.mem ((c.tc : Thread Cert.CompressRefIdeal.nD Cert.CompressRefIdeal.τ).loc Cert.CompressRefIdeal.main_arg7) = m ((c.tc : Thread Cert.CompressRefIdeal.nD Cert.CompressRefIdeal.τ).loc Cert.CompressRefIdeal.main_arg7)
          ∧ r.2.mem ((c.tc : Thread Cert.CompressRefIdeal.nD Cert.CompressRefIdeal.τ).loc Cert.CompressRefIdeal.main_arg8) = m ((c.tc : Thread Cert.CompressRefIdeal.nD Cert.CompressRefIdeal.τ).loc Cert.CompressRefIdeal.main_arg8)
          ∧ r.2.mem ((c.tc : Thread Cert.CompressRefIdeal.nD Cert.CompressRefIdeal.τ).loc Cert.CompressRefIdeal.main_arg9) = m ((c.tc : Thread Cert.CompressRefIdeal.nD Cert.CompressRefIdeal.τ).loc Cert.CompressRefIdeal.main_arg9)
          ∧ r.2.mem ((c.tc : Thread Cert.CompressRefIdeal.nD Cert.CompressRefIdeal.τ).loc Cert.CompressRefIdeal.main_arg10) = m ((c.tc : Thread Cert.CompressRefIdeal.nD Cert.CompressRefIdeal.τ).loc Cert.CompressRefIdeal.main_arg10)
          ∧ r.2.mem ((c.tc : Thread Cert.CompressRefIdeal.nD Cert.CompressRefIdeal.τ).loc Cert.CompressRefIdeal.main_arg11) = m ((c.tc : Thread Cert.CompressRefIdeal.nD Cert.CompressRefIdeal.τ).loc Cert.CompressRefIdeal.main_arg11)
          ∧ r.2.mem ((c.tc : Thread Cert.CompressRefIdeal.nD Cert.CompressRefIdeal.τ).loc Cert.CompressRefIdeal.main_arg12) = m ((c.tc : Thread Cert.CompressRefIdeal.nD Cert.CompressRefIdeal.τ).loc Cert.CompressRefIdeal.main_arg12))
      ∧ r.2.sem = fun _ => 0 :=
  (θ_run Cert.CompressRefIdeal.defs _ _).mono (fun r h => ⟨fun c => (h c).2.2, Idealize.ShloMosaic.sem_eq_zero_of_no_sems (by decide) r.2⟩)
    (Cert.CompressRefIdeal.Value.run (F := Ideal) m ρ)

/-- Every claim of the certificate. -/
theorem claim : Cert.Claim := ⟨Cert.Fox.Gen.facts, Cert.FoxIdeal.Gen.facts, Cert.FoxRefIdeal.Gen.facts,
  Cert.Experts.Gen.facts, Cert.ExpertsIdeal.Gen.facts, Cert.ExpertsRefIdeal.Gen.facts,
  Cert.Merge.Gen.facts, Cert.MergeIdeal.Gen.facts, Cert.MergeRefIdeal.Gen.facts,
  Cert.Proj.Gen.facts, Cert.ProjIdeal.Gen.facts, Cert.ProjRefIdeal.Gen.facts,
  Cert.Compress.Gen.facts, Cert.CompressIdeal.Gen.facts, Cert.CompressRefIdeal.Gen.facts,
  Cert.Nsa.Gen.facts, Cert.NsaIdeal.Gen.facts, Cert.Router.Gen.facts, Cert.RouterIdeal.Gen.facts, Cert.FoxPre.facts, Cert.ExpertsPre.facts,
  fun m ρ _ => Cert.Fox.Gen.frame m ρ,
  fun m ρ _ => Cert.FoxIdeal.Gen.frame m ρ,
  fun m ρ _ => Cert.FoxIdeal.Gen.frame m ρ,
  fun m ρ _ => frame_ref m ρ,
  fun m ρ _ => frame_ref m ρ,
  fun m ρ h => Cert.Experts.Gen.frame m ρ (Cert.Experts.Gen.ok_of_named m (Cert.ExpertsPre.named _ _ _ _ _ _ _ _ _ _ (h 0))),
  fun m ρ h => Cert.ExpertsIdeal.Gen.frame m ρ (Cert.ExpertsIdeal.Gen.ok_of_named m (Cert.ExpertsPre.named _ _ _ _ _ _ _ _ _ _ (h 0))),
  fun m ρ _ => frame_ref_experts m ρ,
  fun m ρ _ => frame_ref_experts m ρ,
  fun m ρ _ => Cert.Merge.Gen.frame m ρ,
  fun m ρ _ => Cert.MergeIdeal.Gen.frame m ρ,
  fun m ρ _ => frame_ref_merge m ρ,
  fun m ρ _ => Cert.Proj.Gen.frame m ρ,
  fun m ρ _ => Cert.ProjIdeal.Gen.frame m ρ,
  fun m ρ _ => frame_ref_proj m ρ,
  fun m ρ _ => Cert.Compress.Gen.frame m ρ,
  fun m ρ _ => Cert.CompressIdeal.Gen.frame m ρ,
  fun m ρ _ => frame_ref_compress m ρ,
  fun m ρ _ => Cert.Nsa.Gen.frame m ρ,
  fun m ρ _ => Cert.NsaIdeal.Gen.frame m ρ,
  fun m ρ _ => Cert.Router.Gen.frame m ρ,
  fun m ρ _ => Cert.RouterIdeal.Gen.frame m ρ,
  IdealRules.named_const.statement Cert.FoxIdeal.κ "mask" .f32 0xF149F2CA#32 ⊥ rfl,
  fox,
  trivial,
  experts,
  trivial,
  merge,
  trivial,
  proj,
  trivial,
  compress,
  trivial,
  trivial⟩

end Cert.Proof

end
